-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Conv [hPre_idx_in_range : Cert.Pre_idx_in_range.Facts] (m : (ℓ : Loc Cert.Conv.nD Cert.Conv.τ Cert.Conv.sig) → Buf (Elt Bits) ℓ) : Prop :=
  ∀ c : Dev Cert.Conv.nD,
    (Cert.Pre_idx_in_range.fn (F := Bits) (m ((c.tc : Thread Cert.Conv.nD Cert.Conv.τ).loc Cert.Conv.main_arg0)) (m ((c.tc : Thread Cert.Conv.nD Cert.Conv.τ).loc Cert.Conv.main_arg1)) (m ((c.tc : Thread Cert.Conv.nD Cert.Conv.τ).loc Cert.Conv.main_arg2)) (m ((c.tc : Thread Cert.Conv.nD Cert.Conv.τ).loc Cert.Conv.main_arg3))) = (fun _ => 1#1)

def Pre_ConvIdeal [hPre_idx_in_range : Cert.Pre_idx_in_range.Facts] (m : (ℓ : Loc Cert.ConvIdeal.nD Cert.ConvIdeal.τ Cert.ConvIdeal.sig) → Buf (Elt Ideal) ℓ) : Prop :=
  ∀ c : Dev Cert.ConvIdeal.nD,
    (Cert.Pre_idx_in_range.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3))) = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_idx_in_range [hPre_idx_in_range : Cert.Pre_idx_in_range.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_idx_in_range.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Conv [hConv : Cert.Conv.Facts] [hPre_idx_in_range : Cert.Pre_idx_in_range.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (Cert.Conv.threads (F := Bits)) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] [hPre_idx_in_range : Cert.Pre_idx_in_range.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (Cert.ConvIdeal.threads (F := Ideal)) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_ConvRefIdeal_pre_idx_in_range [hConvRefIdeal : Cert.ConvRefIdeal.Facts] [hPre_idx_in_range : Cert.Pre_idx_in_range.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_idx_in_range m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Conv_ConvIdeal : Prop :=
  True

def algebraic_ConvIdeal_ConvRefIdeal [hConvIdeal : Cert.ConvIdeal.Facts] [hConvRefIdeal : Cert.ConvRefIdeal.Facts] [hPre_idx_in_range : Cert.Pre_idx_in_range.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v6)),
      θ_run (Cert.ConvIdeal.defs (F := Ideal)) (Cert.ConvIdeal.threads (F := Ideal)) ⟨m, fun _ => 0, g⟩ (fun r => ∀ c : Dev Cert.ConvIdeal.nD,
          r.2.mem ((c.tc : Thread Cert.ConvIdeal.nD Cert.ConvIdeal.τ).loc Cert.ConvIdeal.main_v6) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v8) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def Claim : Prop :=
  ∃ (hKernelIdeal : Cert.KernelIdeal.Facts) (hReferenceIdeal : Cert.ReferenceIdeal.Facts) (hConv : Cert.Conv.Facts) (hConvIdeal : Cert.ConvIdeal.Facts) (hConvRefIdeal : Cert.ConvRefIdeal.Facts) (hPre_idx_in_range : Cert.Pre_idx_in_range.Facts),
    quiescent_KernelIdeal (hKernelIdeal := hKernelIdeal)
    ∧ quiescent_ReferenceIdeal (hReferenceIdeal := hReferenceIdeal)
    ∧ quiescent_Conv (hConv := hConv) (hPre_idx_in_range := hPre_idx_in_range)
    ∧ quiescent_ConvIdeal (hConvIdeal := hConvIdeal) (hPre_idx_in_range := hPre_idx_in_range)
    ∧ quiescent_ConvRefIdeal (hConvRefIdeal := hConvRefIdeal)
    ∧ quiescent_ConvRefIdeal_pre_idx_in_range (hConvRefIdeal := hConvRefIdeal) (hPre_idx_in_range := hPre_idx_in_range)
    ∧ algebraic_KernelIdeal_ReferenceIdeal (hKernelIdeal := hKernelIdeal) (hReferenceIdeal := hReferenceIdeal)
    ∧ preserves_Conv_ConvIdeal
    ∧ algebraic_ConvIdeal_ConvRefIdeal (hConvIdeal := hConvIdeal) (hConvRefIdeal := hConvRefIdeal) (hPre_idx_in_range := hPre_idx_in_range)
-- ==== Pre_idx_in_range.lean ====
abbrev S8x8x128 : Shape := ⟨3, ![8, 8, 128]⟩
abbrev S8x128x8192 : Shape := ⟨3, ![8, 128, 8192]⟩
abbrev S256x128 : Shape := ⟨2, ![256, 128]⟩
abbrev S256 : Shape := ⟨1, ![256]⟩
abbrev S_ : Shape := ⟨0, ![]⟩

class Facts : Prop where
  bcast_S_S8x8x128 : S_.BroadcastsInDim S8x8x128 (![] : Fin 0 → Fin S8x8x128.rank)
  reducesTo_S8x8x128_S_d0_1_2 : S8x8x128.ReducesTo [0, 1, 2] S_
  h_S_ : 0 < S_.numel

variable [Facts]

def fn {F : FTy → Type} [FloatOps F] (main_arg0 : IVec S8x8x128 32) (main_arg1 : FVec F S8x128x8192 .f32) (main_arg2 : FVec F S256x128 .f32) (main_arg3 : FVec F S256 .f32) : IVec S_ 1 :=
  let main_c : IVec S_ 32 := constantI S_ 32 0#32
  let main_v0 : IVec S8x8x128 32 := broadcastInDim S8x8x128 ![] bcast_S_S8x8x128 main_c
  let main_v1 : IVec S8x8x128 1 := cmpi .sge main_arg0 main_v0
  let main_c_0 : IVec S_ 32 := constantI S_ 32 65536#32
  let main_v2 : IVec S8x8x128 32 := broadcastInDim S8x8x128 ![] bcast_S_S8x8x128 main_c_0
  let main_v3 : IVec S8x8x128 1 := cmpi .slt main_arg0 main_v2
  let main_v4 : IVec S8x8x128 1 := andi main_v1 main_v3
  let main_c_1 : IVec S_ 1 := constantI S_ 1 1#1
  let main_v5 : IVec S_ 1 := (fun x v => Host.reduce IntOp.andi x v reducesTo_S8x8x128_S_d0_1_2 h_S_) main_v4 main_c_1
  main_v5
-- ==== KernelIdeal.lean ====
abbrev S8x8192x3 : Shape := ⟨3, ![8, 8192, 3]⟩
abbrev S8x128x8192 : Shape := ⟨3, ![8, 128, 8192]⟩
abbrev S256x128 : Shape := ⟨2, ![256, 128]⟩
abbrev S256 : Shape := ⟨1, ![256]⟩
abbrev S8x8192x1 : Shape := ⟨3, ![8, 8192, 1]⟩
abbrev S8x8192 : Shape := ⟨2, ![8, 8192]⟩
abbrev S8x64x128 : Shape := ⟨3, ![8, 64, 128]⟩
abbrev S8x8x128 : Shape := ⟨3, ![8, 8, 128]⟩
abbrev S1x128 : Shape := ⟨2, ![1, 128]⟩
abbrev S128x128 : Shape := ⟨2, ![128, 128]⟩
abbrev S8x1 : Shape := ⟨2, ![8, 1]⟩
abbrev S8x128 : Shape := ⟨2, ![8, 128]⟩
abbrev S1x1 : Shape := ⟨2, ![1, 1]⟩
abbrev S1x1x128 : Shape := ⟨3, ![1, 1, 128]⟩
abbrev S8x1x128 : Shape := ⟨3, ![8, 1, 128]⟩
abbrev S8 : Shape := ⟨1, ![8]⟩
abbrev S8x1024 : Shape := ⟨2, ![8, 1024]⟩
abbrev S8x1024x1 : Shape := ⟨3, ![8, 1024, 1]⟩
abbrev S8x1024x3 : Shape := ⟨3, ![8, 1024, 3]⟩
abbrev S8x8192x128 : Shape := ⟨3, ![8, 8192, 128]⟩
abbrev S65536x128 : Shape := ⟨2, ![65536, 128]⟩
abbrev S64x128 : Shape := ⟨2, ![64, 128]⟩
abbrev S8192x128 : Shape := ⟨2, ![8192, 128]⟩
abbrev S2x128 : Shape := ⟨2, ![2, 128]⟩
abbrev S_ : Shape := ⟨0, ![]⟩
abbrev S128 : Shape := ⟨1, ![128]⟩
abbrev S8x1024x128 : Shape := ⟨3, ![8, 1024, 128]⟩
abbrev S256x1 : Shape := ⟨2, ![256, 1]⟩
abbrev S8x256x1024 : Shape := ⟨3, ![8, 256, 1024]⟩
abbrev S1x1024x128 : Shape := ⟨3, ![1, 1024, 128]⟩
abbrev S1024x128 : Shape := ⟨2, ![1024, 128]⟩
abbrev S256x1024 : Shape := ⟨2, ![256, 1024]⟩
abbrev S1x256x1024 : Shape := ⟨3, ![1, 256, 1024]⟩

abbrev nBuf : Table → Nat
  | .hbm => 31
  | .local .tc .vmem => 12
  | .local .scVector .vmem => 2
  | _ => 0

abbrev bufTy : (tb : Table) → Fin (nBuf tb) → BufTy
  | .hbm, ⟨0, _⟩ => ⟨S8x8192x3, .f32⟩
  | .hbm, ⟨1, _⟩ => ⟨S8x128x8192, .f32⟩
  | .hbm, ⟨2, _⟩ => ⟨S256x128, .f32⟩
  | .hbm, ⟨3, _⟩ => ⟨S256, .f32⟩
  | .hbm, ⟨4, _⟩ => ⟨S8x8192x1, .f32⟩
  | .hbm, ⟨5, _⟩ => ⟨S8x8192, .f32⟩
  | .hbm, ⟨6, _⟩ => ⟨S8x64x128, .f32⟩
  | .hbm, ⟨7, _⟩ => ⟨S8x8192x1, .f32⟩
  | .hbm, ⟨8, _⟩ => ⟨S8x8192, .f32⟩
  | .hbm, ⟨9, _⟩ => ⟨S8x64x128, .f32⟩
  | .hbm, ⟨10, _⟩ => ⟨S8x8192x1, .f32⟩
  | .hbm, ⟨11, _⟩ => ⟨S8x8192, .f32⟩
  | .hbm, ⟨12, _⟩ => ⟨S8x64x128, .f32⟩
  | .hbm, ⟨13, _⟩ => ⟨S8x8x128, .i32⟩
  | .hbm, ⟨14, _⟩ => ⟨S8x8x128, .f32⟩
  | .hbm, ⟨15, _⟩ => ⟨S8x8x128, .f32⟩
  | .hbm, ⟨16, _⟩ => ⟨S8x8x128, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024x1, .f32⟩
  | .hbm, ⟨21, _⟩ => ⟨S8x1024x1, .f32⟩
  | .hbm, ⟨22, _⟩ => ⟨S8x1024x1, .f32⟩
  | .hbm, ⟨23, _⟩ => ⟨S8x1024x3, .f32⟩
  | .hbm, ⟨24, _⟩ => ⟨S8x8192x128, .f32⟩
  | .hbm, ⟨25, _⟩ => ⟨S65536x128, .f32⟩
  | .hbm, ⟨26, _⟩ => ⟨S64x128, .i32⟩
  | .hbm, ⟨27, _⟩ => ⟨S8192x128, .f32⟩
  | .hbm, ⟨28, _⟩ => ⟨S8x1024x128, .f32⟩
  | .hbm, ⟨29, _⟩ => ⟨S256x1, .f32⟩
  | .hbm, ⟨30, _⟩ => ⟨S8x256x1024, .f32⟩
  | .local .tc .vmem, ⟨0, _⟩ => ⟨S8x64x128, .f32⟩
  | .local .tc .vmem, ⟨1, _⟩ => ⟨S8x64x128, .f32⟩
  | .local .tc .vmem, ⟨2, _⟩ => ⟨S8x64x128, .f32⟩
  | .local .tc .vmem, ⟨3, _⟩ => ⟨S8x8x128, .i32⟩
  | .local .tc .vmem, ⟨4, _⟩ => ⟨S8x8x128, .f32⟩
  | .local .tc .vmem, ⟨5, _⟩ => ⟨S8x8x128, .f32⟩
  | .local .tc .vmem, ⟨6, _⟩ => ⟨S8x8x128, .f32⟩
  | .local .tc .vmem, ⟨7, _⟩ => ⟨S8x64x128, .f32⟩
  | .local .tc .vmem, ⟨8, _⟩ => ⟨S8x1024x128, .f32⟩
  | .local .tc .vmem, ⟨9, _⟩ => ⟨S256x128, .f32⟩
  | .local .tc .vmem, ⟨10, _⟩ => ⟨S256x1, .f32⟩
  | .local .tc .vmem, ⟨11, _⟩ => ⟨S8x256x1024, .f32⟩
  | .local .scVector .vmem, ⟨0, _⟩ => ⟨S2x128, .i32⟩
  | .local .scVector .vmem, ⟨1, _⟩ => ⟨S256x128, .f32⟩
  | _, _ => ⟨S8x8192x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v9_2 : Ref sig .tc := ⟨.hbm, 15, rfl⟩
abbrev main_v9_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v18_scv : Ref sig .scVector := ⟨.hbm, 25, rfl⟩
abbrev main_v19_scv : Ref sig .scVector := ⟨.hbm, 26, rfl⟩
abbrev main_v20_scv : Ref sig .scVector := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc2_sem0_0 : DmaSem sig := 10
abbrev cc2_sem1_0 : DmaSem sig := 11
abbrev cc2_sem2_0 : DmaSem sig := 12
abbrev cc2_sem3_0 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

def k0_off1 (v22 : BitVec 32) : Fin 3 → Nat :=
  let c0_15 : Index := 0#32
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c128_i32 : BitVec 32 := 128#32
  let c0_i32_11 : BitVec 32 := 0#32
  let v29 : BitVec 1 := Scalar.cmpi .sgt c128_i32 c0_i32_11
  let v30 : BitVec 32 := Scalar.extui v29
  let c0_i32_12 : BitVec 32 := 0#32
  let v31 : BitVec 1 := Scalar.cmpi .slt c128_i32 c0_i32_12
  let v32 : BitVec 32 := Scalar.extui v31
  let v33 : BitVec 32 := Scalar.subi v30 v32
  let v34 : BitVec 1 := Scalar.cmpi .ne v28 v33
  let v35 : BitVec 32 := Scalar.remsi v22 c128_i32
  let c0_i32_13 : BitVec 32 := 0#32
  let v36 : BitVec 1 := Scalar.cmpi .ne v35 c0_i32_13
  let v37 : BitVec 1 := Scalar.andi v34 v36
  let v23 : BitVec 32 := Scalar.divsi v22 c128_i32
  let c1_i32 : BitVec 32 := 1#32
  let v38 : BitVec 32 := Scalar.subi v23 c1_i32
  let v39 : BitVec 32 := Scalar.select v37 v38 v23
  let v44 : Index := Scalar.indexCast v39
  let c0_16 : Index := 0#32
  ![0, v44.toNat, 0]

def k0_chk1 (v22 : BitVec 32) : Prop :=
  (∀ a, (k0_off1 v22) a + S1x1x128.size a ≤ S8x64x128.size a)
theorem k0_off1_inb : ∀ (v22 : BitVec 32) (k0_hw1 : k0_chk1 v22), ∀ a, (k0_off1 v22) a + S1x1x128.size a ≤ S8x64x128.size a := fun v22 k0_hw1 => k0_hw1

def k0_off2 (v60 : BitVec 32) : Fin 3 → Nat :=
  let c1 : Index := 1#32
  let c0_i32_25 : BitVec 32 := 0#32
  let v62 : BitVec 1 := Scalar.cmpi .sgt v60 c0_i32_25
  let v63 : BitVec 32 := Scalar.extui v62
  let c0_i32_26 : BitVec 32 := 0#32
  let v64 : BitVec 1 := Scalar.cmpi .slt v60 c0_i32_26
  let v65 : BitVec 32 := Scalar.extui v64
  let v66 : BitVec 32 := Scalar.subi v63 v65
  let c128_i32_24 : BitVec 32 := 128#32
  let c0_i32_27 : BitVec 32 := 0#32
  let v67 : BitVec 1 := Scalar.cmpi .sgt c128_i32_24 c0_i32_27
  let v68 : BitVec 32 := Scalar.extui v67
  let c0_i32_28 : BitVec 32 := 0#32
  let v69 : BitVec 1 := Scalar.cmpi .slt c128_i32_24 c0_i32_28
  let v70 : BitVec 32 := Scalar.extui v69
  let v71 : BitVec 32 := Scalar.subi v68 v70
  let v72 : BitVec 1 := Scalar.cmpi .ne v66 v71
  let v73 : BitVec 32 := Scalar.remsi v60 c128_i32_24
  let c0_i32_29 : BitVec 32 := 0#32
  let v74 : BitVec 1 := Scalar.cmpi .ne v73 c0_i32_29
  let v75 : BitVec 1 := Scalar.andi v72 v74
  let v61 : BitVec 32 := Scalar.divsi v60 c128_i32_24
  let c1_i32_30 : BitVec 32 := 1#32
  let v76 : BitVec 32 := Scalar.subi v61 c1_i32_30
  let v77 : BitVec 32 := Scalar.select v75 v76 v61
  let v82 : Index := Scalar.indexCast v77
  let c0_32 : Index := 0#32
  ![1, v82.toNat, 0]

def k0_chk2 (v60 : BitVec 32) : Prop :=
  (∀ a, (k0_off2 v60) a + S1x1x128.size a ≤ S8x64x128.size a)
theorem k0_off2_inb : ∀ (v60 : BitVec 32) (k0_hw2 : k0_chk2 v60), ∀ a, (k0_off2 v60) a + S1x1x128.size a ≤ S8x64x128.size a := fun v60 k0_hw2 => k0_hw2

def k0_off3 (v98 : BitVec 32) : Fin 3 → Nat :=
  let c2 : Index := 2#32
  let c0_i32_41 : BitVec 32 := 0#32
  let v100 : BitVec 1 := Scalar.cmpi .sgt v98 c0_i32_41
  let v101 : BitVec 32 := Scalar.extui v100
  let c0_i32_42 : BitVec 32 := 0#32
  let v102 : BitVec 1 := Scalar.cmpi .slt v98 c0_i32_42
  let v103 : BitVec 32 := Scalar.extui v102
  let v104 : BitVec 32 := Scalar.subi v101 v103
  let c128_i32_40 : BitVec 32 := 128#32
  let c0_i32_43 : BitVec 32 := 0#32
  let v105 : BitVec 1 := Scalar.cmpi .sgt c128_i32_40 c0_i32_43
  let v106 : BitVec 32 := Scalar.extui v105
  let c0_i32_44 : BitVec 32 := 0#32
  let v107 : BitVec 1 := Scalar.cmpi .slt c128_i32_40 c0_i32_44
  let v108 : BitVec 32 := Scalar.extui v107
  let v109 : BitVec 32 := Scalar.subi v106 v108
  let v110 : BitVec 1 := Scalar.cmpi .ne v104 v109
  let v111 : BitVec 32 := Scalar.remsi v98 c128_i32_40
  let c0_i32_45 : BitVec 32 := 0#32
  let v112 : BitVec 1 := Scalar.cmpi .ne v111 c0_i32_45
  let v113 : BitVec 1 := Scalar.andi v110 v112
  let v99 : BitVec 32 := Scalar.divsi v98 c128_i32_40
  let c1_i32_46 : BitVec 32 := 1#32
  let v114 : BitVec 32 := Scalar.subi v99 c1_i32_46
  let v115 : BitVec 32 := Scalar.select v113 v114 v99
  let v120 : Index := Scalar.indexCast v115
  let c0_48 : Index := 0#32
  ![2, v120.toNat, 0]

def k0_chk3 (v98 : BitVec 32) : Prop :=
  (∀ a, (k0_off3 v98) a + S1x1x128.size a ≤ S8x64x128.size a)
theorem k0_off3_inb : ∀ (v98 : BitVec 32) (k0_hw3 : k0_chk3 v98), ∀ a, (k0_off3 v98) a + S1x1x128.size a ≤ S8x64x128.size a := fun v98 k0_hw3 => k0_hw3

def k0_off4 (v136 : BitVec 32) : Fin 3 → Nat :=
  let c3 : Index := 3#32
  let c0_i32_57 : BitVec 32 := 0#32
  let v138 : BitVec 1 := Scalar.cmpi .sgt v136 c0_i32_57
  let v139 : BitVec 32 := Scalar.extui v138
  let c0_i32_58 : BitVec 32 := 0#32
  let v140 : BitVec 1 := Scalar.cmpi .slt v136 c0_i32_58
  let v141 : BitVec 32 := Scalar.extui v140
  let v142 : BitVec 32 := Scalar.subi v139 v141
  let c128_i32_56 : BitVec 32 := 128#32
  let c0_i32_59 : BitVec 32 := 0#32
  let v143 : BitVec 1 := Scalar.cmpi .sgt c128_i32_56 c0_i32_59
  let v144 : BitVec 32 := Scalar.extui v143
  let c0_i32_60 : BitVec 32 := 0#32
  let v145 : BitVec 1 := Scalar.cmpi .slt c128_i32_56 c0_i32_60
  let v146 : BitVec 32 := Scalar.extui v145
  let v147 : BitVec 32 := Scalar.subi v144 v146
  let v148 : BitVec 1 := Scalar.cmpi .ne v142 v147
  let v149 : BitVec 32 := Scalar.remsi v136 c128_i32_56
  let c0_i32_61 : BitVec 32 := 0#32
  let v150 : BitVec 1 := Scalar.cmpi .ne v149 c0_i32_61
  let v151 : BitVec 1 := Scalar.andi v148 v150
  let v137 : BitVec 32 := Scalar.divsi v136 c128_i32_56
  let c1_i32_62 : BitVec 32 := 1#32
  let v152 : BitVec 32 := Scalar.subi v137 c1_i32_62
  let v153 : BitVec 32 := Scalar.select v151 v152 v137
  let v158 : Index := Scalar.indexCast v153
  let c0_64 : Index := 0#32
  ![3, v158.toNat, 0]

def k0_chk4 (v136 : BitVec 32) : Prop :=
  (∀ a, (k0_off4 v136) a + S1x1x128.size a ≤ S8x64x128.size a)
theorem k0_off4_inb : ∀ (v136 : BitVec 32) (k0_hw4 : k0_chk4 v136), ∀ a, (k0_off4 v136) a + S1x1x128.size a ≤ S8x64x128.size a := fun v136 k0_hw4 => k0_hw4

def k0_off5 (v174 : BitVec 32) : Fin 3 → Nat :=
  let c4 : Index := 4#32
  let c0_i32_73 : BitVec 32 := 0#32
  let v176 : BitVec 1 := Scalar.cmpi .sgt v174 c0_i32_73
  let v177 : BitVec 32 := Scalar.extui v176
  let c0_i32_74 : BitVec 32 := 0#32
  let v178 : BitVec 1 := Scalar.cmpi .slt v174 c0_i32_74
  let v179 : BitVec 32 := Scalar.extui v178
  let v180 : BitVec 32 := Scalar.subi v177 v179
  let c128_i32_72 : BitVec 32 := 128#32
  let c0_i32_75 : BitVec 32 := 0#32
  let v181 : BitVec 1 := Scalar.cmpi .sgt c128_i32_72 c0_i32_75
  let v182 : BitVec 32 := Scalar.extui v181
  let c0_i32_76 : BitVec 32 := 0#32
  let v183 : BitVec 1 := Scalar.cmpi .slt c128_i32_72 c0_i32_76
  let v184 : BitVec 32 := Scalar.extui v183
  let v185 : BitVec 32 := Scalar.subi v182 v184
  let v186 : BitVec 1 := Scalar.cmpi .ne v180 v185
  let v187 : BitVec 32 := Scalar.remsi v174 c128_i32_72
  let c0_i32_77 : BitVec 32 := 0#32
  let v188 : BitVec 1 := Scalar.cmpi .ne v187 c0_i32_77
  let v189 : BitVec 1 := Scalar.andi v186 v188
  let v175 : BitVec 32 := Scalar.divsi v174 c128_i32_72
  let c1_i32_78 : BitVec 32 := 1#32
  let v190 : BitVec 32 := Scalar.subi v175 c1_i32_78
  let v191 : BitVec 32 := Scalar.select v189 v190 v175
  let v196 : Index := Scalar.indexCast v191
  let c0_80 : Index := 0#32
  ![4, v196.toNat, 0]

def k0_chk5 (v174 : BitVec 32) : Prop :=
  (∀ a, (k0_off5 v174) a + S1x1x128.size a ≤ S8x64x128.size a)
theorem k0_off5_inb : ∀ (v174 : BitVec 32) (k0_hw5 : k0_chk5 v174), ∀ a, (k0_off5 v174) a + S1x1x128.size a ≤ S8x64x128.size a := fun v174 k0_hw5 => k0_hw5

def k0_off6 (v212 : BitVec 32) : Fin 3 → Nat :=
  let c5 : Index := 5#32
  let c0_i32_89 : BitVec 32 := 0#32
  let v214 : BitVec 1 := Scalar.cmpi .sgt v212 c0_i32_89
  let v215 : BitVec 32 := Scalar.extui v214
  let c0_i32_90 : BitVec 32 := 0#32
  let v216 : BitVec 1 := Scalar.cmpi .slt v212 c0_i32_90
  let v217 : BitVec 32 := Scalar.extui v216
  let v218 : BitVec 32 := Scalar.subi v215 v217
  let c128_i32_88 : BitVec 32 := 128#32
  let c0_i32_91 : BitVec 32 := 0#32
  let v219 : BitVec 1 := Scalar.cmpi .sgt c128_i32_88 c0_i32_91
  let v220 : BitVec 32 := Scalar.extui v219
  let c0_i32_92 : BitVec 32 := 0#32
  let v221 : BitVec 1 := Scalar.cmpi .slt c128_i32_88 c0_i32_92
  let v222 : BitVec 32 := Scalar.extui v221
  let v223 : BitVec 32 := Scalar.subi v220 v222
  let v224 : BitVec 1 := Scalar.cmpi .ne v218 v223
  let v225 : BitVec 32 := Scalar.remsi v212 c128_i32_88
  let c0_i32_93 : BitVec 32 := 0#32
  let v226 : BitVec 1 := Scalar.cmpi .ne v225 c0_i32_93
  let v227 : BitVec 1 := Scalar.andi v224 v226
  let v213 : BitVec 32 := Scalar.divsi v212 c128_i32_88
  let c1_i32_94 : BitVec 32 := 1#32
  let v228 : BitVec 32 := Scalar.subi v213 c1_i32_94
  let v229 : BitVec 32 := Scalar.select v227 v228 v213
  let v234 : Index := Scalar.indexCast v229
  let c0_96 : Index := 0#32
  ![5, v234.toNat, 0]

def k0_chk6 (v212 : BitVec 32) : Prop :=
  (∀ a, (k0_off6 v212) a + S1x1x128.size a ≤ S8x64x128.size a)
theorem k0_off6_inb : ∀ (v212 : BitVec 32) (k0_hw6 : k0_chk6 v212), ∀ a, (k0_off6 v212) a + S1x1x128.size a ≤ S8x64x128.size a := fun v212 k0_hw6 => k0_hw6

def k0_off7 (v250 : BitVec 32) : Fin 3 → Nat :=
  let c6 : Index := 6#32
  let c0_i32_105 : BitVec 32 := 0#32
  let v252 : BitVec 1 := Scalar.cmpi .sgt v250 c0_i32_105
  let v253 : BitVec 32 := Scalar.extui v252
  let c0_i32_106 : BitVec 32 := 0#32
  let v254 : BitVec 1 := Scalar.cmpi .slt v250 c0_i32_106
  let v255 : BitVec 32 := Scalar.extui v254
  let v256 : BitVec 32 := Scalar.subi v253 v255
  let c128_i32_104 : BitVec 32 := 128#32
  let c0_i32_107 : BitVec 32 := 0#32
  let v257 : BitVec 1 := Scalar.cmpi .sgt c128_i32_104 c0_i32_107
  let v258 : BitVec 32 := Scalar.extui v257
  let c0_i32_108 : BitVec 32 := 0#32
  let v259 : BitVec 1 := Scalar.cmpi .slt c128_i32_104 c0_i32_108
  let v260 : BitVec 32 := Scalar.extui v259
  let v261 : BitVec 32 := Scalar.subi v258 v260
  let v262 : BitVec 1 := Scalar.cmpi .ne v256 v261
  let v263 : BitVec 32 := Scalar.remsi v250 c128_i32_104
  let c0_i32_109 : BitVec 32 := 0#32
  let v264 : BitVec 1 := Scalar.cmpi .ne v263 c0_i32_109
  let v265 : BitVec 1 := Scalar.andi v262 v264
  let v251 : BitVec 32 := Scalar.divsi v250 c128_i32_104
  let c1_i32_110 : BitVec 32 := 1#32
  let v266 : BitVec 32 := Scalar.subi v251 c1_i32_110
  let v267 : BitVec 32 := Scalar.select v265 v266 v251
  let v272 : Index := Scalar.indexCast v267
  let c0_112 : Index := 0#32
  ![6, v272.toNat, 0]

def k0_chk7 (v250 : BitVec 32) : Prop :=
  (∀ a, (k0_off7 v250) a + S1x1x128.size a ≤ S8x64x128.size a)
theorem k0_off7_inb : ∀ (v250 : BitVec 32) (k0_hw7 : k0_chk7 v250), ∀ a, (k0_off7 v250) a + S1x1x128.size a ≤ S8x64x128.size a := fun v250 k0_hw7 => k0_hw7

def k0_off8 (v288 : BitVec 32) : Fin 3 → Nat :=
  let c7 : Index := 7#32
  let c0_i32_121 : BitVec 32 := 0#32
  let v290 : BitVec 1 := Scalar.cmpi .sgt v288 c0_i32_121
  let v291 : BitVec 32 := Scalar.extui v290
  let c0_i32_122 : BitVec 32 := 0#32
  let v292 : BitVec 1 := Scalar.cmpi .slt v288 c0_i32_122
  let v293 : BitVec 32 := Scalar.extui v292
  let v294 : BitVec 32 := Scalar.subi v291 v293
  let c128_i32_120 : BitVec 32 := 128#32
  let c0_i32_123 : BitVec 32 := 0#32
  let v295 : BitVec 1 := Scalar.cmpi .sgt c128_i32_120 c0_i32_123
  let v296 : BitVec 32 := Scalar.extui v295
  let c0_i32_124 : BitVec 32 := 0#32
  let v297 : BitVec 1 := Scalar.cmpi .slt c128_i32_120 c0_i32_124
  let v298 : BitVec 32 := Scalar.extui v297
  let v299 : BitVec 32 := Scalar.subi v296 v298
  let v300 : BitVec 1 := Scalar.cmpi .ne v294 v299
  let v301 : BitVec 32 := Scalar.remsi v288 c128_i32_120
  let c0_i32_125 : BitVec 32 := 0#32
  let v302 : BitVec 1 := Scalar.cmpi .ne v301 c0_i32_125
  let v303 : BitVec 1 := Scalar.andi v300 v302
  let v289 : BitVec 32 := Scalar.divsi v288 c128_i32_120
  let c1_i32_126 : BitVec 32 := 1#32
  let v304 : BitVec 32 := Scalar.subi v289 c1_i32_126
  let v305 : BitVec 32 := Scalar.select v303 v304 v289
  let v310 : Index := Scalar.indexCast v305
  let c0_128 : Index := 0#32
  ![7, v310.toNat, 0]

def k0_chk8 (v288 : BitVec 32) : Prop :=
  (∀ a, (k0_off8 v288) a + S1x1x128.size a ≤ S8x64x128.size a)
theorem k0_off8_inb : ∀ (v288 : BitVec 32) (k0_hw8 : k0_chk8 v288), ∀ a, (k0_off8 v288) a + S1x1x128.size a ≤ S8x64x128.size a := fun v288 k0_hw8 => k0_hw8

@[reducible] def k0_t1_loop : Scf.Loop 32 :=
  let c0_i32_256 : BitVec 32 := 0#32
  let c1023_i32 : BitVec 32 := 1023#32
  let v517 : BitVec 32 := Scalar.addi c0_i32_256 c1023_i32
  let c1_i32_257 : BitVec 32 := 1#32
  ⟨c0_i32_256, v517, c1_i32_257⟩
def k0_off9 (v549 : BitVec 32) : Fin 3 → Nat :=
  let c0_278 : Index := 0#32
  let c0_i32_271 : BitVec 32 := 0#32
  let v551 : BitVec 1 := Scalar.cmpi .sgt v549 c0_i32_271
  let v552 : BitVec 32 := Scalar.extui v551
  let c0_i32_272 : BitVec 32 := 0#32
  let v553 : BitVec 1 := Scalar.cmpi .slt v549 c0_i32_272
  let v554 : BitVec 32 := Scalar.extui v553
  let v555 : BitVec 32 := Scalar.subi v552 v554
  let c128_i32_270 : BitVec 32 := 128#32
  let c0_i32_273 : BitVec 32 := 0#32
  let v556 : BitVec 1 := Scalar.cmpi .sgt c128_i32_270 c0_i32_273
  let v557 : BitVec 32 := Scalar.extui v556
  let c0_i32_274 : BitVec 32 := 0#32
  let v558 : BitVec 1 := Scalar.cmpi .slt c128_i32_270 c0_i32_274
  let v559 : BitVec 32 := Scalar.extui v558
  let v560 : BitVec 32 := Scalar.subi v557 v559
  let v561 : BitVec 1 := Scalar.cmpi .ne v555 v560
  let v562 : BitVec 32 := Scalar.remsi v549 c128_i32_270
  let c0_i32_275 : BitVec 32 := 0#32
  let v563 : BitVec 1 := Scalar.cmpi .ne v562 c0_i32_275
  let v564 : BitVec 1 := Scalar.andi v561 v563
  let v550 : BitVec 32 := Scalar.divsi v549 c128_i32_270
  let c1_i32_276 : BitVec 32 := 1#32
  let v565 : BitVec 32 := Scalar.subi v550 c1_i32_276
  let v566 : BitVec 32 := Scalar.select v564 v565 v550
  let v571 : Index := Scalar.indexCast v566
  let c0_279 : Index := 0#32
  ![0, v571.toNat, 0]

def k0_chk9 (v549 : BitVec 32) : Prop :=
  (∀ a, (k0_off9 v549) a + S1x1x128.size a ≤ S8x64x128.size a)
theorem k0_off9_inb : ∀ (v549 : BitVec 32) (k0_hw9 : k0_chk9 v549), ∀ a, (k0_off9 v549) a + S1x1x128.size a ≤ S8x64x128.size a := fun v549 k0_hw9 => k0_hw9

def k0_off10 (v587 : BitVec 32) : Fin 3 → Nat :=
  let c1_295 : Index := 1#32
  let c0_i32_288 : BitVec 32 := 0#32
  let v589 : BitVec 1 := Scalar.cmpi .sgt v587 c0_i32_288
  let v590 : BitVec 32 := Scalar.extui v589
  let c0_i32_289 : BitVec 32 := 0#32
  let v591 : BitVec 1 := Scalar.cmpi .slt v587 c0_i32_289
  let v592 : BitVec 32 := Scalar.extui v591
  let v593 : BitVec 32 := Scalar.subi v590 v592
  let c128_i32_287 : BitVec 32 := 128#32
  let c0_i32_290 : BitVec 32 := 0#32
  let v594 : BitVec 1 := Scalar.cmpi .sgt c128_i32_287 c0_i32_290
  let v595 : BitVec 32 := Scalar.extui v594
  let c0_i32_291 : BitVec 32 := 0#32
  let v596 : BitVec 1 := Scalar.cmpi .slt c128_i32_287 c0_i32_291
  let v597 : BitVec 32 := Scalar.extui v596
  let v598 : BitVec 32 := Scalar.subi v595 v597
  let v599 : BitVec 1 := Scalar.cmpi .ne v593 v598
  let v600 : BitVec 32 := Scalar.remsi v587 c128_i32_287
  let c0_i32_292 : BitVec 32 := 0#32
  let v601 : BitVec 1 := Scalar.cmpi .ne v600 c0_i32_292
  let v602 : BitVec 1 := Scalar.andi v599 v601
  let v588 : BitVec 32 := Scalar.divsi v587 c128_i32_287
  let c1_i32_293 : BitVec 32 := 1#32
  let v603 : BitVec 32 := Scalar.subi v588 c1_i32_293
  let v604 : BitVec 32 := Scalar.select v602 v603 v588
  let v609 : Index := Scalar.indexCast v604
  let c0_296 : Index := 0#32
  ![1, v609.toNat, 0]

def k0_chk10 (v587 : BitVec 32) : Prop :=
  (∀ a, (k0_off10 v587) a + S1x1x128.size a ≤ S8x64x128.size a)
theorem k0_off10_inb : ∀ (v587 : BitVec 32) (k0_hw10 : k0_chk10 v587), ∀ a, (k0_off10 v587) a + S1x1x128.size a ≤ S8x64x128.size a := fun v587 k0_hw10 => k0_hw10

def k0_off11 (v625 : BitVec 32) : Fin 3 → Nat :=
  let c2_312 : Index := 2#32
  let c0_i32_305 : BitVec 32 := 0#32
  let v627 : BitVec 1 := Scalar.cmpi .sgt v625 c0_i32_305
  let v628 : BitVec 32 := Scalar.extui v627
  let c0_i32_306 : BitVec 32 := 0#32
  let v629 : BitVec 1 := Scalar.cmpi .slt v625 c0_i32_306
  let v630 : BitVec 32 := Scalar.extui v629
  let v631 : BitVec 32 := Scalar.subi v628 v630
  let c128_i32_304 : BitVec 32 := 128#32
  let c0_i32_307 : BitVec 32 := 0#32
  let v632 : BitVec 1 := Scalar.cmpi .sgt c128_i32_304 c0_i32_307
  let v633 : BitVec 32 := Scalar.extui v632
  let c0_i32_308 : BitVec 32 := 0#32
  let v634 : BitVec 1 := Scalar.cmpi .slt c128_i32_304 c0_i32_308
  let v635 : BitVec 32 := Scalar.extui v634
  let v636 : BitVec 32 := Scalar.subi v633 v635
  let v637 : BitVec 1 := Scalar.cmpi .ne v631 v636
  let v638 : BitVec 32 := Scalar.remsi v625 c128_i32_304
  let c0_i32_309 : BitVec 32 := 0#32
  let v639 : BitVec 1 := Scalar.cmpi .ne v638 c0_i32_309
  let v640 : BitVec 1 := Scalar.andi v637 v639
  let v626 : BitVec 32 := Scalar.divsi v625 c128_i32_304
  let c1_i32_310 : BitVec 32 := 1#32
  let v641 : BitVec 32 := Scalar.subi v626 c1_i32_310
  let v642 : BitVec 32 := Scalar.select v640 v641 v626
  let v647 : Index := Scalar.indexCast v642
  let c0_313 : Index := 0#32
  ![2, v647.toNat, 0]

def k0_chk11 (v625 : BitVec 32) : Prop :=
  (∀ a, (k0_off11 v625) a + S1x1x128.size a ≤ S8x64x128.size a)
theorem k0_off11_inb : ∀ (v625 : BitVec 32) (k0_hw11 : k0_chk11 v625), ∀ a, (k0_off11 v625) a + S1x1x128.size a ≤ S8x64x128.size a := fun v625 k0_hw11 => k0_hw11

def k0_off12 (v663 : BitVec 32) : Fin 3 → Nat :=
  let c3_329 : Index := 3#32
  let c0_i32_322 : BitVec 32 := 0#32
  let v665 : BitVec 1 := Scalar.cmpi .sgt v663 c0_i32_322
  let v666 : BitVec 32 := Scalar.extui v665
  let c0_i32_323 : BitVec 32 := 0#32
  let v667 : BitVec 1 := Scalar.cmpi .slt v663 c0_i32_323
  let v668 : BitVec 32 := Scalar.extui v667
  let v669 : BitVec 32 := Scalar.subi v666 v668
  let c128_i32_321 : BitVec 32 := 128#32
  let c0_i32_324 : BitVec 32 := 0#32
  let v670 : BitVec 1 := Scalar.cmpi .sgt c128_i32_321 c0_i32_324
  let v671 : BitVec 32 := Scalar.extui v670
  let c0_i32_325 : BitVec 32 := 0#32
  let v672 : BitVec 1 := Scalar.cmpi .slt c128_i32_321 c0_i32_325
  let v673 : BitVec 32 := Scalar.extui v672
  let v674 : BitVec 32 := Scalar.subi v671 v673
  let v675 : BitVec 1 := Scalar.cmpi .ne v669 v674
  let v676 : BitVec 32 := Scalar.remsi v663 c128_i32_321
  let c0_i32_326 : BitVec 32 := 0#32
  let v677 : BitVec 1 := Scalar.cmpi .ne v676 c0_i32_326
  let v678 : BitVec 1 := Scalar.andi v675 v677
  let v664 : BitVec 32 := Scalar.divsi v663 c128_i32_321
  let c1_i32_327 : BitVec 32 := 1#32
  let v679 : BitVec 32 := Scalar.subi v664 c1_i32_327
  let v680 : BitVec 32 := Scalar.select v678 v679 v664
  let v685 : Index := Scalar.indexCast v680
  let c0_330 : Index := 0#32
  ![3, v685.toNat, 0]

def k0_chk12 (v663 : BitVec 32) : Prop :=
  (∀ a, (k0_off12 v663) a + S1x1x128.size a ≤ S8x64x128.size a)
theorem k0_off12_inb : ∀ (v663 : BitVec 32) (k0_hw12 : k0_chk12 v663), ∀ a, (k0_off12 v663) a + S1x1x128.size a ≤ S8x64x128.size a := fun v663 k0_hw12 => k0_hw12

def k0_off13 (v701 : BitVec 32) : Fin 3 → Nat :=
  let c4_346 : Index := 4#32
  let c0_i32_339 : BitVec 32 := 0#32
  let v703 : BitVec 1 := Scalar.cmpi .sgt v701 c0_i32_339
  let v704 : BitVec 32 := Scalar.extui v703
  let c0_i32_340 : BitVec 32 := 0#32
  let v705 : BitVec 1 := Scalar.cmpi .slt v701 c0_i32_340
  let v706 : BitVec 32 := Scalar.extui v705
  let v707 : BitVec 32 := Scalar.subi v704 v706
  let c128_i32_338 : BitVec 32 := 128#32
  let c0_i32_341 : BitVec 32 := 0#32
  let v708 : BitVec 1 := Scalar.cmpi .sgt c128_i32_338 c0_i32_341
  let v709 : BitVec 32 := Scalar.extui v708
  let c0_i32_342 : BitVec 32 := 0#32
  let v710 : BitVec 1 := Scalar.cmpi .slt c128_i32_338 c0_i32_342
  let v711 : BitVec 32 := Scalar.extui v710
  let v712 : BitVec 32 := Scalar.subi v709 v711
  let v713 : BitVec 1 := Scalar.cmpi .ne v707 v712
  let v714 : BitVec 32 := Scalar.remsi v701 c128_i32_338
  let c0_i32_343 : BitVec 32 := 0#32
  let v715 : BitVec 1 := Scalar.cmpi .ne v714 c0_i32_343
  let v716 : BitVec 1 := Scalar.andi v713 v715
  let v702 : BitVec 32 := Scalar.divsi v701 c128_i32_338
  let c1_i32_344 : BitVec 32 := 1#32
  let v717 : BitVec 32 := Scalar.subi v702 c1_i32_344
  let v718 : BitVec 32 := Scalar.select v716 v717 v702
  let v723 : Index := Scalar.indexCast v718
  let c0_347 : Index := 0#32
  ![4, v723.toNat, 0]

def k0_chk13 (v701 : BitVec 32) : Prop :=
  (∀ a, (k0_off13 v701) a + S1x1x128.size a ≤ S8x64x128.size a)
theorem k0_off13_inb : ∀ (v701 : BitVec 32) (k0_hw13 : k0_chk13 v701), ∀ a, (k0_off13 v701) a + S1x1x128.size a ≤ S8x64x128.size a := fun v701 k0_hw13 => k0_hw13

def k0_off14 (v739 : BitVec 32) : Fin 3 → Nat :=
  let c5_363 : Index := 5#32
  let c0_i32_356 : BitVec 32 := 0#32
  let v741 : BitVec 1 := Scalar.cmpi .sgt v739 c0_i32_356
  let v742 : BitVec 32 := Scalar.extui v741
  let c0_i32_357 : BitVec 32 := 0#32
  let v743 : BitVec 1 := Scalar.cmpi .slt v739 c0_i32_357
  let v744 : BitVec 32 := Scalar.extui v743
  let v745 : BitVec 32 := Scalar.subi v742 v744
  let c128_i32_355 : BitVec 32 := 128#32
  let c0_i32_358 : BitVec 32 := 0#32
  let v746 : BitVec 1 := Scalar.cmpi .sgt c128_i32_355 c0_i32_358
  let v747 : BitVec 32 := Scalar.extui v746
  let c0_i32_359 : BitVec 32 := 0#32
  let v748 : BitVec 1 := Scalar.cmpi .slt c128_i32_355 c0_i32_359
  let v749 : BitVec 32 := Scalar.extui v748
  let v750 : BitVec 32 := Scalar.subi v747 v749
  let v751 : BitVec 1 := Scalar.cmpi .ne v745 v750
  let v752 : BitVec 32 := Scalar.remsi v739 c128_i32_355
  let c0_i32_360 : BitVec 32 := 0#32
  let v753 : BitVec 1 := Scalar.cmpi .ne v752 c0_i32_360
  let v754 : BitVec 1 := Scalar.andi v751 v753
  let v740 : BitVec 32 := Scalar.divsi v739 c128_i32_355
  let c1_i32_361 : BitVec 32 := 1#32
  let v755 : BitVec 32 := Scalar.subi v740 c1_i32_361
  let v756 : BitVec 32 := Scalar.select v754 v755 v740
  let v761 : Index := Scalar.indexCast v756
  let c0_364 : Index := 0#32
  ![5, v761.toNat, 0]

def k0_chk14 (v739 : BitVec 32) : Prop :=
  (∀ a, (k0_off14 v739) a + S1x1x128.size a ≤ S8x64x128.size a)
theorem k0_off14_inb : ∀ (v739 : BitVec 32) (k0_hw14 : k0_chk14 v739), ∀ a, (k0_off14 v739) a + S1x1x128.size a ≤ S8x64x128.size a := fun v739 k0_hw14 => k0_hw14

def k0_off15 (v777 : BitVec 32) : Fin 3 → Nat :=
  let c6_380 : Index := 6#32
  let c0_i32_373 : BitVec 32 := 0#32
  let v779 : BitVec 1 := Scalar.cmpi .sgt v777 c0_i32_373
  let v780 : BitVec 32 := Scalar.extui v779
  let c0_i32_374 : BitVec 32 := 0#32
  let v781 : BitVec 1 := Scalar.cmpi .slt v777 c0_i32_374
  let v782 : BitVec 32 := Scalar.extui v781
  let v783 : BitVec 32 := Scalar.subi v780 v782
  let c128_i32_372 : BitVec 32 := 128#32
  let c0_i32_375 : BitVec 32 := 0#32
  let v784 : BitVec 1 := Scalar.cmpi .sgt c128_i32_372 c0_i32_375
  let v785 : BitVec 32 := Scalar.extui v784
  let c0_i32_376 : BitVec 32 := 0#32
  let v786 : BitVec 1 := Scalar.cmpi .slt c128_i32_372 c0_i32_376
  let v787 : BitVec 32 := Scalar.extui v786
  let v788 : BitVec 32 := Scalar.subi v785 v787
  let v789 : BitVec 1 := Scalar.cmpi .ne v783 v788
  let v790 : BitVec 32 := Scalar.remsi v777 c128_i32_372
  let c0_i32_377 : BitVec 32 := 0#32
  let v791 : BitVec 1 := Scalar.cmpi .ne v790 c0_i32_377
  let v792 : BitVec 1 := Scalar.andi v789 v791
  let v778 : BitVec 32 := Scalar.divsi v777 c128_i32_372
  let c1_i32_378 : BitVec 32 := 1#32
  let v793 : BitVec 32 := Scalar.subi v778 c1_i32_378
  let v794 : BitVec 32 := Scalar.select v792 v793 v778
  let v799 : Index := Scalar.indexCast v794
  let c0_381 : Index := 0#32
  ![6, v799.toNat, 0]

def k0_chk15 (v777 : BitVec 32) : Prop :=
  (∀ a, (k0_off15 v777) a + S1x1x128.size a ≤ S8x64x128.size a)
theorem k0_off15_inb : ∀ (v777 : BitVec 32) (k0_hw15 : k0_chk15 v777), ∀ a, (k0_off15 v777) a + S1x1x128.size a ≤ S8x64x128.size a := fun v777 k0_hw15 => k0_hw15

def k0_off16 (v815 : BitVec 32) : Fin 3 → Nat :=
  let c7_397 : Index := 7#32
  let c0_i32_390 : BitVec 32 := 0#32
  let v817 : BitVec 1 := Scalar.cmpi .sgt v815 c0_i32_390
  let v818 : BitVec 32 := Scalar.extui v817
  let c0_i32_391 : BitVec 32 := 0#32
  let v819 : BitVec 1 := Scalar.cmpi .slt v815 c0_i32_391
  let v820 : BitVec 32 := Scalar.extui v819
  let v821 : BitVec 32 := Scalar.subi v818 v820
  let c128_i32_389 : BitVec 32 := 128#32
  let c0_i32_392 : BitVec 32 := 0#32
  let v822 : BitVec 1 := Scalar.cmpi .sgt c128_i32_389 c0_i32_392
  let v823 : BitVec 32 := Scalar.extui v822
  let c0_i32_393 : BitVec 32 := 0#32
  let v824 : BitVec 1 := Scalar.cmpi .slt c128_i32_389 c0_i32_393
  let v825 : BitVec 32 := Scalar.extui v824
  let v826 : BitVec 32 := Scalar.subi v823 v825
  let v827 : BitVec 1 := Scalar.cmpi .ne v821 v826
  let v828 : BitVec 32 := Scalar.remsi v815 c128_i32_389
  let c0_i32_394 : BitVec 32 := 0#32
  let v829 : BitVec 1 := Scalar.cmpi .ne v828 c0_i32_394
  let v830 : BitVec 1 := Scalar.andi v827 v829
  let v816 : BitVec 32 := Scalar.divsi v815 c128_i32_389
  let c1_i32_395 : BitVec 32 := 1#32
  let v831 : BitVec 32 := Scalar.subi v816 c1_i32_395
  let v832 : BitVec 32 := Scalar.select v830 v831 v816
  let v837 : Index := Scalar.indexCast v832
  let c0_398 : Index := 0#32
  ![7, v837.toNat, 0]

def k0_chk16 (v815 : BitVec 32) : Prop :=
  (∀ a, (k0_off16 v815) a + S1x1x128.size a ≤ S8x64x128.size a)
theorem k0_off16_inb : ∀ (v815 : BitVec 32) (k0_hw16 : k0_chk16 v815), ∀ a, (k0_off16 v815) a + S1x1x128.size a ≤ S8x64x128.size a := fun v815 k0_hw16 => k0_hw16

def k0_off17 (k0_t1 : Fin k0_t1_loop.trips) : Fin 3 → Nat :=
  let c0_427 : Index := 0#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v902 : Index := Scalar.indexCast v536
  let c0_428 : Index := 0#32
  ![0, v902.toNat, 0]
def k0_off18 (k0_t1 : Fin k0_t1_loop.trips) : Fin 3 → Nat :=
  let c1_435 : Index := 1#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v922 : Index := Scalar.indexCast v536
  let c0_436 : Index := 0#32
  ![1, v922.toNat, 0]
def k0_off19 (k0_t1 : Fin k0_t1_loop.trips) : Fin 3 → Nat :=
  let c2_443 : Index := 2#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v942 : Index := Scalar.indexCast v536
  let c0_444 : Index := 0#32
  ![2, v942.toNat, 0]
def k0_off20 (k0_t1 : Fin k0_t1_loop.trips) : Fin 3 → Nat :=
  let c3_451 : Index := 3#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v962 : Index := Scalar.indexCast v536
  let c0_452 : Index := 0#32
  ![3, v962.toNat, 0]
def k0_off21 (k0_t1 : Fin k0_t1_loop.trips) : Fin 3 → Nat :=
  let c4_459 : Index := 4#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v982 : Index := Scalar.indexCast v536
  let c0_460 : Index := 0#32
  ![4, v982.toNat, 0]
def k0_off22 (k0_t1 : Fin k0_t1_loop.trips) : Fin 3 → Nat :=
  let c5_467 : Index := 5#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v1002 : Index := Scalar.indexCast v536
  let c0_468 : Index := 0#32
  ![5, v1002.toNat, 0]
def k0_off23 (k0_t1 : Fin k0_t1_loop.trips) : Fin 3 → Nat :=
  let c6_475 : Index := 6#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v1022 : Index := Scalar.indexCast v536
  let c0_476 : Index := 0#32
  ![6, v1022.toNat, 0]
def k0_off24 (k0_t1 : Fin k0_t1_loop.trips) : Fin 3 → Nat :=
  let c7_483 : Index := 7#32
  let c0_i32_256 : BitVec 32 := 0#32
  let c1_i32_257 : BitVec 32 := 1#32
  let arg8 : BitVec 32 := Scf.iv c0_i32_256 c1_i32_257 k0_t1
  let c1_i32_259 : BitVec 32 := 1#32
  let v519 : BitVec 32 := Scalar.addi arg8 c1_i32_259
  let c0_i32_261 : BitVec 32 := 0#32
  let v521 : BitVec 1 := Scalar.cmpi .sgt v519 c0_i32_261
  let v522 : BitVec 32 := Scalar.extui v521
  let c0_i32_262 : BitVec 32 := 0#32
  let v523 : BitVec 1 := Scalar.cmpi .slt v519 c0_i32_262
  let v524 : BitVec 32 := Scalar.extui v523
  let v525 : BitVec 32 := Scalar.subi v522 v524
  let c128_i32_260 : BitVec 32 := 128#32
  let c0_i32_263 : BitVec 32 := 0#32
  let v526 : BitVec 1 := Scalar.cmpi .sgt c128_i32_260 c0_i32_263
  let v527 : BitVec 32 := Scalar.extui v526
  let c0_i32_264 : BitVec 32 := 0#32
  let v528 : BitVec 1 := Scalar.cmpi .slt c128_i32_260 c0_i32_264
  let v529 : BitVec 32 := Scalar.extui v528
  let v530 : BitVec 32 := Scalar.subi v527 v529
  let v531 : BitVec 1 := Scalar.cmpi .ne v525 v530
  let v532 : BitVec 32 := Scalar.remsi v519 c128_i32_260
  let c0_i32_265 : BitVec 32 := 0#32
  let v533 : BitVec 1 := Scalar.cmpi .ne v532 c0_i32_265
  let v534 : BitVec 1 := Scalar.andi v531 v533
  let v520 : BitVec 32 := Scalar.divsi v519 c128_i32_260
  let c1_i32_266 : BitVec 32 := 1#32
  let v535 : BitVec 32 := Scalar.subi v520 c1_i32_266
  let v536 : BitVec 32 := Scalar.select v534 v535 v520
  let v1042 : Index := Scalar.indexCast v536
  let c0_484 : Index := 0#32
  ![7, v1042.toNat, 0]
abbrev stage0_0 : Fin 1 → Memref sig .tc .vmem S8x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨2, ![2, 16], ![false, false]⟩

def k1_off1 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_22_r0 : BitVec 32 := 0#32
  ![v2.toNat, 0]
def k1_off2 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v19 : BitVec 32 := Scalar.muli v1 c256_i32
  let c0_i32_22_r1 : BitVec 32 := 0#32
  ![v19.toNat, 0]
abbrev grid2 : Pipeline.Grid := .none

abbrev stage2_0 : Fin 1 → Memref sig .tc .vmem S8x1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S256x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S8x256x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x8192x3 : Shape := ⟨3, ![8, 8192, 3]⟩
abbrev S8x128x8192 : Shape := ⟨3, ![8, 128, 8192]⟩
abbrev S256x128 : Shape := ⟨2, ![256, 128]⟩
abbrev S256 : Shape := ⟨1, ![256]⟩
abbrev S_ : Shape := ⟨0, ![]⟩
abbrev S8x8192 : Shape := ⟨2, ![8, 8192]⟩
abbrev S8 : Shape := ⟨1, ![8]⟩
abbrev S8x1024 : Shape := ⟨2, ![8, 1024]⟩
abbrev S1 : Shape := ⟨1, ![1]⟩
abbrev S8x1x1 : Shape := ⟨3, ![8, 1, 1]⟩
abbrev S1x1x1 : Shape := ⟨3, ![1, 1, 1]⟩
abbrev S8x1 : Shape := ⟨2, ![8, 1]⟩
abbrev S8x1x3 : Shape := ⟨3, ![8, 1, 3]⟩
abbrev S8x1024x1 : Shape := ⟨3, ![8, 1024, 1]⟩
abbrev S8x1024x3 : Shape := ⟨3, ![8, 1024, 3]⟩
abbrev S8x8192x128 : Shape := ⟨3, ![8, 8192, 128]⟩
abbrev S8x1024x128 : Shape := ⟨3, ![8, 1024, 128]⟩
abbrev S8x128x1024 : Shape := ⟨3, ![8, 128, 1024]⟩
abbrev S8x1024x256 : Shape := ⟨3, ![8, 1024, 256]⟩
abbrev S8x256x1024 : Shape := ⟨3, ![8, 256, 1024]⟩
abbrev S1x256x1 : Shape := ⟨3, ![1, 256, 1]⟩

abbrev nBuf : Space → Nat
  | .hbm => 119
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x128x8192, .f32⟩
  | .hbm, ⟨2, _⟩ => ⟨S256x128, .f32⟩
  | .hbm, ⟨3, _⟩ => ⟨S256, .f32⟩
  | .hbm, ⟨4, _⟩ => ⟨S_, .f32⟩
  | .hbm, ⟨5, _⟩ => ⟨S8x8192, .f32⟩
  | .hbm, ⟨6, _⟩ => ⟨S_, .i32⟩
  | .hbm, ⟨7, _⟩ => ⟨S8, .i32⟩
  | .hbm, ⟨8, _⟩ => ⟨S_, .i32⟩
  | .hbm, ⟨9, _⟩ => ⟨S8x1024, .i32⟩
  | .hbm, ⟨10, _⟩ => ⟨S_, .i32⟩
  | .hbm, ⟨11, _⟩ => ⟨S_, .i32⟩
  | .hbm, ⟨12, _⟩ => ⟨S8x8192x3, .f32⟩
  | .hbm, ⟨13, _⟩ => ⟨S_, .i32⟩
  | .hbm, ⟨14, _⟩ => ⟨S_, .i32⟩
  | .hbm, ⟨15, _⟩ => ⟨S8x8192, .f32⟩
  | .hbm, ⟨16, _⟩ => ⟨S8, .i32⟩
  | .hbm, ⟨17, _⟩ => ⟨S8x1024, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1, .i32⟩
  | .hbm, ⟨29, _⟩ => ⟨S8x1024, .i32⟩
  | .hbm, ⟨30, _⟩ => ⟨S8x1x1, .i32⟩
  | .hbm, ⟨31, _⟩ => ⟨S_, .i32⟩
  | .hbm, ⟨32, _⟩ => ⟨S8x1x1, .i32⟩
  | .hbm, ⟨33, _⟩ => ⟨S8x1x1, .i1⟩
  | .hbm, ⟨34, _⟩ => ⟨S_, .i32⟩
  | .hbm, ⟨35, _⟩ => ⟨S8x1x1, .i32⟩
  | .hbm, ⟨36, _⟩ => ⟨S8x1x1, .i32⟩
  | .hbm, ⟨37, _⟩ => ⟨S8x1x1, .i32⟩
  | .hbm, ⟨38, _⟩ => ⟨S1, .i32⟩
  | .hbm, ⟨39, _⟩ => ⟨S_, .i32⟩
  | .hbm, ⟨40, _⟩ => ⟨S8x1x1, .i32⟩
  | .hbm, ⟨41, _⟩ => ⟨S8x1x1, .i1⟩
  | .hbm, ⟨42, _⟩ => ⟨S1x1x1, .i32⟩
  | .hbm, ⟨43, _⟩ => ⟨S8x1x1, .i32⟩
  | .hbm, ⟨44, _⟩ => ⟨S8x1x1, .i1⟩
  | .hbm, ⟨45, _⟩ => ⟨S8x1x1, .i1⟩
  | .hbm, ⟨46, _⟩ => ⟨S_, .i1⟩
  | .hbm, ⟨47, _⟩ => ⟨S8x1, .i1⟩
  | .hbm, ⟨48, _⟩ => ⟨S8x1x3, .f32⟩
  | .hbm, ⟨49, _⟩ => ⟨S8x1x3, .i1⟩
  | .hbm, ⟨50, _⟩ => ⟨S_, .f32⟩
  | .hbm, ⟨51, _⟩ => ⟨S8x1x3, .f32⟩
  | .hbm, ⟨52, _⟩ => ⟨S8x1x3, .f32⟩
  | .hbm, ⟨53, _⟩ => ⟨S8x8192x3, .f32⟩
  | .hbm, ⟨54, _⟩ => ⟨S8x8192x3, .f32⟩
  | .hbm, ⟨55, _⟩ => ⟨S8x8192x3, .f32⟩
  | .hbm, ⟨56, _⟩ => ⟨S_, .f32⟩
  | .hbm, ⟨57, _⟩ => ⟨S8x8192, .f32⟩
  | .hbm, ⟨58, _⟩ => ⟨S8x8192, .f32⟩
  | .hbm, ⟨59, _⟩ => ⟨S8x8192, .i32⟩
  | .hbm, ⟨60, _⟩ => ⟨S_, .f32⟩
  | .hbm, ⟨61, _⟩ => ⟨S_, .i32⟩
  | .hbm, ⟨62, _⟩ => ⟨S8, .f32⟩
  | .hbm, ⟨63, _⟩ => ⟨S8, .i32⟩
  | .hbm, ⟨64, _⟩ => ⟨S_, .i32⟩
  | .hbm, ⟨65, _⟩ => ⟨S_, .i32⟩
  | .hbm, ⟨66, _⟩ => ⟨S8x1024x1, .i32⟩
  | .hbm, ⟨67, _⟩ => ⟨S_, .i32⟩
  | .hbm, ⟨68, _⟩ => ⟨S8x1024x1, .i32⟩
  | .hbm, ⟨69, _⟩ => ⟨S8x1024x1, .i1⟩
  | .hbm, ⟨70, _⟩ => ⟨S_, .i32⟩
  | .hbm, ⟨71, _⟩ => ⟨S8x1024x1, .i32⟩
  | .hbm, ⟨72, _⟩ => ⟨S8x1024x1, .i32⟩
  | .hbm, ⟨73, _⟩ => ⟨S8x1024x1, .i32⟩
  | .hbm, ⟨74, _⟩ => ⟨S1, .i32⟩
  | .hbm, ⟨75, _⟩ => ⟨S_, .i32⟩
  | .hbm, ⟨76, _⟩ => ⟨S8x1024x1, .i32⟩
  | .hbm, ⟨77, _⟩ => ⟨S8x1024x1, .i1⟩
  | .hbm, ⟨78, _⟩ => ⟨S1x1x1, .i32⟩
  | .hbm, ⟨79, _⟩ => ⟨S8x1024x1, .i32⟩
  | .hbm, ⟨80, _⟩ => ⟨S8x1024x1, .i1⟩
  | .hbm, ⟨81, _⟩ => ⟨S8x1024x1, .i1⟩
  | .hbm, ⟨82, _⟩ => ⟨S_, .i1⟩
  | .hbm, ⟨83, _⟩ => ⟨S8x1024, .i1⟩
  | .hbm, ⟨84, _⟩ => ⟨S8x1024x3, .f32⟩
  | .hbm, ⟨85, _⟩ => ⟨S8x1024x3, .i1⟩
  | .hbm, ⟨86, _⟩ => ⟨S_, .f32⟩
  | .hbm, ⟨87, _⟩ => ⟨S8x1024x3, .f32⟩
  | .hbm, ⟨88, _⟩ => ⟨S8x1024x3, .f32⟩
  | .hbm, ⟨89, _⟩ => ⟨S8x8192x128, .f32⟩
  | .hbm, ⟨90, _⟩ => ⟨S8x1024x1, .i32⟩
  | .hbm, ⟨91, _⟩ => ⟨S_, .i32⟩
  | .hbm, ⟨92, _⟩ => ⟨S8x1024x1, .i32⟩
  | .hbm, ⟨93, _⟩ => ⟨S8x1024x1, .i1⟩
  | .hbm, ⟨94, _⟩ => ⟨S_, .i32⟩
  | .hbm, ⟨95, _⟩ => ⟨S8x1024x1, .i32⟩
  | .hbm, ⟨96, _⟩ => ⟨S8x1024x1, .i32⟩
  | .hbm, ⟨97, _⟩ => ⟨S8x1024x1, .i32⟩
  | .hbm, ⟨98, _⟩ => ⟨S1, .i32⟩
  | .hbm, ⟨99, _⟩ => ⟨S_, .i32⟩
  | .hbm, ⟨100, _⟩ => ⟨S8x1024x1, .i32⟩
  | .hbm, ⟨101, _⟩ => ⟨S8x1024x1, .i1⟩
  | .hbm, ⟨102, _⟩ => ⟨S1x1x1, .i32⟩
  | .hbm, ⟨103, _⟩ => ⟨S8x1024x1, .i32⟩
  | .hbm, ⟨104, _⟩ => ⟨S8x1024x1, .i1⟩
  | .hbm, ⟨105, _⟩ => ⟨S8x1024x1, .i1⟩
  | .hbm, ⟨106, _⟩ => ⟨S_, .i1⟩
  | .hbm, ⟨107, _⟩ => ⟨S8x1024, .i1⟩
  | .hbm, ⟨108, _⟩ => ⟨S8x1024x128, .f32⟩
  | .hbm, ⟨109, _⟩ => ⟨S8x1024x128, .i1⟩
  | .hbm, ⟨110, _⟩ => ⟨S_, .f32⟩
  | .hbm, ⟨111, _⟩ => ⟨S8x1024x128, .f32⟩
  | .hbm, ⟨112, _⟩ => ⟨S8x1024x128, .f32⟩
  | .hbm, ⟨113, _⟩ => ⟨S8x128x1024, .f32⟩
  | .hbm, ⟨114, _⟩ => ⟨S8x1024x256, .f32⟩
  | .hbm, ⟨115, _⟩ => ⟨S8x256x1024, .f32⟩
  | .hbm, ⟨116, _⟩ => ⟨S1x256x1, .f32⟩
  | .hbm, ⟨117, _⟩ => ⟨S8x256x1024, .f32⟩
  | .hbm, ⟨118, _⟩ => ⟨S8x256x1024, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_c_1 : Ref sig .tc := ⟨.hbm, 10, rfl⟩
abbrev main_c_2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev main_while0c_c_8 : Ref sig .tc := ⟨.hbm, 18, rfl⟩
abbrev main_while0c_v15 : Ref sig .tc := ⟨.hbm, 19, rfl⟩
abbrev main_while0b_c_8 : Ref sig .tc := ⟨.hbm, 20, rfl⟩
abbrev main_while0b_v15 : Ref sig .tc := ⟨.hbm, 21, rfl⟩
abbrev main_while0b_c_9 : Ref sig .tc := ⟨.hbm, 22, rfl⟩
abbrev main_while0b_v16 : Ref sig .tc := ⟨.hbm, 23, rfl⟩
abbrev main_while0b_c_10 : Ref sig .tc := ⟨.hbm, 24, rfl⟩
abbrev main_while0b_v17 : Ref sig .tc := ⟨.hbm, 25, rfl⟩
abbrev main_while0b_v18 : Ref sig .tc := ⟨.hbm, 26, rfl⟩
abbrev main_while0b_v19 : Ref sig .tc := ⟨.hbm, 27, rfl⟩
abbrev main_while0b_v20 : Ref sig .tc := ⟨.hbm, 28, rfl⟩
abbrev main_while0b_v21 : Ref sig .tc := ⟨.hbm, 29, rfl⟩
abbrev main_while0b_v22 : Ref sig .tc := ⟨.hbm, 30, rfl⟩
abbrev main_while0b_call0_c : Ref sig .tc := ⟨.hbm, 31, rfl⟩
abbrev main_while0b_call0_v0 : Ref sig .tc := ⟨.hbm, 32, rfl⟩
abbrev main_while0b_call0_v1 : Ref sig .tc := ⟨.hbm, 33, rfl⟩
abbrev main_while0b_call0_c_0 : Ref sig .tc := ⟨.hbm, 34, rfl⟩
abbrev main_while0b_call0_v2 : Ref sig .tc := ⟨.hbm, 35, rfl⟩
abbrev main_while0b_call0_v3 : Ref sig .tc := ⟨.hbm, 36, rfl⟩
abbrev main_while0b_call0_v4 : Ref sig .tc := ⟨.hbm, 37, rfl⟩
abbrev main_while0b_call0_c_1 : Ref sig .tc := ⟨.hbm, 38, rfl⟩
abbrev main_while0b_call0_c_2 : Ref sig .tc := ⟨.hbm, 39, rfl⟩
abbrev main_while0b_call0_v5 : Ref sig .tc := ⟨.hbm, 40, rfl⟩
abbrev main_while0b_call0_v6 : Ref sig .tc := ⟨.hbm, 41, rfl⟩
abbrev main_while0b_call0_v7 : Ref sig .tc := ⟨.hbm, 42, rfl⟩
abbrev main_while0b_call0_v8 : Ref sig .tc := ⟨.hbm, 43, rfl⟩
abbrev main_while0b_call0_v9 : Ref sig .tc := ⟨.hbm, 44, rfl⟩
abbrev main_while0b_call0_v10 : Ref sig .tc := ⟨.hbm, 45, rfl⟩
abbrev main_while0b_call0_c_3 : Ref sig .tc := ⟨.hbm, 46, rfl⟩
abbrev main_while0b_call0_v11 : Ref sig .tc := ⟨.hbm, 47, rfl⟩
abbrev main_while0b_call0_v12 : Ref sig .tc := ⟨.hbm, 48, rfl⟩
abbrev main_while0b_call0_v13 : Ref sig .tc := ⟨.hbm, 49, rfl⟩
abbrev main_while0b_call0_cst : Ref sig .tc := ⟨.hbm, 50, rfl⟩
abbrev main_while0b_call0_v14 : Ref sig .tc := ⟨.hbm, 51, rfl⟩
abbrev main_while0b_v23 : Ref sig .tc := ⟨.hbm, 52, rfl⟩
abbrev main_while0b_v24 : Ref sig .tc := ⟨.hbm, 53, rfl⟩
abbrev main_while0b_v25 : Ref sig .tc := ⟨.hbm, 54, rfl⟩
abbrev main_while0b_v26 : Ref sig .tc := ⟨.hbm, 55, rfl⟩
abbrev main_while0b_cst_11 : Ref sig .tc := ⟨.hbm, 56, rfl⟩
abbrev main_while0b_v27 : Ref sig .tc := ⟨.hbm, 57, rfl⟩
abbrev main_while0b_v28 : Ref sig .tc := ⟨.hbm, 58, rfl⟩
abbrev main_while0b_call1_v0 : Ref sig .tc := ⟨.hbm, 59, rfl⟩
abbrev main_while0b_call1_cst : Ref sig .tc := ⟨.hbm, 60, rfl⟩
abbrev main_while0b_call1_c : Ref sig .tc := ⟨.hbm, 61, rfl⟩
abbrev main_while0b_call1_v1_0 : Ref sig .tc := ⟨.hbm, 62, rfl⟩
abbrev main_while0b_v29 : Ref sig .tc := ⟨.hbm, 63, rfl⟩
abbrev main_while0b_c_12 : Ref sig .tc := ⟨.hbm, 64, rfl⟩
abbrev main_while0b_v30 : Ref sig .tc := ⟨.hbm, 65, rfl⟩
abbrev main_v4 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_c_1 : Ref sig .tc := ⟨.hbm, 74, rfl⟩
abbrev main_call2_c_2 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_c_3 : Ref sig .tc := ⟨.hbm, 82, rfl⟩
abbrev main_call2_v11 : Ref sig .tc := ⟨.hbm, 83, rfl⟩
abbrev main_call2_v12 : Ref sig .tc := ⟨.hbm, 84, rfl⟩
abbrev main_call2_v13 : Ref sig .tc := ⟨.hbm, 85, rfl⟩
abbrev main_call2_cst : Ref sig .tc := ⟨.hbm, 86, rfl⟩
abbrev main_call2_v14 : Ref sig .tc := ⟨.hbm, 87, rfl⟩
abbrev main_v5 : Ref sig .tc := ⟨.hbm, 88, rfl⟩
abbrev main_v6 : Ref sig .tc := ⟨.hbm, 89, rfl⟩
abbrev main_v7 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_c_1 : Ref sig .tc := ⟨.hbm, 98, rfl⟩
abbrev main_call3_c_2 : Ref sig .tc := ⟨.hbm, 99, rfl⟩
abbrev main_call3_v5 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_c_3 : Ref sig .tc := ⟨.hbm, 106, rfl⟩
abbrev main_call3_v11 : Ref sig .tc := ⟨.hbm, 107, rfl⟩
abbrev main_call3_v12 : Ref sig .tc := ⟨.hbm, 108, rfl⟩
abbrev main_call3_v13 : Ref sig .tc := ⟨.hbm, 109, rfl⟩
abbrev main_call3_cst : Ref sig .tc := ⟨.hbm, 110, rfl⟩
abbrev main_call3_v14 : Ref sig .tc := ⟨.hbm, 111, rfl⟩
abbrev main_v8 : Ref sig .tc := ⟨.hbm, 112, rfl⟩
abbrev main_v9 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩

abbrev nD : Nat := 1
abbrev τ : Topo := Topo.v7x

variable {F : FTy → Type} [FloatOps F]

abbrev main_while0_count : Scf.Loop 32 := ⟨0#32, 1024#32, 1#32⟩
-- ==== Conv.lean ====
abbrev S8x8x128 : Shape := ⟨3, ![8, 8, 128]⟩
abbrev S8x128x8192 : Shape := ⟨3, ![8, 128, 8192]⟩
abbrev S256x128 : Shape := ⟨2, ![256, 128]⟩
abbrev S256 : Shape := ⟨1, ![256]⟩
abbrev S8x8192x128 : Shape := ⟨3, ![8, 8192, 128]⟩
abbrev S65536x128 : Shape := ⟨2, ![65536, 128]⟩
abbrev S64x128 : Shape := ⟨2, ![64, 128]⟩
abbrev S8192x128 : Shape := ⟨2, ![8192, 128]⟩
abbrev S2x128 : Shape := ⟨2, ![2, 128]⟩
abbrev S_ : Shape := ⟨0, ![]⟩
abbrev S128x128 : Shape := ⟨2, ![128, 128]⟩
abbrev S1x128 : Shape := ⟨2, ![1, 128]⟩
abbrev S128 : Shape := ⟨1, ![128]⟩
abbrev S8x1024x128 : Shape := ⟨3, ![8, 1024, 128]⟩
abbrev S256x1 : Shape := ⟨2, ![256, 1]⟩
abbrev S8x256x1024 : Shape := ⟨3, ![8, 256, 1024]⟩
abbrev S1x1024x128 : Shape := ⟨3, ![1, 1024, 128]⟩
abbrev S1024x128 : Shape := ⟨2, ![1024, 128]⟩
abbrev S256x1024 : Shape := ⟨2, ![256, 1024]⟩
abbrev S1x256x1024 : Shape := ⟨3, ![1, 256, 1024]⟩

abbrev nBuf : Table → Nat
  | .hbm => 11
  | .local .tc .vmem => 4
  | .local .scVector .vmem => 2
  | _ => 0

abbrev bufTy : (tb : Table) → Fin (nBuf tb) → BufTy
  | .hbm, ⟨0, _⟩ => ⟨S8x8x128, .i32⟩
  | .hbm, ⟨1, _⟩ => ⟨S8x128x8192, .f32⟩
  | .hbm, ⟨2, _⟩ => ⟨S256x128, .f32⟩
  | .hbm, ⟨3, _⟩ => ⟨S256, .f32⟩
  | .hbm, ⟨4, _⟩ => ⟨S8x8192x128, .f32⟩
  | .hbm, ⟨5, _⟩ => ⟨S65536x128, .f32⟩
  | .hbm, ⟨6, _⟩ => ⟨S64x128, .i32⟩
  | .hbm, ⟨7, _⟩ => ⟨S8192x128, .f32⟩
  | .hbm, ⟨8, _⟩ => ⟨S8x1024x128, .f32⟩
  | .hbm, ⟨9, _⟩ => ⟨S256x1, .f32⟩
  | .hbm, ⟨10, _⟩ => ⟨S8x256x1024, .f32⟩
  | .local .tc .vmem, ⟨0, _⟩ => ⟨S8x1024x128, .f32⟩
  | .local .tc .vmem, ⟨1, _⟩ => ⟨S256x128, .f32⟩
  | .local .tc .vmem, ⟨2, _⟩ => ⟨S256x1, .f32⟩
  | .local .tc .vmem, ⟨3, _⟩ => ⟨S8x256x1024, .f32⟩
  | .local .scVector .vmem, ⟨0, _⟩ => ⟨S2x128, .i32⟩
  | .local .scVector .vmem, ⟨1, _⟩ => ⟨S256x128, .f32⟩
  | _, _ => ⟨S8x8x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => true
  | ⟨4, _⟩ => true
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v1_scv : Ref sig .scVector := ⟨.hbm, 5, rfl⟩
abbrev main_v2_scv : Ref sig .scVector := ⟨.hbm, 6, rfl⟩
abbrev main_v3_scv : Ref sig .scVector := ⟨.hbm, 7, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_0 : BitVec 32 := 2#32
  let v2 : BitVec 32 := Scalar.muli v1 c2_i32_0
  let c0_i32_22_r0 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v19 : BitVec 32 := Scalar.muli v1 c256_i32
  let c0_i32_22_r1 : BitVec 32 := 0#32
  ![v19.toNat, 0]
abbrev grid1 : Pipeline.Grid := .none

abbrev stage1_0 : Fin 1 → Memref sig .tc .vmem S8x1024x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x256x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ConvRefIdeal.lean ====
abbrev S8x8x128 : Shape := ⟨3, ![8, 8, 128]⟩
abbrev S8x128x8192 : Shape := ⟨3, ![8, 128, 8192]⟩
abbrev S256x128 : Shape := ⟨2, ![256, 128]⟩
abbrev S256 : Shape := ⟨1, ![256]⟩
abbrev S8x8192x128 : Shape := ⟨3, ![8, 8192, 128]⟩
abbrev S65536x128 : Shape := ⟨2, ![65536, 128]⟩
abbrev S8x1024 : Shape := ⟨2, ![8, 1024]⟩
abbrev S8x1024x1 : Shape := ⟨3, ![8, 1024, 1]⟩
abbrev S8x1024x128 : Shape := ⟨3, ![8, 1024, 128]⟩
abbrev S8x1024x256 : Shape := ⟨3, ![8, 1024, 256]⟩
abbrev S8x256x1024 : Shape := ⟨3, ![8, 256, 1024]⟩
abbrev S1x256x1 : Shape := ⟨3, ![1, 256, 1]⟩

abbrev nBuf : Space → Nat
  | .hbm => 14
  | .vmem => 0
  | .smem => 0
  | _ => 0

abbrev bufTy : (tb : Table) → Fin (tcTables nBuf tb) → BufTy
  | .hbm, ⟨0, _⟩ => ⟨S8x8x128, .i32⟩
  | .hbm, ⟨1, _⟩ => ⟨S8x128x8192, .f32⟩
  | .hbm, ⟨2, _⟩ => ⟨S256x128, .f32⟩
  | .hbm, ⟨3, _⟩ => ⟨S256, .f32⟩
  | .hbm, ⟨4, _⟩ => ⟨S8x8192x128, .f32⟩
  | .hbm, ⟨5, _⟩ => ⟨S65536x128, .f32⟩
  | .hbm, ⟨6, _⟩ => ⟨S8x1024, .i32⟩
  | .hbm, ⟨7, _⟩ => ⟨S8x1024x1, .i32⟩
  | .hbm, ⟨8, _⟩ => ⟨S8x1024x128, .f32⟩
  | .hbm, ⟨9, _⟩ => ⟨S8x1024x256, .f32⟩
  | .hbm, ⟨10, _⟩ => ⟨S8x256x1024, .f32⟩
  | .hbm, ⟨11, _⟩ => ⟨S1x256x1, .f32⟩
  | .hbm, ⟨12, _⟩ => ⟨S8x256x1024, .f32⟩
  | .hbm, ⟨13, _⟩ => ⟨S8x256x1024, .f32⟩
  | _, _ => ⟨S8x8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Proof.ConvBase.lean ====
/-
  The two-call program (gather on the SparseCore, product on the TensorCore) as the launch theorem sees it: its call
  configuration, the ghost algebra, the buffers the gather touches, and the cut of those buffers over the thirty-two
  tiles. The contents the gather finds — the table and the list of row numbers — are parameters.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left factor of the right half. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The gather's buffers -/

/-- The list of row numbers, the table of rows, and the gathered rows, as the TensorCore names them. -/
abbrev iLoc (d : Dev nD) : Loc nD τ sig := (SparseCore.T d).loc main_v2
abbrev xLoc (d : Dev nD) : Loc nD τ sig := (SparseCore.T d).loc main_v1
abbrev oLoc (d : Dev nD) : Loc nD τ sig := (SparseCore.T d).loc main_v3

/-- The rows of `T` that the words of `I` name, in row-major order of `I`: row `j` of the result is the row of `T`
    numbered by word `j % 128` of row `j / 128` of `I`. -/
def gat {α : Type} (T : S65536x128.Idx → α) (I : S64x128.Idx → BitVec 32) : S8192x128.Idx → α := fun j =>
  T (ix2 ⟨(I (ix2 ⟨(j 0).val / 128, by have := idx2_lt0 j; omega⟩ ⟨(j 0).val % 128, Nat.mod_lt _ (by decide)⟩)).toNat % 65536,
    Nat.mod_lt _ (by decide)⟩ (j 1))

/-- Every word of the list names a row of the table. -/
def ListOK (I : S64x128.Idx → BitVec 32) : Prop := ∀ j, (I j).toNat < 65536

/-! ## The cut over the tiles: tile `i` of SparseCore `c` takes part `2 i + c` of thirty-two -/

theorem idiv : 32 ∣ S64x128.size 0 := ⟨2, rfl⟩
theorem odiv : 32 ∣ S8192x128.size 0 := ⟨256, rfl⟩
abbrev irow (w : Fin 32) : Rect S64x128 := Rect.part (s := S64x128) (a₀ := 0) idiv w
abbrev orow (w : Fin 32) : Rect S8192x128 := Rect.part (s := S8192x128) (a₀ := 0) odiv w
abbrev iRowSet (w : Fin 32) : Finset S64x128.Idx := (irow w).set
abbrev oRowSet (w : Fin 32) : Finset S8192x128.Idx := (orow w).set
/-- Part `w`'s share of the table: one of the full share's thirty-two leaves. -/
abbrev xq (w : Fin 32) : PosShare TreeShare := leaf 5 fullShare w

/-- The part that tile `i` of SparseCore `c` takes. -/
def wid (c : Fin 2) (i : Fin 16) : Fin 32 := ⟨2 * i.val + c.val, by omega⟩

abbrev iRowPts (I : (d : Dev nD) → Buf (Elt F) (iLoc d)) (d : Dev nD) (w : Fin 32) : sProp 𝕄 := iLoc d ↦[iRowSet w]{fullShare} I d
abbrev xShPts (T : (d : Dev nD) → Buf (Elt F) (xLoc d)) (d : Dev nD) (w : Fin 32) : sProp 𝕄 := xLoc d ↦{xq w} T d
abbrev oRowPts (O : (d : Dev nD) → Buf (Elt F) (oLoc d)) (d : Dev nD) (w : Fin 32) : sProp 𝕄 := oLoc d ↦[oRowSet w]{fullShare} O d

/-- What the gather leaves in the result's buffer. -/
abbrev gOut (T : (d : Dev nD) → Buf (Elt F) (xLoc d)) (I : (d : Dev nD) → Buf (Elt F) (iLoc d)) (d : Dev nD) : Buf (Elt F) (oLoc d) :=
  gat (α := Elt F .f32) (T d) (I d)

/-- What part `w`'s tile is handed, and what it brings back: its rows of the list, its share of the table, and its
    block of the result — at what it held, and at the gathered rows. -/
abbrev goPts (T : (d : Dev nD) → Buf (Elt F) (xLoc d)) (I : (d : Dev nD) → Buf (Elt F) (iLoc d)) (O : (d : Dev nD) → Buf (Elt F) (oLoc d))
    (d : Dev nD) (w : Fin 32) : sProp 𝕄 := iprop(iRowPts I d w ∗ xShPts T d w ∗ oRowPts O d w)

end Cert.Proof.Conv

end
-- ==== Proof.ConvTile.lean ====
/-
  One tile's task of the gather: it fetches its two rows of the list, transfers the named rows of the table into its
  row scratch by two indirect gathers of 128 rows, and writes its 256 rows out. The claim carries the value: the tile's
  block of the result ends at the named rows.
-/
module

public import proofs.«01_k».proof.Proof.ConvBase

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.ConvIdeal.main_v1_scv : Memref Cert.ConvIdeal.sig Kind.scVector Space.hbm Cert.ConvIdeal.S65536x128 EltTy.f32)
local notation "iV" => (Memref.whole Cert.ConvIdeal.main_v2_scv : Memref Cert.ConvIdeal.sig Kind.scVector Space.hbm Cert.ConvIdeal.S64x128 EltTy.i32)
local notation "oV" => (Memref.whole Cert.ConvIdeal.main_v3_scv : Memref Cert.ConvIdeal.sig Kind.scVector Space.hbm Cert.ConvIdeal.S8192x128 EltTy.f32)
local notation "sV" => (Memref.whole Cert.ConvIdeal.cc0_scratch0 : Memref Cert.ConvIdeal.sig Kind.scVector Space.vmem Cert.ConvIdeal.S2x128 EltTy.i32)
local notation "rV" => (Memref.whole Cert.ConvIdeal.cc0_scratch1 : Memref Cert.ConvIdeal.sig Kind.scVector Space.vmem Cert.ConvIdeal.S256x128 EltTy.f32)

variable (d : Dev nD) (L : grid0.Coords)

/-! ## The views the task addresses -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The part the task at coordinates `L` takes. -/
def wL (L : grid0.Coords) : Fin 32 := wid (Fin.cast bound_zero (L 0)) (Fin.cast bound_one (L 1))
theorem wL_val : (wL L).val = 2 * (L 1).val + (L 0).val := rfl

abbrev irowK (L : grid0.Coords) : Rect S64x128 := Rect.unit (s := S64x128) (k0_off1 L) S2x128.size (k0_off1_inb L)
abbrev orowK (L : grid0.Coords) : Rect S8192x128 := Rect.unit (s := S8192x128) (k0_off2 L) S256x128.size (k0_off2_inb L)
abbrev iRowK (L : grid0.Coords) : Memref sig .scVector .hbm S2x128 .i32 := (iV).slice (irowK L) (fun _ => rfl)
abbrev oRowK (L : grid0.Coords) : Memref sig .scVector .hbm S256x128 .f32 := (oV).slice (orowK L) (fun _ => rfl)
abbrev xAllK : Memref sig .scVector .hbm S65536x128 .f32 := (xV).slice (Rect.unit (s := S65536x128) ![0, 0] S65536x128.size inb_S65536x128_S65536x128_0_0) (fun _ => rfl)
/-- The two halves of the row scratch, and the two rows of the fetched list. -/
abbrev rLo : Memref sig .scVector .vmem S128x128 .f32 := (rV).slice (Rect.unit (s := S256x128) ![0, 0] S128x128.size inb_S256x128_S128x128_0_0) (fun _ => rfl)
abbrev rHi : Memref sig .scVector .vmem S128x128 .f32 := (rV).slice (Rect.unit (s := S256x128) ![128, 0] S128x128.size inb_S256x128_S128x128_128_0) (fun _ => rfl)
abbrev lLo : Memref sig .scVector .vmem S128 .i32 := ((sV).slice (Rect.unit (s := S2x128) ![0, 0] S1x128.size inb_S2x128_S1x128_0_0) (fun _ => rfl)).squeeze S128 squeezes_S1x128_S128
abbrev lHi : Memref sig .scVector .vmem S128 .i32 := ((sV).slice (Rect.unit (s := S2x128) ![1, 0] S1x128.size inb_S2x128_S1x128_1_0) (fun _ => rfl)).squeeze S128 squeezes_S1x128_S128

theorem irowK_eq : irowK L = irow (wL L) := by
  unfold irowK irow Rect.part Rect.block
  congr 1 <;> funext a
  · rw [k0_off1_eq]
    match a with
    | 0 => simp [Shape.partIx, Shape.partSize, wL_val]; omega
    | 1 => simp [Shape.partIx, Shape.partSize]
  · match a with
    | 0 => simp [Shape.partSize]
    | 1 => simp [Shape.partSize]
theorem orowK_eq : orowK L = orow (wL L) := by
  unfold orowK orow Rect.part Rect.block
  congr 1 <;> funext a
  · rw [k0_off2_eq]
    match a with
    | 0 => simp [Shape.partIx, Shape.partSize, wL_val]; omega
    | 1 => simp [Shape.partIx, Shape.partSize]
  · match a with
    | 0 => simp [Shape.partSize]
    | 1 => simp [Shape.partSize]

theorem set_iRowK : (iRowK L).view.set = iRowSet (wL L) := by
  show ((View.whole (main_v2_scv : Ref sig .scVector)).slice (irowK L)).set = _
  rw [View.set_slice, irowK_eq]; exact Finset.map_refl
theorem set_oRowK : (oRowK L).view.set = oRowSet (wL L) := by
  show ((View.whole (main_v3_scv : Ref sig .scVector)).slice (orowK L)).set = _
  rw [View.set_slice, orowK_eq]; exact Finset.map_refl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-! ## The subcore's own buffers and semaphores -/

abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scratch2.sem)
abbrev cCcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What the task's buffers hold -/

/-- The index scratch once the list's two rows have landed in it. -/
abbrev lst (I : Buf (Elt F) (iLoc d)) (fs : Buf (Elt F) ((V d (cV L) (jV L)).loc cc0_scratch0)) : Buf (Elt F) ((V d (cV L) (jV L)).loc cc0_scratch0) :=
  View.write (Elt F) (sV).view fs ((iRowK L).view.read (Elt F) I) Finset.univ

/-- Entry `(r, c)` of the index scratch is the list's entry at the tile's row `r`. -/
theorem lst_apply (I : Buf (Elt F) (iLoc d)) (fs : Buf (Elt F) ((V d (cV L) (jV L)).loc cc0_scratch0)) (j : S2x128.Idx) :
    lst d L I fs j = I ((iRowK L).view.emb j) := by
  unfold lst
  rw [View.write_whole_univ]
  exact (View.read_apply _ _).trans (cast_eq _ _)

theorem inb_lo {I : Buf (Elt F) (iLoc d)} (hI : ListOK I) (fs : Buf (Elt F) ((V d (cV L) (jV L)).loc cc0_scratch0)) :
    ∀ x, ((lLo).view.read (Elt F) (lst d L I fs) x).toNat < S65536x128.size gathers_S65536x128_S128x128.axis := by
  intro x
  rw [show (lLo).view.read (Elt F) (lst d L I fs) x = lst d L I fs ((lLo).view.emb x) from (View.read_apply _ _).trans (cast_eq _ _), lst_apply]
  exact hI _
theorem inb_hi {I : Buf (Elt F) (iLoc d)} (hI : ListOK I) (fs : Buf (Elt F) ((V d (cV L) (jV L)).loc cc0_scratch0)) :
    ∀ x, ((lHi).view.read (Elt F) (lst d L I fs) x).toNat < S65536x128.size gathers_S65536x128_S128x128.axis := by
  intro x
  rw [show (lHi).view.read (Elt F) (lst d L I fs) x = lst d L I fs ((lHi).view.emb x) from (View.read_apply _ _).trans (cast_eq _ _), lst_apply]
  exact hI _

/-- The payloads of the two streams. -/
abbrev payLo (X : Buf (Elt F) (xLoc d)) {I : Buf (Elt F) (iLoc d)} (hI : ListOK I) (fs : Buf (Elt F) ((V d (cV L) (jV L)).loc cc0_scratch0)) : S128x128.Idx → Elt F .f32 :=
  SparseCore.gatherPayload gathers_S65536x128_S128x128 ((xAllK).view.read (Elt F) X)
    (SparseCore.rows ((lLo).view.read (Elt F) (lst d L I fs)) rfl (inb_lo d L hI fs))
abbrev payHi (X : Buf (Elt F) (xLoc d)) {I : Buf (Elt F) (iLoc d)} (hI : ListOK I) (fs : Buf (Elt F) ((V d (cV L) (jV L)).loc cc0_scratch0)) : S128x128.Idx → Elt F .f32 :=
  SparseCore.gatherPayload gathers_S65536x128_S128x128 ((xAllK).view.read (Elt F) X)
    (SparseCore.rows ((lHi).view.read (Elt F) (lst d L I fs)) rfl (inb_hi d L hI fs))

/-- The row scratch after the first stream, and after the second. -/
abbrev scr1 (X : Buf (Elt F) (xLoc d)) {I : Buf (Elt F) (iLoc d)} (hI : ListOK I) (fs : Buf (Elt F) ((V d (cV L) (jV L)).loc cc0_scratch0))
    (fr : Buf (Elt F) ((V d (cV L) (jV L)).loc cc0_scratch1)) : Buf (Elt F) ((V d (cV L) (jV L)).loc cc0_scratch1) :=
  View.write (Elt F) (rLo).view fr (payLo d L X hI fs) Finset.univ
abbrev scr2 (X : Buf (Elt F) (xLoc d)) {I : Buf (Elt F) (iLoc d)} (hI : ListOK I) (fs : Buf (Elt F) ((V d (cV L) (jV L)).loc cc0_scratch0))
    (fr : Buf (Elt F) ((V d (cV L) (jV L)).loc cc0_scratch1)) : Buf (Elt F) ((V d (cV L) (jV L)).loc cc0_scratch1) :=
  View.write (Elt F) (rHi).view (scr1 d L X hI fs fr) (payHi d L X hI fs) Finset.univ

/-! ## The values the streams land -/

/-- The payload of a stream whose list reads row `2 w + h` of the index array is rows `256 w + 128 h …` of the
    gathered array. -/
theorem payload_apply (X : Buf (Elt F) (xLoc d)) {I : Buf (Elt F) (iLoc d)} (hI : ListOK I) (w : Fin 32) (h : Fin 2) (rd : S128.Idx → Elt F .i32)
    (hrd : ∀ k, rd k = I (ix2 ⟨2 * w.val + h.val, by omega⟩ (k 0))) (hin : ∀ k, (rd k).toNat < S65536x128.size gathers_S65536x128_S128x128.axis) (x : S128x128.Idx) :
    SparseCore.gatherPayload gathers_S65536x128_S128x128 ((xAllK).view.read (Elt F) X) (SparseCore.rows rd rfl hin) x
      = gat X I (ix2 ⟨256 * w.val + 128 * h.val + (x 0).val, by have := idx2_lt0 x; omega⟩ (x 1)) := by
  have hx := idx2_lt0 x
  unfold SparseCore.gatherPayload gat
  rw [show ∀ z, (xAllK).view.read (Elt F) X z = X ((xAllK).view.emb z) from fun z => (View.read_apply _ _).trans (cast_eq _ _)]
  obtain ⟨k₀, hk₀⟩ : ∃ k₀ : S128.Idx, (k₀ 0).val = (x 0).val := ⟨(ix1 ⟨(x 0).val, hx⟩ : (⟨1, ![128]⟩ : Shape).Idx), rfl⟩
  have hk : ∀ q : Fin S128.numel, q.val = (x 0).val → S128.rowMajor.symm q = k₀ := fun q hq =>
    (Equiv.symm_apply_eq _).mpr (Fin.ext (hq.trans (hk₀.symm.trans (Shape.rowMajor_val_one (d := ![128]) k₀).symm)))
  refine congrArg X (funext fun a => Fin.ext ?_)
  match a with
  | 0 =>
    show 0 + 1 * (Shape.Gathers.idx gathers_S65536x128_S128x128 (SparseCore.rows rd rfl hin) x gathers_S65536x128_S128x128.axis).val = _
    rw [Shape.Gathers.idx_axis, Nat.zero_add, Nat.one_mul]
    show (rd (S128.rowMajor.symm ((x 0).cast rfl))).toNat = (I _).toNat % 65536
    refine (congrArg (fun k => (rd k).toNat) (hk _ rfl)).trans ?_
    rw [hrd, Nat.mod_eq_of_lt (hI _)]
    refine congrArg (fun j => (I j).toNat) (funext fun b => Fin.ext ?_)
    match b with
    | 0 => show 2 * w.val + h.val = (256 * w.val + 128 * h.val + (x 0).val) / 128; omega
    | 1 => show (k₀ 0).val = (256 * w.val + 128 * h.val + (x 0).val) % 128; omega
  | 1 =>
    show 0 + 1 * (Shape.Gathers.idx gathers_S65536x128_S128x128 (SparseCore.rows rd rfl hin) x 1).val = _
    rw [Shape.Gathers.idx_of_ne _ _ _ _ (by decide), Nat.zero_add, Nat.one_mul]; rfl

theorem emb_iRowK (h : Fin 2) (k : Fin 128) : (iRowK L).view.emb (ix2 h k) = ix2 ⟨2 * (wL L).val + h.val, by omega⟩ k := by
  refine funext fun a => Fin.ext ?_
  match a with
  | 0 =>
    show k0_off1 L 0 + 1 * h.val = 2 * (wL L).val + h.val
    rw [k0_off1_eq, wL_val]; simp; omega
  | 1 =>
    show k0_off1 L 1 + 1 * k.val = k.val
    rw [k0_off1_eq]; simp
theorem emb_oRowK (y : S256x128.Idx) : (oRowK L).view.emb y = ix2 ⟨256 * (wL L).val + (y 0).val, by have := idx2_lt0 y; omega⟩ (y 1) := by
  refine funext fun a => Fin.ext ?_
  match a with
  | 0 =>
    show k0_off2 L 0 + 1 * (y 0).val = 256 * (wL L).val + (y 0).val
    rw [k0_off2_eq, wL_val]; simp; omega
  | 1 =>
    show k0_off2 L 1 + 1 * (y 1).val = (y 1).val
    rw [k0_off2_eq]; simp

/-- A row of the index scratch as a list: its entry `k` is entry `k` of the row. -/
theorem squeeze_row (k : S128.Idx) : Shape.reshapeEquiv (s := S1x128) (s' := S128) squeezes_S1x128_S128.numel_eq k = ix2 0 (k 0) := by
  refine Shape.reshapeEquiv_eq_of_rowMajor _ ?_
  refine (Shape.rowMajor_val_two (d := ![1, 128]) (ix2 0 (k 0))).trans (Eq.trans ?_ (Shape.rowMajor_val_one (d := ![128]) k).symm)
  show 0 * 128 + (k 0).val = (k 0).val
  omega
theorem emb_lLo (k : S128.Idx) : (lLo).view.emb k = ix2 0 (k 0) := by
  show (Rect.unit (s := S2x128) ![0, 0] S1x128.size inb_S2x128_S1x128_0_0).emb (Shape.reshapeEquiv _ k) = _
  rw [squeeze_row]
  refine funext fun a => Fin.ext ?_
  match a with
  | 0 => rfl
  | 1 => show 0 + 1 * (k 0).val = (k 0).val; omega
theorem emb_lHi (k : S128.Idx) : (lHi).view.emb k = ix2 1 (k 0) := by
  show (Rect.unit (s := S2x128) ![1, 0] S1x128.size inb_S2x128_S1x128_1_0).emb (Shape.reshapeEquiv _ k) = _
  rw [squeeze_row]
  refine funext fun a => Fin.ext ?_
  match a with
  | 0 => rfl
  | 1 => show 0 + 1 * (k 0).val = (k 0).val; omega

/-- What the row scratch holds in the end is the gathered array's block of the tile. -/
theorem scr2_apply (X : Buf (Elt F) (xLoc d)) {I : Buf (Elt F) (iLoc d)} (hI : ListOK I) (fs : Buf (Elt F) ((V d (cV L) (jV L)).loc cc0_scratch0))
    (fr : Buf (Elt F) ((V d (cV L) (jV L)).loc cc0_scratch1)) (y : S256x128.Idx) :
    scr2 d L X hI fs fr y = gat X I (ix2 ⟨256 * (wL L).val + (y 0).val, by have := idx2_lt0 y; omega⟩ (y 1)) := by
  have hy := idx2_lt0 y
  by_cases h : (y 0).val < 128
  · have e : (rLo).view.emb (ix2 ⟨(y 0).val, h⟩ (y 1)) = y := funext fun a => Fin.ext (by
      match a with
      | 0 => show 0 + 1 * (y 0).val = _; omega
      | 1 => show 0 + 1 * (y 1).val = _; omega)
    have hn : y ∉ (rHi).view.setOn Finset.univ := by
      intro hm
      obtain ⟨x, -, hx⟩ := Finset.mem_map.mp hm
      have h0 : 128 + 1 * (x 0).val = (y 0).val := congrArg (fun z : S256x128.Idx => (z 0).val) hx
      omega
    refine (View.write_of_not_mem (v := (rHi).view) _ _ _ hn).trans ?_
    refine (congrArg (scr1 d L X hI fs fr) e.symm).trans ?_
    refine (View.write_emb_of_mem (v := (rLo).view) _ _ (Finset.mem_univ _)).trans ?_
    refine (cast_eq _ _).trans ((payload_apply d X hI (wL L) 0 _ (fun k => ?_) _ _).trans ?_)
    · exact ((View.read_apply _ _).trans (cast_eq _ _)).trans ((congrArg (lst d L I fs) (emb_lLo k)).trans
        ((lst_apply d L I fs _).trans (congrArg I (emb_iRowK L 0 (k 0)))))
    · rfl
  · have e : (rHi).view.emb (ix2 ⟨(y 0).val - 128, by omega⟩ (y 1)) = y := funext fun a => Fin.ext (by
      match a with
      | 0 => show 128 + 1 * ((y 0).val - 128) = _; omega
      | 1 => show 0 + 1 * (y 1).val = _; omega)
    refine (congrArg (scr2 d L X hI fs fr) e.symm).trans ?_
    refine (View.write_emb_of_mem (v := (rHi).view) _ _ (Finset.mem_univ _)).trans ?_
    refine (cast_eq _ _).trans ((payload_apply d X hI (wL L) 1 _ (fun k => ?_) _ _).trans ?_)
    · exact ((View.read_apply _ _).trans (cast_eq _ _)).trans ((congrArg (lst d L I fs) (emb_lHi k)).trans
        ((lst_apply d L I fs _).trans (congrArg I (emb_iRowK L 1 (k 0)))))
    · refine congrArg (gat X I) (funext fun a => Fin.ext ?_)
      match a with
      | 0 => show 256 * (wL L).val + 128 * 1 + ((y 0).val - 128) = 256 * (wL L).val + (y 0).val; omega
      | 1 => rfl

/-- The tile's block of the result, once the row scratch is copied out to it. -/
theorem out_eq (X : (d : Dev nD) → Buf (Elt F) (xLoc d)) (I : (d : Dev nD) → Buf (Elt F) (iLoc d)) (hI : ListOK (I d))
    (fo : Buf (Elt F) (oLoc d)) (fs : Buf (Elt F) ((V d (cV L) (jV L)).loc cc0_scratch0)) (fr : Buf (Elt F) ((V d (cV L) (jV L)).loc cc0_scratch1)) :
    ∀ i ∈ (oRowK L).view.set, (oRowK L).view.writes (Elt F) fo [⟨Rect.whole S256x128, (rV).view.read (Elt F) (scr2 d L (X d) hI fs fr)⟩] i = gOut X I d i := by
  intro i hi
  obtain ⟨y, -, rfl⟩ := Finset.mem_map.mp hi
  have ey : ((oRowK L).view.slice (Rect.whole S256x128)).emb y = (oRowK L).view.emb y := congrArg (oRowK L).view.emb (Rect.emb_whole_apply S256x128 y)
  rw [View.writes_singleton]
  refine (congrArg (View.write (Elt F) ((oRowK L).view.slice (Rect.whole S256x128)) fo _ Finset.univ) ey.symm).trans ?_
  refine (View.write_emb_of_mem (v := (oRowK L).view.slice (Rect.whole S256x128)) _ _ (Finset.mem_univ _)).trans ((cast_eq _ _).trans ?_)
  refine ((View.read_apply _ _).trans (cast_eq _ _)).trans ((scr2_apply d L (X d) hI fs fr y).trans ?_)
  exact congrArg (gat (X d) (I d)) (emb_oRowK L y).symm

set_option maxHeartbeats 4000000 in
/-- The task at coordinates `L`: both fetches' and both streams' transfers and waits by the executor and the stream's
    rule; the block of the result ends at the rows the two streams landed. -/
theorem tile_run (hF : (K (F := F)).Facts) [FloatOps F] (X : (d : Dev nD) → Buf (Elt F) (xLoc d)) (I : (d : Dev nD) → Buf (Elt F) (iLoc d))
    (O₀ : (d : Dev nD) → Buf (Elt F) (oLoc d)) (hI : ∀ d, ListOK (I d))
    (O : CellTallies nD τ sig (HIx 1)) (W : Waits sig (HIx 1)) (hO : ∀ g, O g none = 0) :
    iprop(levAts (K (F := F)).L (K (F := F)).lev ∗ emp
        ∗ (iRowPts I d (wL L) ∗ xShPts X d (wL L) ∗ oRowPts O₀ d (wL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) iV (Memref.isWhole_whole _) oV (Memref.isWhole_whole _)
            sV (Memref.isWhole_whole _) rV (Memref.isWhole_whole _) cc0_scratch2 cc0_scoped0 cc0_scoped1)
          fun _ => iprop((iRowPts I d (wL L) ∗ xShPts X d (wL L) ∗ oRowPts (gOut X I) d (wL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hs' := (Entails.of_eq (show ((sV).view.loc (V d (cV L) (jV L)) ↦{fullShare} View.write (Elt F) (sV).view fs (tile_run.sl.dma0 d L I) Finset.univ : sProp 𝕄)
      = (sV).view.loc (V d (cV L) (jV L)) ↦{fullShare} lst d L (I d) fs from rfl)) $$ Hs'
  have hN : ∀ h : S65536x128.Gathers 0 S128x128, ∑ j, ((rLo).slice (S128x128.rowRect h.axis' j) (S128x128.stride_rowRect h.axis' j)).view.dmaCredit
      = (rLo).view.dmaCredit := fun h => SparseCore.sum_rowCredit_eq_dmaCredit _ _ fun _ => rfl
  have hN' : ∀ h : S65536x128.Gathers 0 S128x128, ∑ j, ((rHi).slice (S128x128.rowRect h.axis' j) (S128x128.stride_rowRect h.axis' j)).view.dmaCredit
      = (rHi).view.dmaCredit := fun h => SparseCore.sum_rowCredit_eq_dmaCredit _ _ fun _ => rfl
  ihave Hxs := (pointsTo_split_subset (q := xq (wL L)) (f := X d) (S := Finset.univ) (Finset.subset_univ (xAllK).view.set)).1 $$ Hx'
  icases Hxs with ⟨Hxs, Hxr⟩
  ihave Hrs := (pointsTo_split_subset (q := fullShare) (f := fr) (S := Finset.univ) (Finset.subset_univ (rLo).view.set)).1 $$ Hr'
  icases Hrs with ⟨Hrs, Hrr⟩
  ihave Hss := (pointsTo_split_subset (q := fullShare) (f := lst d L (I d) fs) (S := Finset.univ) (Finset.subset_univ (lLo).view.set)).1 $$ Hs'
  icases Hss with ⟨Hss, Hsr⟩
  iapply (SparseCore.wp_indirectGatherLocal countersEmb 𝒱₀ (V d (cV L) (jV L)) none (hg := gathers_S65536x128_S128x128) (default : HIx 1)
      (rLo).view.dmaCredit (hN _) (by decide) (inb_lo d L (hI d) fs)) $$ [Hxs Hrs Hss HsemB]
  · isplitl [Hxs]; · iexact Hxs
    isplitl [Hrs]; · iexact Hrs
    isplitl [Hss]; · iexact Hss
    iexact HsemB
  iintro Hfl
  sl_exec
  iapply (Transfers.wp_waitLocalO countersEmb 𝒱₀ (V d (cV L) (jV L)) none (default : HIx 1) (rfl : (rLo).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hrs, Hxs, Hss⟩, HsemB, HO⟩
  ihave Hrr' := (Entails.of_eq (SparseCore.pointsTo_rest_write (v := (rLo).view) (S := Finset.univ) (V d (cV L) (jV L)) fr (payLo d L (X d) (hI d) fs))) $$ Hrr
  ihave Hr' := (pointsTo_split_subset (q := fullShare) (f := scr1 d L (X d) (hI d) fs fr) (S := Finset.univ) (Finset.subset_univ (rLo).view.set)).2 $$ [Hrs Hrr']
  · isplitl [Hrs] <;> iassumption
  ihave Hs' := (pointsTo_split_subset (q := fullShare) (f := lst d L (I d) fs) (S := Finset.univ) (Finset.subset_univ (lLo).view.set)).2 $$ [Hss Hsr]
  · isplitl [Hss] <;> iassumption
  sl_exec
  ihave Hrs := (pointsTo_split_subset (q := fullShare) (f := scr1 d L (X d) (hI d) fs fr) (S := Finset.univ) (Finset.subset_univ (rHi).view.set)).1 $$ Hr'
  icases Hrs with ⟨Hrs, Hrr⟩
  ihave Hss := (pointsTo_split_subset (q := fullShare) (f := lst d L (I d) fs) (S := Finset.univ) (Finset.subset_univ (lHi).view.set)).1 $$ Hs'
  icases Hss with ⟨Hss, Hsr⟩
  iapply (SparseCore.wp_indirectGatherLocal countersEmb 𝒱₀ (V d (cV L) (jV L)) none (hg := gathers_S65536x128_S128x128) (default : HIx 1)
      (rHi).view.dmaCredit (hN' _) (by decide) (inb_hi d L (hI d) fs)) $$ [Hxs Hrs Hss HsemB]
  · isplitl [Hxs]; · iexact Hxs
    isplitl [Hrs]; · iexact Hrs
    isplitl [Hss]; · iexact Hss
    iexact HsemB
  iintro Hfl
  sl_exec
  iapply (Transfers.wp_waitLocalO countersEmb 𝒱₀ (V d (cV L) (jV L)) none (default : HIx 1) (rfl : (rHi).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hrs, Hxs, Hss⟩, HsemB, HO⟩
  ihave Hrr' := (Entails.of_eq (SparseCore.pointsTo_rest_write (v := (rHi).view) (S := Finset.univ) (V d (cV L) (jV L)) (scr1 d L (X d) (hI d) fs fr) (payHi d L (X d) (hI d) fs))) $$ Hrr
  ihave Hr' := (pointsTo_split_subset (q := fullShare) (f := scr2 d L (X d) (hI d) fs fr) (S := Finset.univ) (Finset.subset_univ (rHi).view.set)).2 $$ [Hrs Hrr']
  · isplitl [Hrs] <;> iassumption
  ihave Hs' := (pointsTo_split_subset (q := fullShare) (f := lst d L (I d) fs) (S := Finset.univ) (Finset.subset_univ (lHi).view.set)).2 $$ [Hss Hsr]
  · isplitl [Hss] <;> iassumption
  ihave Hx' := (pointsTo_split_subset (q := xq (wL L)) (f := X d) (S := Finset.univ) (Finset.subset_univ (xAllK).view.set)).2 $$ [Hxs Hxr]
  · isplitl [Hxs] <;> iassumption
  ihave Hr' := (Entails.of_eq (pts_rV (F := F) d L _).symm) $$ Hr'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (out_eq d L X I (hI d) (O₀ d) fs fr)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

end Cert.Proof.Conv

end
-- ==== Proof.ConvCall.lean ====
/-
  The gather's call as the launch theorem asks for it: what the call takes and brings back, a tile's obligation from its
  task's run, and the whole arrays as the thirty-two tiles' parts.
-/
module

public import proofs.«01_k».proof.Proof.ConvTile

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's obligation -/

/-- The grid point of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 0 ()
      = SparseCore.onTile hcore0 hsub0 (fun c s => cc0__sc_gather_body (coordsV c s)
          (Memref.whole main_v1_scv) (Memref.isWhole_whole _) (Memref.whole main_v2_scv) (Memref.isWhole_whole _) (Memref.whole main_v3_scv) (Memref.isWhole_whole _)
          (Memref.whole cc0_scratch0) (Memref.isWhole_whole _) (Memref.whole cc0_scratch1) (Memref.isWhole_whole _) cc0_scratch2 cc0_scoped0 cc0_scoped1) ⟨⟩ c s := rfl

/-- A task's post gives the obligation's: its waits were at the kernel's own index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (X : (d : Dev nD) → Buf (Elt F) (xLoc d)) (I : (d : Dev nD) → Buf (Elt F) (iLoc d)) (O₀ : (d : Dev nD) → Buf (Elt F) (oLoc d))

/-- What the call takes and brings back: each tile its part of the three arrays, each SparseCore its sixteen tiles'. -/
def P : (K (F := F)).Pay (nD := nD) (Val := Elt F) (Name := ℕ) (U := UU) where
  st := fun q d c => match q with
    | 0 => bigSep Finset.univ fun i : Fin 16 => goPts X I O₀ d (wid (Fin.cast nCore_zero c) i)
  dn := fun q d c => match q with
    | 0 => bigSep Finset.univ fun i : Fin 16 => goPts X I (gOut X I) d (wid (Fin.cast nCore_zero c) i)
  go := fun q d c i => match q with | 0 => goPts X I O₀ d (wid (Fin.cast nCore_zero c) (Fin.cast nSub_zero i))
  td := fun q d c i => match q with | 0 => goPts X I (gOut X I) d (wid (Fin.cast nCore_zero c) (Fin.cast nSub_zero i))
  x := fun _ _ => iprop(emp)

instance P_storable : (P (F := F) X I O₀).IsStorable where
  st q d c := match q with
    | 0 => (inferInstance : BI.Storable (upEmb : UEmb _ 𝕄) (bigSep Finset.univ fun i : Fin 16 => goPts X I O₀ d (wid (Fin.cast nCore_zero c) i)))
  dn q d c := match q with
    | 0 => (inferInstance : BI.Storable (upEmb : UEmb _ 𝕄) (bigSep Finset.univ fun i : Fin 16 => goPts X I (gOut X I) d (wid (Fin.cast nCore_zero c) i)))
  go q d c i := match q with
    | 0 => (inferInstance : BI.Storable (upEmb : UEmb _ 𝕄) (goPts X I O₀ d (wid (Fin.cast nCore_zero c) (Fin.cast nSub_zero i))))
  td q d c i := match q with
    | 0 => (inferInstance : BI.Storable (upEmb : UEmb _ 𝕄) (goPts X I (gOut X I) d (wid (Fin.cast nCore_zero c) (Fin.cast nSub_zero i))))

set_option maxRecDepth 16384 in
/-- Every tile meets its obligation, at any contents whose list names rows of the table. -/
theorem tileObl [FloatOps F] (hI : ∀ d, ListOK (I d)) : (K (F := F)).TileObl (D (F := F)) 𝒱 (P X I O₀) v₀ 0 := by
  intro d c i O W hO _ _
  simp only [show (P X I O₀).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_run d (coordsV ⟨_, hci.1⟩ ⟨_, hci.2⟩) facts X I O₀ hI O W hO).trans (wp_mono frame _ _ fun _ => obl_post)

/-- A SparseCore's share of the call is its tiles' shares, handed out and gathered back. -/
theorem vecSplit : (K (F := F)).VecSplit' (P X I O₀) 0 := by
  intro d c
  show (bigSep Finset.univ fun i : Fin 16 => goPts X I O₀ d (wid (Fin.cast nCore_zero c) i)) ⊢ |={Set.univ}=> iprop(
      (bigSep Finset.univ fun i : Fin 16 => goPts X I O₀ d (wid (Fin.cast nCore_zero c) i))
      ∗ ((bigSep Finset.univ fun i : Fin 16 => goPts X I (gOut X I) d (wid (Fin.cast nCore_zero c) i))
          -∗ (bigSep Finset.univ fun i : Fin 16 => goPts X I (gOut X I) d (wid (Fin.cast nCore_zero c) i))))
  iintro H; imodintro
  isplitl [H]; · iexact H
  iintro H; iexact H

/-! ## The whole arrays as the tiles' parts -/

theorem idisj : ∀ i ∈ (Finset.univ : Finset (Fin 32)), ∀ j ∈ (Finset.univ : Finset (Fin 32)), i ≠ j → Disjoint (iRowSet i) (iRowSet j) :=
  fun _ _ _ _ h => Rect.part_disjoint idiv h
theorem odisj : ∀ i ∈ (Finset.univ : Finset (Fin 32)), ∀ j ∈ (Finset.univ : Finset (Fin 32)), i ≠ j → Disjoint (oRowSet i) (oRowSet j) :=
  fun _ _ _ _ h => Rect.part_disjoint odiv h
theorem icover : (Finset.univ : Finset (Fin 32)).biUnion iRowSet = Finset.univ := Rect.biUnion_part idiv
theorem ocover : (Finset.univ : Finset (Fin 32)).biUnion oRowSet = Finset.univ := Rect.biUnion_part odiv

/-- The parts, counted by SparseCore and tile. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_wid (Φ : Fin 32 → sProp 𝕄) :
    (bigSep Finset.univ fun c : Fin 2 => bigSep Finset.univ fun i : Fin 16 => Φ (wid c i)) = bigSep Finset.univ Φ := by
  rw [← SparseCore.bigSep_product Finset.univ Finset.univ (fun p : Fin 2 × Fin 16 => Φ (wid p.1 p.2)), Finset.univ_product_univ]
  have h := SparseCore.bigSep_image_of_injOn (s := Finset.univ) (f := widEquiv) widEquiv.injective.injOn Φ
  rw [Finset.image_univ_equiv] at h
  exact h.symm

/-- The three arrays whole are the tiles' parts of them. -/
theorem whole_parts (O : (d : Dev nD) → Buf (Elt F) (oLoc d)) (d : Dev nD) :
    (iprop((iLoc d ↦{fullShare} I d) ∗ (xLoc d ↦{fullShare} X d) ∗ oLoc d ↦{fullShare} O d) : sProp 𝕄)
      = bigSep Finset.univ fun c : Fin 2 => bigSep Finset.univ fun i : Fin 16 => goPts X I O d (wid c i) := by
  rw [bigSep_wid (F := F) (fun w => goPts X I O d w), bigSep_sep', bigSep_sep']
  rw [show (iLoc d ↦{fullShare} I d : sProp 𝕄) = bigSep Finset.univ fun w : Fin 32 => iLoc d ↦[iRowSet w]{fullShare} I d by
      rw [← pointsTo_biUnion Finset.univ (ℓ := iLoc d) iRowSet idisj, icover],
    show (oLoc d ↦{fullShare} O d : sProp 𝕄) = bigSep Finset.univ fun w : Fin 32 => oLoc d ↦[oRowSet w]{fullShare} O d by
      rw [← pointsTo_biUnion Finset.univ (ℓ := oLoc d) oRowSet odisj, ocover],
    show (xLoc d ↦{fullShare} X d : sProp 𝕄) = bigSep Finset.univ fun w : Fin 32 => xLoc d ↦{xq w} X d from
      pointsTo_leaves Finset.univ (X d) 5 fullShare]

theorem st_eq (d : Dev nD) : (bigSep Finset.univ fun c : Fin ((K (F := F)).nCore 0) => (P X I O₀).st 0 d c)
    = (iprop((iLoc d ↦{fullShare} I d) ∗ (xLoc d ↦{fullShare} X d) ∗ oLoc d ↦{fullShare} O₀ d) : sProp 𝕄) := (whole_parts X I O₀ d).symm
theorem dn_eq (d : Dev nD) : (bigSep Finset.univ fun c : Fin ((K (F := F)).nCore 0) => (P X I O₀).dn 0 d c)
    = (iprop((iLoc d ↦{fullShare} I d) ∗ (xLoc d ↦{fullShare} X d) ∗ oLoc d ↦{fullShare} gOut X I d) : sProp 𝕄) := (whole_parts X I (gOut X I) d).symm

end Cert.Proof.Conv

end
-- ==== Proof.ConvMm.lean ====
/-
  The 1x1 convolution's kernel: its eight products fill the result's buffer, one slab each.
-/
module

public import proofs.«01_k».proof.Proof.ConvBase
public import proofs.«01_k».proof.Proof.Gen.ConvIdeal.Launch
public import proofs.«01_k».proof.Proof.Gen.ConvIdeal.Skeleton
public import proofs.«01_k».proof.Proof.Gen.ConvIdeal.Points
public import Idealize.ShloMosaic.Lib.Pipeline.Regions
public import Idealize.ShloMosaic.Lib.Pipeline.Value

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the kernel computes -/

/-- Slab `b` of a batched array. -/
def slab {α : Type} (X : S8x1024x128.Idx → α) (b : Fin 8) : S1x1024x128.Idx → α := fun j => X (ix3 b (j 1) (j 2))

/-- The convolution: slab `b` of the result is the product of the weights with slab `b` of the input, and the bias. -/
def mmOut (W : Vec F S256x128 .f32) (X : Vec F S8x1024x128 .f32) (B : Vec F S256x1 .f32) : Vec F S8x256x1024 .f32 :=
  fun i => k1_pay2 W (slab X (i 0)) B (ix3 0 (i 1) (i 2))

theorem zero2 : (![0, 0] : Fin 2 → Nat) = fun _ => 0 := funext fun a => by fin_cases a <;> rfl

/-- A slab of the input, as the kernel loads it. -/
theorem ld_slab (X : Vec F S8x1024x128 .f32) (b : Fin 8) (inb : ∀ a, (![b.val, 0, 0] : Fin 3 → ℕ) a + S1x1024x128.size a ≤ S8x1024x128.size a) :
    View.ld X (Rect.unit (s := S8x1024x128) ![b.val, 0, 0] S1x1024x128.size inb) = slab X b :=
  funext fun x => congrArg X (funext fun
    | ⟨0, _⟩ => Fin.ext (by show b.val + 1 * (x 0).val = b.val; have : (x 0).val < 1 := (x 0).isLt; omega)
    | ⟨1, _⟩ => Fin.ext (by show 0 + 1 * (x 1).val = (x 1).val; omega)
    | ⟨2, _⟩ => Fin.ext (by show 0 + 1 * (x 2).val = (x 2).val; omega))

/-- The store of slab `b` agrees with the convolution on the slab. -/
theorem piece_eq (W : Vec F S256x128 .f32) (X : Vec F S8x1024x128 .f32) (B : Vec F S256x1 .f32) (b : Fin 8)
    (inb : ∀ a, (![b.val, 0, 0] : Fin 3 → ℕ) a + S1x256x1024.size a ≤ S8x256x1024.size a)
    (inbX : ∀ a, (![b.val, 0, 0] : Fin 3 → ℕ) a + S1x1024x128.size a ≤ S8x1024x128.size a) (x : S1x256x1024.Idx) :
    k1_pay2 (View.ld W (Rect.unit (s := S256x128) ![0, 0] S256x128.size inb_S256x128_S256x128_0_0))
        (View.ld X (Rect.unit (s := S8x1024x128) ![b.val, 0, 0] S1x1024x128.size inbX))
        (View.ld B (Rect.unit (s := S256x1) ![0, 0] S256x1.size inb_S256x1_S256x1_0_0)) x
      = mmOut W X B ((Rect.unit (s := S8x256x1024) ![b.val, 0, 0] S1x256x1024.size inb).emb x) := by
  have hW : View.ld W (Rect.unit (s := S256x128) ![0, 0] S256x128.size inb_S256x128_S256x128_0_0) = W := View.ld_unit_zero zero2 _ W
  have hB : View.ld B (Rect.unit (s := S256x1) ![0, 0] S256x1.size inb_S256x1_S256x1_0_0) = B := View.ld_unit_zero zero2 _ B
  have he : (Rect.unit (s := S8x256x1024) ![b.val, 0, 0] S1x256x1024.size inb).emb x = ix3 b (x 1) (x 2) := funext fun
    | ⟨0, _⟩ => Fin.ext (by show b.val + 1 * (x 0).val = b.val; have : (x 0).val < 1 := (x 0).isLt; omega)
    | ⟨1, _⟩ => Fin.ext (by show 0 + 1 * (x 1).val = (x 1).val; omega)
    | ⟨2, _⟩ => Fin.ext (by show 0 + 1 * (x 2).val = (x 2).val; omega)
  have hx : x = ix3 0 (x 1) (x 2) := funext fun
    | ⟨0, _⟩ => Fin.ext (by have : (x 0).val < 1 := (x 0).isLt; show (x 0).val = 0; omega)
    | ⟨1, _⟩ => rfl
    | ⟨2, _⟩ => rfl
  rw [hW, hB, ld_slab X b inbX, he]
  exact congrArg _ hx

/-! ## The kernel's run -/

/-- Memref `M`'s buffer on device `c`: its contents, and it held whole at `f`. -/
abbrev Bf (c : Dev nD) {sp : Space} {S : Shape} {e : EltTy} (M : Memref sig .tc sp S e) : Type := Buf (Elt F) (M.view.loc (c, Proc.tc (τ := τ)))
abbrev pt (c : Dev nD) {sp : Space} {S : Shape} {e : EltTy} (M : Memref sig .tc sp S e) (f : Bf (F := F) c M) : sProp 𝕄 :=
  M.view.loc (c, Proc.tc (τ := τ)) ↦{fullShare} f

set_option maxHeartbeats 1000000 in
/-- From the four staging buffers held whole: the kernel runs to its return, the inputs as they were and the result's
    reading as the convolution. -/
theorem kernelRun (c : Dev nD) (M0 : Memref sig .tc .vmem S8x1024x128 .f32) (h0 : M0.IsWhole) (M1 : Memref sig .tc .vmem S256x128 .f32) (h1 : M1.IsWhole)
    (M2 : Memref sig .tc .vmem S256x1 .f32) (h2 : M2.IsWhole) (M3 : Memref sig .tc .vmem S8x256x1024 .f32) (h3 : M3.IsWhole)
    (f0 : Bf (F := F) c M0) (f1 : Bf (F := F) c M1) (f2 : Bf (F := F) c M2) (f3 : Bf (F := F) c M3)
    (Q : PUnit → sProp 𝕄) :
    iprop(pt c M0 f0 ∗ pt c M1 f1 ∗ pt c M2 f2 ∗ pt c M3 f3
      ∗ (iprop(pt c M0 f0 ∗ pt c M1 f1 ∗ pt c M2 f2
          ∗ ∃ f, ⌜M3.view.read (Elt F) f = mmOut (M1.view.read (Elt F) f1) (M0.view.read (Elt F) f0) (M2.view.read (Elt F) f2)⌝ ∗ pt c M3 f) -∗ Q ⟨⟩))
    ⊢ wp frame (wpE (defs₀ (F := F)) Variants.none (T c) none) Set.univ
        (cc1__mm_body M0 h0 M1 h1 M2 h2 M3 h3) Q := by
  iintro ⟨H0, H1, H2, H3, Hk⟩
  rw [cc1__mm_body_eq_skeleton]; unfold cc1__mm_body_skel
  rw [k1_part1_eq_skeleton, k1_part2_eq_skeleton, k1_part3_eq_skeleton]; unfold k1_part1_skel k1_part2_skel k1_part3_skel
  sl_exec
  sl_step
  iapply Hk
  isplitl [H0]; · iexact H0
  isplitl [H1]; · iexact H1
  isplitl [H2]; · iexact H2
  iexists _
  isplitr; swap
  · iexact H3
  · ipureintro
    refine funext fun y => View.read_writes_apply_of_pieces _ _ (mmOut (M1.view.read (Elt F) f1) (M0.view.read (Elt F) f0) (M2.view.read (Elt F) f2)) _ ?_ y
      (View.cover_of_tiled (s := S8x256x1024) _ (![1, 256, 1024] : Fin 3 → ℕ) rfl y)
    intro p hp x
    simp only [List.mem_cons, List.not_mem_nil, or_false] at hp
    rcases hp with rfl | rfl | rfl | rfl | rfl | rfl | rfl | rfl
    · exact piece_eq _ _ _ 7 inb_S8x256x1024_S1x256x1024_7_0_0 inb_S8x1024x128_S1x1024x128_7_0_0 x
    · exact piece_eq _ _ _ 6 inb_S8x256x1024_S1x256x1024_6_0_0 inb_S8x1024x128_S1x1024x128_6_0_0 x
    · exact piece_eq _ _ _ 5 inb_S8x256x1024_S1x256x1024_5_0_0 inb_S8x1024x128_S1x1024x128_5_0_0 x
    · exact piece_eq _ _ _ 4 inb_S8x256x1024_S1x256x1024_4_0_0 inb_S8x1024x128_S1x1024x128_4_0_0 x
    · exact piece_eq _ _ _ 3 inb_S8x256x1024_S1x256x1024_3_0_0 inb_S8x1024x128_S1x1024x128_3_0_0 x
    · exact piece_eq _ _ _ 2 inb_S8x256x1024_S1x256x1024_2_0_0 inb_S8x1024x128_S1x1024x128_2_0_0 x
    · exact piece_eq _ _ _ 1 inb_S8x256x1024_S1x256x1024_1_0_0 inb_S8x1024x128_S1x1024x128_1_0_0 x
    · exact piece_eq _ _ _ 0 inb_S8x256x1024_S1x256x1024_0_0_0 inb_S8x1024x128_S1x1024x128_0_0_0 x

end Cert.Proof.Conv

end
-- ==== Proof.ConvRegion.lean ====
/-
  The 1x1 convolution's region in @main: entered with the four arrays at some contents, it leaves the result's array at
  the convolution of the other three.
-/
module

public import proofs.«01_k».proof.Proof.ConvMm

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
open Idealize.ShloMosaic.Pipeline (Dat Cfg Window BodyObligation cellOf)

variable [FloatOps F]

/-- The TensorCore's buffers at the region's entry, by device. -/
abbrev Vals (F : FTy → Type) : Type := (c : Dev nD) → (b : Ref sig .tc) → Buf (Elt F) ((T c : Thread nD τ).loc b)

variable (V : Vals F)

/-- What the region leaves in the result's array. -/
def convOut (c : Dev nD) : Vec F S8x256x1024 .f32 := mmOut (F := F) (V c main_arg2) (V c main_v4) (V c main_v5)

/-! ## The pipeline's proof data -/

/-- The index a block of a whole array stands for is the index itself. -/
theorem blk0_eq (c : Dev nD) : ((cfg1.win 0).blk t1_0).view.read (Elt F) (V c main_v4) = V c main_v4 := funext fun x => congrArg (V c main_v4) (funext fun
    | ⟨0, _⟩ => Fin.ext (by show 0 + 1 * (x 0).val = (x 0).val; omega)
    | ⟨1, _⟩ => Fin.ext (by show 0 + 1 * (x 1).val = (x 1).val; omega)
    | ⟨2, _⟩ => Fin.ext (by show 0 + 1 * (x 2).val = (x 2).val; omega))
theorem blk1_eq (c : Dev nD) : ((cfg1.win 1).blk t1_0).view.read (Elt F) (V c main_arg2) = V c main_arg2 := funext fun x => congrArg (V c main_arg2) (funext fun
    | ⟨0, _⟩ => Fin.ext (by show 0 + 1 * (x 0).val = (x 0).val; omega)
    | ⟨1, _⟩ => Fin.ext (by show 0 + 1 * (x 1).val = (x 1).val; omega))
theorem blk2_eq (c : Dev nD) : ((cfg1.win 2).blk t1_0).view.read (Elt F) (V c main_v5) = V c main_v5 := funext fun x => congrArg (V c main_v5) (funext fun
    | ⟨0, _⟩ => Fin.ext (by show 0 + 1 * (x 0).val = (x 0).val; omega)
    | ⟨1, _⟩ => Fin.ext (by show 0 + 1 * (x 1).val = (x 1).val; omega))
theorem emb3_eq (x : S8x256x1024.Idx) : ((cfg1.win 3).blk t1_0).view.emb x = x := funext fun
    | ⟨0, _⟩ => Fin.ext (by show 0 + 1 * (x 0).val = (x 0).val; omega)
    | ⟨1, _⟩ => Fin.ext (by show 0 + 1 * (x 1).val = (x 1).val; omega)
    | ⟨2, _⟩ => Fin.ext (by show 0 + 1 * (x 2).val = (x 2).val; omega)

/-- The proof data on device `c`, before or after the program's call `n`: the arrays at their entry contents; after the
    body the inputs' buffers as fetched and the result's at the convolution; the core owing what it owes for the calls to
    come. -/
def dats (n : ℕ) (_ : Fin 1) (c : Dev nD) : Dat τ (Elt F) (HIx 1) ℕ UU ℕ cfg1 c where
  A w := V c (Pipeline.arrRef spec1 w)
  after w _ := match w with
    | ⟨0, _⟩ => V c main_v4
    | ⟨1, _⟩ => V c main_arg2
    | ⟨2, _⟩ => V c main_v5
    | ⟨3, _⟩ => convOut V c
  Φ _ := iprop(emp)
  q _ := fullShare
  owed _ := (K (F := F)).Otc c n
  recorded _ := {p | (K (F := F)).lev (T c, p.1) p.2 ≤ 8 * SparseCore.Cfg.Blocks.fst (Q := 1) (N := 1) n}

theorem A_eq (n : ℕ) (c : Dev nD) (w : Fin cfg1.W) : (dats V n 0 c).A w = V c (Pipeline.arrRef spec1 w) := by
  dsimp only [dats]

theorem before0 (n : ℕ) (c : Dev nD) (d : (cfg1.win 0).block.Idx → Elt F (cfg1.win 0).elt) : (dats V n 0 c).before 0 t1_0 d = V c main_v4 := by
  unfold Dat.before; rw [if_pos (by decide)]; exact blk0_eq V c
theorem before1 (n : ℕ) (c : Dev nD) (d : (cfg1.win 1).block.Idx → Elt F (cfg1.win 1).elt) : (dats V n 0 c).before 1 t1_0 d = V c main_arg2 := by
  unfold Dat.before; rw [if_pos (by decide)]; exact blk1_eq V c
theorem before2 (n : ℕ) (c : Dev nD) (d : (cfg1.win 2).block.Idx → Elt F (cfg1.win 2).elt) : (dats V n 0 c).before 2 t1_0 d = V c main_v5 := by
  unfold Dat.before; rw [if_pos (by decide)]; exact blk2_eq V c

/-- The body obligation: the four staging buffers taken apart, the kernel's run applied, its post reassembled. -/
theorem body_obligation (n : ℕ) (c : Dev nD) : BodyObligation (dats V n 0 c) (defs₀ (F := F)) 𝒱₀ none Set.univ := fun t => by
  obtain rfl := fin_N1 t
  rw [bigSep_W1, bigSep_W1]
  simp only [owns_whole_eq]
  rw [show (dats V n 0 c).Φ t1_0.castSucc = iprop(emp) from rfl, show (dats V n 0 c).Φ t1_0.succ = iprop(emp) from rfl]
  iintro ⟨-, HO, ⟨%d0, %f0, %hf0, H0⟩, ⟨%d1, %f1, %hf1, H1⟩, ⟨%d2, %f2, %hf2, H2⟩, ⟨%d3, %f3, %hf3, H3⟩⟩
  rw [before0] at hf0; rw [before1] at hf1; rw [before2] at hf2
  iapply (kernelRun c (stage1_0 0) (hstage1_0 0) (stage1_1 0) (hstage1_1 0) (stage1_2 0) (hstage1_2 0) (stage1_3 0) (hstage1_3 0) f0 f1 f2 f3)
  isplitl [H0]; · iexact H0
  isplitl [H1]; · iexact H1
  isplitl [H2]; · iexact H2
  isplitl [H3]; · iexact H3
  iintro ⟨H0, H1, H2, %f, %hf, H3⟩
  isplitr; · iempintro
  isplitl [HO]; · iexact HO
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists f; isplitr; swap; (· iexact H3); ipureintro
  subst hf0 hf1 hf2; exact hf

/-! ## The result's array after the region -/

theorem flushed_eq (n : ℕ) (c : Dev nD) (t : Fin cfg1.N) :
    (dats V n 0 c).flushed 3 t = ((cfg1.win 3).blk t).view.read (Elt F) (convOut V c) := by
  obtain rfl := fin_N1 t
  exact funext fun x => (congrArg (convOut V c) (emb3_eq x)).symm

theorem cover (i : S8x256x1024.Idx) : ∃ t : Fin cfg1.N, (cfg1.win 3).flush t = true ∧ i ∈ ((cfg1.win 3).blk t).view.set :=
  ⟨t1_0, flush1_3 t1_0, Finset.mem_map.mpr ⟨i, Finset.mem_univ _, emb3_eq i⟩⟩

theorem final_out (n : ℕ) (c : Dev nD) : (dats V n 0 c).arrAt 3 cfg1.N = convOut V c :=
  (dats V n 0 c).arrAt_eq_of_cover 3 (convOut V c) (fun t _ => flushed_eq V n c t) cover

/-! ## The region -/

/-- What the core owes for the calls from `n` on, its recorded waits below them. -/
abbrev tcOwes (n : ℕ) (c : Dev nD) : sProp 𝕄 :=
  iprop(∃ W, ⌜(K (F := F)).WBelow (T c) W (8 * SparseCore.Cfg.Blocks.fst (Q := 1) (N := 1) n)⌝ ∗ owes (T c) ((K (F := F)).Otc c n) W)

omit [FloatOps F] in
/-- The handshakes' units are none of the kernels' own. -/
theorem Otc_none (n : ℕ) (c : Dev nD) (g : GSem nD τ sig) : (K (F := F)).Otc (N := 1) c n g none = 0 := by
  by_contra h
  have := SparseCore.Cfg.lev_of_Otc_pos (Nat.pos_of_ne_zero h)
  rw [SparseCore.Cfg.lev_none] at this
  omega

/-- The prefetched tables' admissible contents: no table. -/
abbrev adm : (p : Fin 1) → (pcfgs (F := F) p).Adm := fun p => (cfgs p).toPCfg_adm

/-- The region has no semaphore of its own. -/
abbrev osem : Fin 0 → SemLoc sig := fun k => k.elim0
theorem ownSemFacts : Pipeline.OwnSemFacts spec1 osem := by decide

/-- What the region's end asks of its arrays: the weights as they were, the result at the convolution. -/
theorem arrays_end (n : ℕ) (c : Dev nD) : (dats V n 0 c).arrays ((dats V n 0 c).arrAt · cfg1.N)
    ⊢ iprop((((T c : Thread nD τ).loc main_arg2) ↦{fullShare} V c main_arg2) ∗ (((T c : Thread nD τ).loc main_v6) ↦{fullShare} convOut V c)) := by
  unfold Pipeline.Dat.arrays
  refine (Entails.of_eq (bigSep_W1 _)).trans ?_
  have h1 : (dats V n 0 c).arrAt 1 cfg1.N = V c main_arg2 := (dats V n 0 c).arrAt_in 1 rfl _
  have s1 : ((cfg1.win 1).arr.view.set) = Finset.univ := View.set_whole _
  have s3 : ((cfg1.win 3).arr.view.set) = Finset.univ := View.set_whole _
  iintro ⟨-, H1, -, H3⟩
  isplitl [H1]
  · rw [s1, (dats V n 0 c).share_full (fun _ => rfl)]; dsimp only; rw [h1]; iexact H1
  · rw [s3, (dats V n 0 c).share_full (fun _ => rfl)]; dsimp only; rw [final_out]; iexact H3

set_option backward.isDefEq.respectTransparency.types false in
/-- The region, entered from the device's buffers at `V`: it leaves the weights as they were and the result's array at
    the convolution; the buffers that are no array of it ride past. -/
def reg1 (n : ℕ) : Pipeline.RegionSeg (pcfgs (F := F)) adm (dats V n) (none : HIx 1) defs₀ 𝒱₀ (K (F := F)).L (K (F := F)).lev 0 where
  win := launch1.win.to₀
  block_pos := launch1.block_pos
  stage_whole := launch1.stage_whole
  K := Fin 0
  osem := osem
  ho := ownSemFacts
  hbody c := (body_obligation V n c).loose
  hwaits c := Pipeline.cellsWaits_intro _ _ _ _ _ fun w s t => (K (F := F)).mayWait_none _ (Otc_none n c)
  pre c := iprop(unscopedBufs c (V c) ∗ tcOwes n c)
  post c := iprop((((T c : Thread nD τ).loc main_arg2) ↦{fullShare} V c main_arg2) ∗ (((T c : Thread nD τ).loc main_v6) ↦{fullShare} convOut V c)
    ∗ Pipeline.unscopedRest spec1 c (V c) ∗ tcOwes n c)
  X c := iprop(emp)
  Y c := iprop(emp)
  Z c := Pipeline.unscopedRest spec1 c (V c)
  hentry c := by
    have hsplit := (Pipeline.arrays_of_unscopedBufs (pcfgs (F := F)) adm (dats V n) launch1.win launch1.arr_whole c
      ((dats V n 0 c).share_full fun _ => rfl) (V c) (A_eq V n c))
    iintro ⟨⟨Hub, ⟨%W, %hW, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr
      · ipureintro; exact fun p hp => Or.inl (hW p hp)
      · iexact HO
    isplitr; · iempintro
    iexact Hr
  hin c := by
    iintro ⟨-, -, -⟩; exact BI.Entails.refl _
  hout c := by
    rw [scopedRest1_eq]
    iintro -
    isplitr; · iempintro
    isplitr
    · unfold Pipeline.ownSems0; rw [show (Finset.univ : Finset (Fin 0)) = ∅ from rfl, BI.bigSep_empty]; iempintro
    · iempintro
  hexit c := by
    iintro ⟨Ha, HO, -, HZ⟩
    imodintro
    ihave Ha := (arrays_end V n c) $$ Ha
    icases Ha with ⟨H1, H3⟩
    isplitl [H1]; · iexact H1
    isplitl [H3]; · iexact H3
    isplitl [HZ]; · iexact HZ
    unfold Pipeline.Dat.owesAt Pipeline.owesWithin
    icases HO with ⟨%W, %hW, HO⟩; iexists W; isplitr; swap; (· iexact HO)
    ipureintro
    intro p hp
    rcases hW hp with h | ⟨w, s, rfl⟩
    · exact h
    · rw [SparseCore.Cfg.lev_none]; exact Nat.zero_le _

end Cert.Proof.Conv

end
-- ==== Proof.ConvRun.lean ====
/-
  The two-call program's run: its host operations as two straight lines around the call of the SparseCore, the launch
  element of the ghost state dealt to the handshakes and to the product's pipeline, @main on the TensorCore, and the
  run of the whole mesh — for any float values.
-/
module

public import proofs.«01_k».proof.Proof.ConvCall
public import proofs.«01_k».proof.Proof.ConvRegion

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (held after wp_seq unary reshape)

variable [FloatOps F]

/-! ## The launch element of the ghost state -/

/-- The pipeline's share of the ghost state on one device: its cells and its staging tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element: the handshakes' cells and tokens, the pipeline's cells and tokens, no transfer counted. -/
def u₀ : UU := (initOf (K (F := F)).hsCells (K (F := F)).hsToks,
  (initOf (Pipeline.cells (nD := nD) (τ := τ) (Pipeline.pin (pcfgs (F := F)) adm) cellOf_inj) (Pipeline.launchToks (Pipeline.pin (pcfgs (F := F)) adm) cellOf_inj), 1))

theorem bigSep_none {J : Type} (s : Finset J) : (bigSep s fun _ => iprop(emp)) = (iprop(emp) : sProp 𝕄) := bigSep_emp_const s

theorem own_EP (a : UP) : (BI.own (((Emb.inl : Emb UP (UP × Counters)).trans embR) a) : sProp 𝕄) ⊢ BI.own (EP a) := Entails.of_eq rfl

/-- The launch element pays for the handshakes, the pipelines, and the tiles' (empty) extra resources. -/
theorem hu₀ (X : (d : Dev nD) → Buf (Elt F) (xLoc d)) (I : (d : Dev nD) → Buf (Elt F) (iLoc d)) (O₀ : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P X I O₀).x q thr) := by
  unfold u₀
  iintro Hu
  ihave H := (ownU_pair _ _) $$ Hu
  icases H with ⟨HH, HR⟩
  ihave HR := (own_pair_emb embR _ _) $$ HR
  icases HR with ⟨HP, -⟩
  ihave HP := (own_EP _) $$ HP
  imod (Pipeline.fund_ghost (Pipeline.pin (pcfgs (F := F)) adm) EP cellOf_inj) $$ HP with ⟨Hg, Ht⟩
  imodintro
  isplitl [HH]; · iexact HH
  isplitl [Hg Ht]
  · rw [bigSep_sep']
    ihave Hg := (Entails.of_eq (show (bigSep Finset.univ fun c : Dev nD => bigSep Finset.univ fun p : Fin 1 => (Pipeline.cellsGhost (Pipeline.pin (pcfgs (F := F)) adm) EP p c : sProp 𝕄))
      = bigSep Finset.univ fun c => Pipeline.cellsGhost (Pipeline.pin (pcfgs (F := F)) adm) EP 0 c from bigSep_congr fun _ _ => bigSep_univ_of_subsingleton (0 : Fin 1))) $$ Hg
    ihave Ht := (Entails.of_eq (show (bigSep Finset.univ fun c : Dev nD => bigSep Finset.univ fun p : Fin 1 => (Pipeline.toksInit (Pipeline.pin (pcfgs (F := F)) adm) EP p c : sProp 𝕄))
      = bigSep Finset.univ fun c => Pipeline.toksInit (Pipeline.pin (pcfgs (F := F)) adm) EP 0 c from bigSep_congr fun _ _ => bigSep_univ_of_subsingleton (0 : Fin 1))) $$ Ht
    isplitl [Hg] <;> iassumption
  rw [show (bigSep Finset.univ fun thr : Thread nD τ => bigSep Finset.univ fun q : Fin 1 => (P X I O₀).x q thr) = bigSep Finset.univ fun _ => iprop(emp) from
    bigSep_congr fun _ _ => bigSep_univ_of_subsingleton (0 : Fin 1), bigSep_none]
  iempintro

/-! ## The host operations -/

/-- The operations before the call: the table of rows and the flat list of row numbers. -/
abbrev ops₀ : List (HloOp τ sig (Elt F)) :=
  [unary main_arg1 main_v0 ((transpose S8x8192x128 [0, 2, 1] · transposes_S8x128x8192_S8x8192x128_0_2_1) : (⟨S8x128x8192, .f32⟩ : BufTy).Contents (Elt F) → (⟨S8x8192x128, .f32⟩ : BufTy).Contents (Elt F)),
    reshape main_v0 main_v1 (rfl : (.f32 : EltTy) = .f32) shapeCasts_S8x8192x128_S65536x128,
    reshape main_arg0 main_v2 (rfl : (.i32 : EltTy) = .i32) shapeCasts_S8x8x128_S64x128]
/-- The operations after it: the gathered rows by batch, the bias as a column. -/
abbrev ops₁ : List (HloOp τ sig (Elt F)) :=
  [reshape main_v3 main_v4 (rfl : (.f32 : EltTy) = .f32) shapeCasts_S8192x128_S8x1024x128,
    reshape main_arg3 main_v5 (rfl : (.f32 : EltTy) = .f32) shapeCasts_S256_S256x1]

/-- @main: the two lines around the call, then the product's region. -/
theorem main_eq (d : Dev nD) : main (F := F) d = (StableHlo.seq ops₀ >>= fun _ => (sc.run d 0 >>= fun _ => (StableHlo.seq ops₁ >>= fun _ =>
    (SparseCore.liftProg (.op (.customCall (Pipeline.entry 0) ()) .ret) >>= fun _ => pure ⟨⟩)))) := rfl

/-- The device's unscoped buffers, as the host operations name them. -/
def ucRefs : Finset (DevRef τ sig) := (StableHlo.tcRefs τ sig).filter fun b => ¬ b.isScoped

theorem unscopedBufs_held (c : Dev nD) (W : Valuation τ sig (Elt F)) :
    (unscopedBufs c (fun b => W (Proc.devRef .tc b)) : sProp 𝕄) = held (c.tc : Thread nD τ) ucRefs W := by
  unfold unscopedBufs held ucRefs StableHlo.tcRefs
  rw [Finset.filter_map, bigSep_map]; rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem ops₀_sub : ∀ op ∈ (ops₀ : List (HloOp τ sig (Elt F))), op.bufs ⊆ ucRefs := by
  simp only [List.forall_mem_cons, List.not_mem_nil, false_imp_iff, implies_true, and_true]
  exact ⟨sub_ucRefs _ (StableHlo.unary_bufs_sub ..), sub_ucRefs _ (StableHlo.reshape_bufs_sub ..), sub_ucRefs _ (StableHlo.reshape_bufs_sub ..)⟩
theorem ops₁_sub : ∀ op ∈ (ops₁ : List (HloOp τ sig (Elt F))), op.bufs ⊆ ucRefs := by
  simp only [List.forall_mem_cons, List.not_mem_nil, false_imp_iff, implies_true, and_true]
  exact ⟨sub_ucRefs _ (StableHlo.reshape_bufs_sub ..), sub_ucRefs _ (StableHlo.reshape_bufs_sub ..)⟩
theorem ops₀_fresh : ∀ op ∈ (ops₀ : List (HloOp τ sig (Elt F))), op.fresh = ∅ := by
  simp only [List.forall_mem_cons, List.not_mem_nil, false_imp_iff, implies_true, and_true]
  exact ⟨rfl, rfl, rfl⟩
theorem ops₁_fresh : ∀ op ∈ (ops₁ : List (HloOp τ sig (Elt F))), op.fresh = ∅ := by
  simp only [List.forall_mem_cons, List.not_mem_nil, false_imp_iff, implies_true, and_true]
  exact ⟨rfl, rfl⟩

theorem ops₀_writes : (ops₀ : List (HloOp τ sig (Elt F))).Forall fun op => op.writes ⊆ (([main_v0, main_v1, main_v2] : List (Ref sig .tc)).map (Proc.devRef (τ := τ) .tc)).toFinset := by
  simp only [List.Forall, StableHlo.unary_writes, StableHlo.reshape_writes]; decide
theorem ops₁_writes : (ops₁ : List (HloOp τ sig (Elt F))).Forall fun op => op.writes ⊆ (([main_v4, main_v5] : List (Ref sig .tc)).map (Proc.devRef (τ := τ) .tc)).toFinset := by
  simp only [List.Forall, StableHlo.unary_writes, StableHlo.reshape_writes]; decide

/-! ## The contents along @main -/

variable (m : (ℓ : Loc nD τ sig) → Buf (Elt F) ℓ) (ρ : Dev nD → PrngReg)

/-- Argument `b` of device `d` at launch. -/
abbrev arg (d : Dev nD) (b : Ref sig .tc) : Buf (Elt F) ((SparseCore.T d : Thread nD τ).loc b) := m ((SparseCore.T d).loc b)

/-- The table of rows, and the list of row numbers, as the first line leaves them; the result's buffer as it is found. -/
def Xv (d : Dev nD) : Buf (Elt F) (xLoc d) := shapeCast S65536x128
  (transpose S8x8192x128 [0, 2, 1] (arg m d main_arg1) transposes_S8x128x8192_S8x8192x128_0_2_1) shapeCasts_S8x8192x128_S65536x128
def Iv (d : Dev nD) : Buf (Elt F) (iLoc d) := shapeCast S64x128 (arg m d main_arg0) shapeCasts_S8x8x128_S64x128
def Ov (d : Dev nD) : Buf (Elt F) (oLoc d) := m (oLoc d)

/-- The buffers after the first line, after the call, and after the second line. -/
def V₁ (d : Dev nD) : Valuation τ sig (Elt F) := after ops₀ fun b => m (d, b)
def V₂ (d : Dev nD) : Valuation τ sig (Elt F) := Function.update (V₁ m d) (Proc.devRef .tc main_v3) (gOut (Xv m) (Iv m) d)
def V₃ (d : Dev nD) : Valuation τ sig (Elt F) := after ops₁ (V₂ m d)
def Vr : Vals F := fun d b => V₃ m d (Proc.devRef .tc b)

theorem V₁_x (d : Dev nD) : V₁ m d (Proc.devRef .tc main_v1) = Xv m d := by unfold V₁; after_results <;> rfl
theorem V₁_i (d : Dev nD) : V₁ m d (Proc.devRef .tc main_v2) = Iv m d := by unfold V₁; after_results <;> rfl
theorem V₁_o (d : Dev nD) : V₁ m d (Proc.devRef .tc main_v3) = Ov m d := by unfold V₁; after_results <;> rfl

theorem V₂_o (d : Dev nD) : V₂ m d (Proc.devRef .tc main_v3) = gOut (Xv m) (Iv m) d := Function.update_self _ _ _
theorem V₂_ne (d : Dev nD) {b : Ref sig .tc} (h : b ≠ main_v3) : V₂ m d (Proc.devRef .tc b) = V₁ m d (Proc.devRef .tc b) :=
  Function.update_of_ne (StableHlo.devRef_ne_of_ne h) _ _

/-- An argument is as it was at launch. -/
theorem Vr_arg (d : Dev nD) (b : Ref sig .tc) (h : b = main_arg0 ∨ b = main_arg1 ∨ b = main_arg2 ∨ b = main_arg3) : Vr m d b = arg m d b := by
  rcases h with rfl | rfl | rfl | rfl
  all_goals
    refine (StableHlo.after_of_writes_sub (W := [main_v4, main_v5]) ops₁ _ ops₁_writes (by decide)).trans ?_
    rw [V₂_ne m d (by decide)]
    exact StableHlo.after_of_writes_sub (W := [main_v0, main_v1, main_v2]) ops₀ _ ops₀_writes (by decide)

/-- The gathered rows, by batch. -/
theorem Vr_g (d : Dev nD) : Vr m d main_v4 = shapeCast S8x1024x128 (gOut (Xv m) (Iv m) d) shapeCasts_S8192x128_S8x1024x128 := by
  show after ops₁ (V₂ m d) _ = _
  after_results
  rw [V₂_o]; rfl

/-- The bias, as a column. -/
theorem Vr_b (d : Dev nD) : Vr m d main_v5 = shapeCast S256x1 (arg m d main_arg3) shapeCasts_S256_S256x1 := by
  show after ops₁ (V₂ m d) _ = _
  after_results
  rw [V₂_ne m d (by decide)]
  rw [show V₁ m d (Proc.devRef .tc main_arg3) = arg m d main_arg3 from
    StableHlo.after_of_writes_sub (W := [main_v0, main_v1, main_v2]) ops₀ _ ops₀_writes (by decide)]
  rfl

/-- What the program returns: the convolution of the gathered rows. -/
def res (d : Dev nD) : Buf (Elt F) ((SparseCore.T d : Thread nD τ).loc main_v6) :=
  mmOut (arg m d main_arg2) (shapeCast S8x1024x128 (gOut (Xv m) (Iv m) d) shapeCasts_S8192x128_S8x1024x128)
    (shapeCast S256x1 (arg m d main_arg3) shapeCasts_S256_S256x1)

theorem convOut_eq (d : Dev nD) : convOut (Vr m) d = res m d := by
  unfold convOut res
  rw [Vr_g, Vr_b, Vr_arg m d main_arg2 (by decide)]

/-! ## @main on the TensorCore -/

/-- The device's unscoped buffers one by one, the gather's three first. -/
theorem unscopedBufs_eq (d : Dev nD) (W : Valuation τ sig (Elt F)) :
    (unscopedBufs d (fun b => W (Proc.devRef .tc b)) : sProp 𝕄) = iprop((iLoc d ↦{fullShare} W (Proc.devRef .tc main_v2)) ∗ (xLoc d ↦{fullShare} W (Proc.devRef .tc main_v1))
      ∗ (oLoc d ↦{fullShare} W (Proc.devRef .tc main_v3)) ∗ bigSep {main_arg0, main_arg1, main_arg2, main_arg3, main_v0, main_v4, main_v5, main_v6}
        fun b : Ref sig .tc => (SparseCore.T d : Thread nD τ).loc b ↦{fullShare} W (Proc.devRef .tc b)) := by
  unfold unscopedBufs
  rw [show (Finset.univ.filter fun b : Ref sig .tc => ¬ b.isScoped)
      = {main_v2, main_v1, main_v3, main_arg0, main_arg1, main_arg2, main_arg3, main_v0, main_v4, main_v5, main_v6} by decide,
    SparseCore.bigSep_insert' (by decide), SparseCore.bigSep_insert' (by decide), SparseCore.bigSep_insert' (by decide)]

/-- What @main leaves: the four arguments and the result. -/
abbrev FIN (d : Dev nD) : sProp 𝕄 :=
  iprop(((SparseCore.T d : Thread nD τ).loc main_arg0 ↦{fullShare} arg m d main_arg0) ∗ ((SparseCore.T d : Thread nD τ).loc main_arg1 ↦{fullShare} arg m d main_arg1)
    ∗ ((SparseCore.T d : Thread nD τ).loc main_arg2 ↦{fullShare} arg m d main_arg2) ∗ ((SparseCore.T d : Thread nD τ).loc main_arg3 ↦{fullShare} arg m d main_arg3)
    ∗ (SparseCore.T d : Thread nD τ).loc main_v6 ↦{fullShare} res m d)

/-- The region's end is `FIN` and the debts it was entered with. -/
theorem region_end (d : Dev nD) : (reg1 (Vr m) 1).post d ⊢ iprop(FIN m d ∗ tcOwes 1 d) := by
  show iprop(_ ∗ _ ∗ _ ∗ _) ⊢ _
  rw [unscopedRest1_eq, convOut_eq, Vr_arg m d main_arg0 (by decide), Vr_arg m d main_arg1 (by decide), Vr_arg m d main_arg2 (by decide), Vr_arg m d main_arg3 (by decide)]
  iintro ⟨H2, H6, ⟨H0, H1, H3, -⟩, HO⟩
  isplitr [HO]; swap; · iexact HO
  isplitl [H0]; · iexact H0
  isplitl [H1]; · iexact H1
  isplitl [H2]; · iexact H2
  isplitl [H3]; · iexact H3
  iexact H6

/-- The region starts from the buffers and the debts. -/
theorem region_start (d : Dev nD) : iprop(unscopedBufs d (Vr m d) ∗ tcOwes 1 d) ⊢ (reg1 (Vr m) 1).pre d := BI.Entails.refl _

/-- The call's buffers back in place: the buffers at `V₂`. -/
theorem buffers_back (d : Dev nD) :
    (iprop((iLoc d ↦{fullShare} Iv m d) ∗ (xLoc d ↦{fullShare} Xv m d) ∗ (oLoc d ↦{fullShare} gOut (Xv m) (Iv m) d)
      ∗ bigSep {main_arg0, main_arg1, main_arg2, main_arg3, main_v0, main_v4, main_v5, main_v6}
        fun b : Ref sig .tc => (SparseCore.T d : Thread nD τ).loc b ↦{fullShare} V₁ m d (Proc.devRef .tc b)) : sProp 𝕄)
      = held (d.tc : Thread nD τ) ucRefs (V₂ m d) := by
  rw [← unscopedBufs_held, unscopedBufs_eq, V₂_o, V₂_ne m d (b := main_v2) (by decide), V₂_ne m d (b := main_v1) (by decide), V₁_x, V₁_i]
  congr 3
  done

/-- The buffers after the first line, one by one. -/
theorem held_V₁ (d : Dev nD) : (held (d.tc : Thread nD τ) ucRefs (after ops₀ fun b => m (d, b)) : sProp 𝕄)
    = iprop((iLoc d ↦{fullShare} Iv m d) ∗ (xLoc d ↦{fullShare} Xv m d) ∗ (oLoc d ↦{fullShare} Ov m d)
      ∗ bigSep {main_arg0, main_arg1, main_arg2, main_arg3, main_v0, main_v4, main_v5, main_v6}
        fun b : Ref sig .tc => (SparseCore.T d : Thread nD τ).loc b ↦{fullShare} V₁ m d (Proc.devRef .tc b)) := by
  rw [← V₁_x, ← V₁_i, ← V₁_o]
  exact (unscopedBufs_held d (V₁ m d)).symm.trans (unscopedBufs_eq d (V₁ m d))

/-- The buffers after the second line, as the region takes them. -/
theorem held_V₃ (d : Dev nD) : (held (d.tc : Thread nD τ) ucRefs (after ops₁ (V₂ m d)) : sProp 𝕄) = unscopedBufs d (Vr m d) :=
  (unscopedBufs_held d (V₃ m d)).symm

theorem hmain [∀ e, Nonempty (Elt F e)] (κ : GSem nD τ sig → ℕ) (d : Dev nD) :
    iprop((K (F := F)).ctx EH (P (Xv m) (Iv m) (Ov m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hub, Hts, -⟩, HG⟩
  -- the first line of host operations
  ihave Hh := (Entails.of_eq (unscopedBufs_held d fun b => m (d, b))) $$ Hub
  iapply (wp_seq 𝒱 none Set.univ d ucRefs _ ops₀ ops₀_sub ops₀_fresh _) $$ [Hb Hh]
  · isplitl [Hb] <;> iassumption
  iintro ⟨Hb, Hh⟩
  ihave Hub := (Entails.of_eq (held_V₁ m d)) $$ Hh
  icases Hub with ⟨Hi, Hx, Ho, Hrest⟩
  -- the call
  rw [wp_bind]
  iapply ((K (F := F)).wp_run (D (F := F)) 𝒱 (EH := EH) (P := P (Xv m) (Iv m) (Ov m)) κ d 0) $$ [Hst Hi Hx Ho Hb Hts Hrest HG]
  isplitr; · iexact Hctx
  isplitl [Hst]; · iexact Hst
  isplitl [Hi Hx Ho]
  · rw [st_eq]
    isplitl [Hi]; · iexact Hi
    isplitl [Hx]; · iexact Hx
    iexact Ho
  iintro ⟨Hst, Hdn⟩
  ihave Hdn := (Entails.of_eq (dn_eq (Xv m) (Iv m) (Ov m) d)) $$ Hdn
  icases Hdn with ⟨Hi, Hx, Ho⟩
  ihave Hh := (Entails.of_eq (buffers_back m d)) $$ [Hi Hx Ho Hrest]
  · isplitl [Hi]; · iexact Hi
    isplitl [Hx]; · iexact Hx
    isplitl [Ho]; · iexact Ho
    iexact Hrest
  -- the second line
  iapply (wp_seq 𝒱 none Set.univ d ucRefs _ ops₁ ops₁_sub ops₁_fresh _) $$ [Hb Hh]
  · isplitl [Hb] <;> iassumption
  iintro ⟨Hb, Hh⟩
  ihave Hub := (Entails.of_eq (held_V₃ m d)) $$ Hh
  -- the region
  ihave Hlev := ((K (F := F)).ctx_levAts κ) $$ Hctx
  unfold SparseCore.Cfg.tcSt
  icases Hst with ⟨HO, Hst⟩
  rw [wp_bind]
  iapply ((K (F := F)).wp_liftProg (D (F := F)) 𝒱 (SparseCore.T d) Set.univ none _ _)
  iapply ((reg1 (Vr m) 1).wp (pcfgs (F := F)) adm (dats (Vr m) 1) none cellOf_inj EP defs₀ 𝒱₀ _ _ d none (fun _ h => nomatch h))
  isplitr [Hb Hub HO Hlev HG]
  · iintro ⟨Hb, Hpost⟩
    ihave Hpost := (region_end m d) $$ Hpost
    icases Hpost with ⟨HF, HO⟩
    simp only [wp_ret, wp_pure]
    imodintro
    imodintro
    isplitl [HO Hst]
    · isplitl [HO]; · iexact HO
      iexact Hst
    isplitl [HF]; · iexact HF
    isplitl [Hb]; · iexact Hb
    iexact Hts
  isplitl [Hb]; · iexact Hb
  isplitl [Hub HO]
  · iapply (region_start m d)
    isplitl [Hub]; · iexact Hub
    iexact HO
  isplitl [Hlev]; · iexact Hlev
  iexact HG

/-! ## The run -/

/-- What a final state shows of device `d`. -/
def fq (d : Dev nD) (s' : Phys nD τ sig (Elt F)) : Prop :=
  (∀ b : Ref sig .tc, (b = main_arg0 ∨ b = main_arg1 ∨ b = main_arg2 ∨ b = main_arg3) → s'.mem.mem ((SparseCore.T d : Thread nD τ).loc b) = arg m d b)
    ∧ s'.mem.mem ((SparseCore.T d : Thread nD τ).loc main_v6) = res m d

set_option maxRecDepth 16384 in
/-- A buffer held whole is what the state says, and is kept. -/
theorem read_buf (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : iprop(FIN m d ∗ SI s') ⊢ (⌜fq m d s'⌝ : sProp 𝕄) := by
  iintro ⟨⟨H0, H1, H2, H3, H6⟩, HSI⟩
  ihave H := (read_buf s' _ _) $$ [HSI H0]; · isplitl [HSI] <;> iassumption
  icases H with ⟨%h0, HSI⟩
  ihave H := (read_buf s' _ _) $$ [HSI H1]; · isplitl [HSI] <;> iassumption
  icases H with ⟨%h1, HSI⟩
  ihave H := (read_buf s' _ _) $$ [HSI H2]; · isplitl [HSI] <;> iassumption
  icases H with ⟨%h2, HSI⟩
  ihave H := (read_buf s' _ _) $$ [HSI H3]; · isplitl [HSI] <;> iassumption
  icases H with ⟨%h3, HSI⟩
  ihave H := (read_buf s' _ _) $$ [HSI H6]; · isplitl [HSI] <;> iassumption
  icases H with ⟨%h6, -⟩
  ipureintro
  refine ⟨fun b hb => ?_, h6⟩
  rcases hb with rfl | rfl | rfl | rfl <;> assumption

/-- Every terminal state: the arguments as launched, the result at the convolution, the counters at zero. -/
def QC : PUnit × MemSt nD τ sig (Elt F) → Prop := fun r =>
  (∀ c : Dev nD, (∀ b : Ref sig .tc, (b = main_arg0 ∨ b = main_arg1 ∨ b = main_arg2 ∨ b = main_arg3) → r.2.mem ((SparseCore.T c : Thread nD τ).loc b) = arg m c b)
    ∧ r.2.mem ((SparseCore.T c : Thread nD τ).loc main_v6) = res m c) ∧ r.2.sem = fun _ => 0

/-- The run, for any float values and any launch memory whose list names rows of the table. -/
theorem run_main [∀ e, Nonempty (Elt F e)] (hI : ∀ d, ListOK (Iv m d)) :
    θ_run (Cert.ConvIdeal.defs (F := F)) (Cert.ConvIdeal.threads (F := F)) ⟨m, fun _ => 0, ρ⟩ (QC m) :=
  SparseCore.Cfg.θ_run_sc_quiescent (K := K (F := F)) (D := D (F := F)) (𝒱 := 𝒱) (EH := EH) (P := P (Xv m) (Iv m) (Ov m)) (A := ∅) facts v₀
    (fun q hq => match q with | 0 => nomatch hq)
    (fun q _ => match q with | 0 => tileObl (Xv m) (Iv m) (Ov m) hI)
    (fun q _ => match q with | 0 => SparseCore.Cfg.VecSplit.of_plain (vecSplit (Xv m) (Iv m) (Ov m)))
    m ρ main G (FIN m) (u₀ (F := F)) (sep_elim_left.trans (hu₀ (Xv m) (Iv m) (Ov m))) (hmain m ρ) (fq m) (hfin m) (QC m) (fun _ h hz => ⟨h, hz⟩)

end Cert.Proof.Conv

end
-- ==== Proof.ConvValue.lean ====
/-
  The two-call program's result at the extended reals, index by index, and the reference's: both are the sum over the
  channels of weight times gathered entry, and the bias. What the precondition says of the list of row numbers.
-/
module

public import proofs.«01_k».proof.Proof.ConvRun
public import proofs.«01_k».proof.Proof.Gen.ConvRefIdeal.Run
public import proofs.«01_k».proof.Proof.Gen.Pre_idx_in_range
public import Idealize.ShloMosaic.Lib.Pointwise
public import Idealize.ShloMosaic.Lib.ReduceAll
public import Idealize.ShloMosaic.Lib.StableHlo.Predicate

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The precondition -/

/-- A word that is at least 0 and below 65536 as a signed number is below 65536 as a natural one. -/
theorem word_lt {v : BitVec 32} (h : IntOp.andi (IntOp.cmpi .sge v 0#32) (IntOp.cmpi .slt v 65536#32) = 1#1) : v.toNat < 65536 := by
  have andB (p q : Bool) : IntOp.andi (BitVec.ofBool p) (BitVec.ofBool q) = BitVec.ofBool (p && q) := by cases p <;> cases q <;> decide
  have oneB (p : Bool) : (BitVec.ofBool p = 1#1) ↔ p = true := by cases p <;> decide
  simp only [IntOp.cmpi, andB, oneB, Bool.and_eq_true, BitVec.sle_eq_decide, BitVec.slt_eq_decide,
    decide_eq_true_eq, BitVec.toInt_eq_toNat_cond, BitVec.toNat_ofNat, Nat.reducePow, Nat.reduceMod] at h
  omega

/-- The precondition says that every word of the list names a row of the table. -/
theorem words_of_pre (idx : IVec Cert.Pre_idx_in_range.S8x8x128 32) (x : FVec F Cert.Pre_idx_in_range.S8x128x8192 .f32)
    (w : FVec F Cert.Pre_idx_in_range.S256x128 .f32) (b : FVec F Cert.Pre_idx_in_range.S256 .f32) [FloatOps F]
    (h : Cert.Pre_idx_in_range.fn (F := F) idx x w b = fun _ => 1#1) (i : Cert.Pre_idx_in_range.S8x8x128.Idx) : (idx i).toNat < 65536 := by
  haveI : Subsingleton Cert.Pre_idx_in_range.S_.Idx := ⟨fun a b => funext fun k => k.elim0⟩
  exact word_lt (Host.reduce_andi_all _ _ _ _ (fun k => k.elim0) (congrFun h _) i)

/-- The list as the program flattens it: its words are the argument's. -/
theorem listOK_of_words [FloatOps F] (m : (ℓ : Loc nD τ sig) → Buf (Elt F) ℓ) (d : Dev nD) (h : ∀ i, (arg m d main_arg0 i : BitVec 32).toNat < 65536) :
    ListOK (Iv m d) := fun j => h _

/-! ## The result at the extended reals -/

/-- The row of the table that word `w` names. -/
abbrev rowOf (w : BitVec 32) : Fin 65536 := ⟨w.toNat % 65536, Nat.mod_lt _ (by decide)⟩

/-- What both programs compute: at batch `b`, output channel `o` and sample `p`, the sum over the input channels of
    weight times the entry of the sample's row in the table `T`, and the bias. -/
def spec (T : Vec Ideal S65536x128 .f32) (I : IVec S8x8x128 32) (W : Vec Ideal S256x128 .f32) (B : Vec Ideal S256 .f32) : Vec Ideal S8x256x1024 .f32 :=
  fun i => (∑ k : Fin 128, W (ix2 (i 1) k) * T (ix2 (rowOf (I (ix3 (i 0) ⟨(i 2).val / 128, by have : (i 2).val < 1024 := (i 2).isLt; omega⟩ ⟨(i 2).val % 128, Nat.mod_lt _ (by decide)⟩))) k))
    + B (ix1 (i 1))

set_option maxRecDepth 16384 in
/-- The convolution at an index: the channels' products summed, and the bias. -/
theorem mmOut_apply (W : Vec Ideal S256x128 .f32) (X : Vec Ideal S8x1024x128 .f32) (B : Vec Ideal S256x1 .f32) (b : Fin 8) (o : Fin 256) (p : Fin 1024) :
    mmOut W X B (ix3 b o p) = (∑ k : Fin 128, W (ix2 o k) * X (ix3 b p k)) + B (ix2 o 0) := by
  unfold mmOut
  pointwise [k1_pay2, slab]
  simp only [← ix3_eq_valueIdx, ix3_1, ix3_2]

/-- A gathered row at an index. -/
theorem gat_apply {α : Type} (T : S65536x128.Idx → α) (I : S64x128.Idx → BitVec 32) (r : Fin 8192) (k : Fin 128) :
    gat T I (ix2 r k) = T (ix2 (rowOf (I (ix2 ⟨r.val / 128, by omega⟩ ⟨r.val % 128, Nat.mod_lt _ (by decide)⟩))) k) := by
  unfold gat
  simp only [← ix2_eq_valueIdx, ix2_0, ix2_1]

set_option maxRecDepth 16384 in
/-- The kernel's result is what both programs compute. -/
theorem kernel_eq (T : Vec Ideal S65536x128 .f32) (I : IVec S8x8x128 32) (W : Vec Ideal S256x128 .f32) (B : Vec Ideal S256 .f32) :
    mmOut W (shapeCast S8x1024x128 (gat T (shapeCast S64x128 I shapeCasts_S8x8x128_S64x128)) shapeCasts_S8192x128_S8x1024x128)
      (shapeCast S256x1 B shapeCasts_S256_S256x1) = spec T I W B := by
  funext i
  idx_vars i
  rw [mmOut_apply]
  unfold spec
  pointwise [gat_apply]
  have h1 : (i0.val * 1024 + i2.val) / 128 % 8 = i2.val / 128 := by omega
  have h2 : (i0.val * 1024 + i2.val) % 128 = i2.val % 128 := by omega
  simp only [h1, h2]

/-- The take's dimension numbers. -/
abbrev GD : GatherDims Cert.ConvRefIdeal.S65536x128 Cert.ConvRefIdeal.S8x1024x1 Cert.ConvRefIdeal.S8x1024x128 :=
  Cert.ConvRefIdeal.gather_S65536x128_S8x1024x1_S8x1024x128_2_0_n_n_0_2_1128

/-- The reference's take at an index: the table's row that the word there names, read signed and held within the table. -/
theorem take_apply {α : Type} (T : Cert.ConvRefIdeal.S65536x128.Idx → α) (J : IVec Cert.ConvRefIdeal.S8x1024x1 32) (b : Fin 8) (p : Fin 1024) (k : Fin 128) :
    Host.gather Cert.ConvRefIdeal.gather_S65536x128_S8x1024x1_S8x1024x128_2_0_n_n_0_2_1128 T J (ix3 b p k)
      = T (ix2 ⟨min (J (ix3 b p 0)).toInt.toNat 65535, by omega⟩ k) := by
  unfold Host.gather
  refine congrArg T (funext fun a => Fin.ext ?_)
  match a with
  | ⟨0, _⟩ =>
    show GD.start (ix3 b p k) J 0 + GD.batchCoord (ix3 b p k) 0 + GD.offCoord (ix3 b p k) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 2) ∈ GD.startIndexMap from List.mem_singleton.mpr rfl)]
    rw [show GD.siIdx (ix3 b p k) ⟨List.idxOf (0 : Fin 2) GD.startIndexMap, List.idxOf_lt_length_iff.2 (List.mem_singleton.mpr rfl)⟩ = ix3 b p 0 from
      funext fun | ⟨0, _⟩ => Fin.ext rfl | ⟨1, _⟩ => Fin.ext rfl | ⟨2, _⟩ => Fin.ext rfl]
    rfl
  | ⟨1, _⟩ =>
    show GD.start (ix3 b p k) J 1 + GD.batchCoord (ix3 b p k) 1 + GD.offCoord (ix3 b p k) 1 = k.val
    rw [GatherDims.batchCoord_eq_zero _ _ _ List.not_mem_nil]
    unfold GatherDims.start
    rw [dif_neg (show (1 : Fin 2) ∉ GD.startIndexMap by decide)]
    show 0 + 0 + _ = _
    rw [Nat.zero_add]; rfl

set_option maxRecDepth 16384 in
/-- The reference's result is what both programs compute, for a list whose words name rows of the table. -/
theorem reference_eq (T : Vec Ideal S65536x128 .f32) (I : IVec S8x8x128 32) (W : Vec Ideal S256x128 .f32) (B : Vec Ideal S256 .f32)
    (hI : ∀ i, (I i).toNat < 65536) :
    (addf (F := Ideal) (φ := .f32) (transpose Cert.ConvRefIdeal.S8x256x1024 [0, 2, 1]
        (Host.dotGeneral (φ₁ := .f32) (φ₂ := .f32) Cert.ConvRefIdeal.dot_S8x1024x128_S256x128_S8x1024x256_2_1_01_0_n_n none
          (Host.gather (α := Elt Ideal .f32) Cert.ConvRefIdeal.gather_S65536x128_S8x1024x1_S8x1024x128_2_0_n_n_0_2_1128 T
            (broadcastInDim Cert.ConvRefIdeal.S8x1024x1 ![0, 1] Cert.ConvRefIdeal.Facts₀.bcast_S8x1024_S8x1024x1_0_1
              (shapeCast _ I Cert.ConvRefIdeal.Facts₀.shapeCasts_S8x8x128_S8x1024))) W)
          Cert.ConvRefIdeal.Facts₀.transposes_S8x1024x256_S8x256x1024_0_2_1)
      (broadcastInDim Cert.ConvRefIdeal.S8x256x1024 ![0, 1, 2] Cert.ConvRefIdeal.Facts₀.bcast_S1x256x1_S8x256x1024_0_1_2
        (broadcastInDim Cert.ConvRefIdeal.S1x256x1 ![1] Cert.ConvRefIdeal.Facts₀.bcast_S256_S1x256x1_1 B)) : Vec Ideal S8x256x1024 .f32) = spec T I W B := by
  funext i
  idx_vars i
  unfold spec
  pointwise [take_apply]
  refine congrArg (· + B (ix1 i1)) (Finset.sum_congr rfl fun x _ => ?_)
  rw [mul_comm]
  have hw := hI (ix3 i0 ⟨i2.val / 128, by omega⟩ ⟨i2.val % 128, by omega⟩)
  refine congrArg (fun r : Fin 65536 => W (ix2 i1 x) * T (ix2 r x)) (Fin.ext ?_)
  show min (BitVec.toInt _).toNat 65535 = _ % 65536
  rw [BitVec.toInt_eq_toNat_of_lt (by omega)]
  omega

end Cert.Proof.Conv

end
-- ==== Proof.ConvClaims.lean ====
/-
  The claims about the two-call program: its frames at bits and at the extended reals, and its equality with the
  reference at the extended reals.
-/
module

public import proofs.«01_k».proof.Proof.ConvValue
public import proofs.«01_k».proof.Proof.Gen.Conv

@[expose] public section

noncomputable section

namespace Cert.Proof.Conv

open Cert.ConvIdeal Cert.ConvIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The precondition, at the words of the list. -/
theorem list_ok [FloatOps F] (m : (ℓ : Loc nD τ sig) → Buf (Elt F) ℓ)
    (h : ∀ c : Dev nD, Cert.Pre_idx_in_range.fn (F := F) (arg m c main_arg0) (arg m c main_arg1) (arg m c main_arg2) (arg m c main_arg3) = fun _ => 1#1)
    (d : Dev nD) : ListOK (Iv m d) := listOK_of_words m d (words_of_pre _ _ _ _ (h d))

/-- What the run says, claim by claim: the arguments kept. -/
theorem args_kept [FloatOps F] {m : (ℓ : Loc nD τ sig) → Buf (Elt F) ℓ} {r : PUnit × MemSt nD τ sig (Elt F)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c).1 main_arg0 (by decide), (h.1 c).1 main_arg1 (by decide), (h.1 c).1 main_arg2 (by decide), (h.1 c).1 main_arg3 (by decide)⟩

/-- The program at the extended reals runs to a quiescent end, its arguments kept. -/
theorem frame_ideal : Cert.quiescent_ConvIdeal := fun m ρ hpre =>
  (θ_run Cert.ConvIdeal.defs _ _).mono (fun _ h => ⟨args_kept h, h.2⟩) (run_main (F := Ideal) m ρ (list_ok m hpre))

/-- The two printings call the same bodies, label by label. -/
theorem bodies_eq [FloatOps F] : Cert.Conv.defs₀ (F := F) = Cert.ConvIdeal.defs₀ := by
  funext u ℓ a
  match ℓ, a with
  | 0, _ => cases u <;> rfl
  | 1, (_, _) => cases u <;> rfl

/-- So they are the same program. -/
theorem defs_eq [FloatOps F] : Cert.Conv.defs (F := F) = Cert.ConvIdeal.defs :=
  congrArg (fun D => Cert.ConvIdeal.sc.defs (Pipeline.defs Cert.ConvIdeal.pcfgs D)) bodies_eq

/-- The program at bits — the same text — runs to a quiescent end, its arguments kept. -/
theorem frame_bits : Cert.quiescent_Conv := by
  intro m ρ hpre
  rw [defs_eq]
  exact (θ_run Cert.ConvIdeal.defs _ _).mono (fun _ h => ⟨args_kept h, h.2⟩) (run_main (F := Bits) m ρ (list_ok m hpre))

/-- The reference runs to a quiescent end, its arguments kept: it has no semaphore. -/
theorem frame_ref : Cert.quiescent_ConvRefIdeal := fun m ρ _ =>
  (θ_run Cert.ConvRefIdeal.defs _ _).mono (fun r h => ⟨fun c => (h c).2, sem_eq_zero_of_no_sems (by decide) r.2⟩)
    (Cert.ConvRefIdeal.Value.run (F := Ideal) m ρ)

/-- Both programs, from the same arguments, end with the same result at the extended reals. -/
theorem algebraic : Cert.algebraic_ConvIdeal_ConvRefIdeal := fun m ρ m' ρ' hpre hagree =>
  ⟨fun c => res m c,
    (θ_run Cert.ConvIdeal.defs _ _).mono (fun _ h c => ⟨(h.1 c).2, args_kept h c⟩) (run_main (F := Ideal) m ρ (list_ok m hpre)),
    (θ_run Cert.ConvRefIdeal.defs _ _).mono (fun _ h c => ⟨(h c).1.trans (by
      obtain ⟨e0, e1, e2, e3⟩ := hagree c
      rw [e0, e1, e2, e3]
      exact (reference_eq _ _ _ _ (words_of_pre _ _ _ _ (hpre c))).trans (kernel_eq _ _ _ _).symm), (h c).2⟩) (Cert.ConvRefIdeal.Value.run m' ρ')⟩

end Cert.Proof.Conv

end
-- ==== Proof.FullBase.lean ====
/-
  The whole program (sampling, gather, product) as the launch theorem sees it: its call configuration, the ghost algebra,
  the buffers the gather touches, and the cut of those buffers over the thirty-two tiles.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The pipeline's rounds: the left factor of the right half. -/
def EP : Emb UP (MT nD τ sig (HIx 1) (Elt F) ℕ UU ℕ) := (Emb.inl : Emb UP (UP × Counters)).trans embR

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The gather's buffers -/

/-- The list of row numbers, the table of rows, and the gathered rows, as the TensorCore names them. -/
abbrev iLoc (d : Dev nD) : Loc nD τ sig := (SparseCore.T d).loc main_v19
abbrev xLoc (d : Dev nD) : Loc nD τ sig := (SparseCore.T d).loc main_v18
abbrev oLoc (d : Dev nD) : Loc nD τ sig := (SparseCore.T d).loc main_v20

/-- The rows of `T` that the words of `I` name, in row-major order of `I`: row `j` of the result is the row of `T`
    numbered by word `j % 128` of row `j / 128` of `I`. -/
def gat {α : Type} (T : S65536x128.Idx → α) (I : S64x128.Idx → BitVec 32) : S8192x128.Idx → α := fun j =>
  T (ix2 ⟨(I (ix2 ⟨(j 0).val / 128, by have := idx2_lt0 j; omega⟩ ⟨(j 0).val % 128, Nat.mod_lt _ (by decide)⟩)).toNat % 65536,
    Nat.mod_lt _ (by decide)⟩ (j 1))

/-- Every word of the list names a row of the table. -/
def ListOK (I : S64x128.Idx → BitVec 32) : Prop := ∀ j, (I j).toNat < 65536

/-! ## The cut over the tiles: tile `i` of SparseCore `c` takes part `2 i + c` of thirty-two -/

theorem idiv : 32 ∣ S64x128.size 0 := ⟨2, rfl⟩
theorem odiv : 32 ∣ S8192x128.size 0 := ⟨256, rfl⟩
abbrev irow (w : Fin 32) : Rect S64x128 := Rect.part (s := S64x128) (a₀ := 0) idiv w
abbrev orow (w : Fin 32) : Rect S8192x128 := Rect.part (s := S8192x128) (a₀ := 0) odiv w
abbrev iRowSet (w : Fin 32) : Finset S64x128.Idx := (irow w).set
abbrev oRowSet (w : Fin 32) : Finset S8192x128.Idx := (orow w).set
/-- Part `w`'s share of the table: one of the full share's thirty-two leaves. -/
abbrev xq (w : Fin 32) : PosShare TreeShare := leaf 5 fullShare w

/-- The part that tile `i` of SparseCore `c` takes. -/
def wid (c : Fin 2) (i : Fin 16) : Fin 32 := ⟨2 * i.val + c.val, by omega⟩

abbrev iRowPts (I : (d : Dev nD) → Buf (Elt F) (iLoc d)) (d : Dev nD) (w : Fin 32) : sProp 𝕄 := iLoc d ↦[iRowSet w]{fullShare} I d
abbrev xShPts (T : (d : Dev nD) → Buf (Elt F) (xLoc d)) (d : Dev nD) (w : Fin 32) : sProp 𝕄 := xLoc d ↦{xq w} T d
abbrev oRowPts (O : (d : Dev nD) → Buf (Elt F) (oLoc d)) (d : Dev nD) (w : Fin 32) : sProp 𝕄 := oLoc d ↦[oRowSet w]{fullShare} O d

/-- What the gather leaves in the result's buffer. -/
abbrev gOut (T : (d : Dev nD) → Buf (Elt F) (xLoc d)) (I : (d : Dev nD) → Buf (Elt F) (iLoc d)) (d : Dev nD) : Buf (Elt F) (oLoc d) :=
  gat (α := Elt F .f32) (T d) (I d)

/-- What part `w`'s tile is handed, and what it brings back: its rows of the list, its share of the table, and its
    block of the result — at what it held, and at the gathered rows. -/
abbrev goPts (T : (d : Dev nD) → Buf (Elt F) (xLoc d)) (I : (d : Dev nD) → Buf (Elt F) (iLoc d)) (O : (d : Dev nD) → Buf (Elt F) (oLoc d))
    (d : Dev nD) (w : Fin 32) : sProp 𝕄 := iprop(iRowPts I d w ∗ xShPts T d w ∗ oRowPts O d w)

end Cert.Proof.Full

end
-- ==== Proof.FullTile.lean ====
/-
  One tile's task of the gather: it fetches its two rows of the list, transfers the named rows of the table into its
  row scratch by two indirect gathers of 128 rows, and writes its 256 rows out. The claim carries the value: the tile's
  block of the result ends at the named rows.
-/
module

public import proofs.«01_k».proof.Proof.FullBase

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "xV" => (Memref.whole Cert.KernelIdeal.main_v18_scv : Memref Cert.KernelIdeal.sig Kind.scVector Space.hbm Cert.KernelIdeal.S65536x128 EltTy.f32)
local notation "iV" => (Memref.whole Cert.KernelIdeal.main_v19_scv : Memref Cert.KernelIdeal.sig Kind.scVector Space.hbm Cert.KernelIdeal.S64x128 EltTy.i32)
local notation "oV" => (Memref.whole Cert.KernelIdeal.main_v20_scv : Memref Cert.KernelIdeal.sig Kind.scVector Space.hbm Cert.KernelIdeal.S8192x128 EltTy.f32)
local notation "sV" => (Memref.whole Cert.KernelIdeal.cc1_scratch0 : Memref Cert.KernelIdeal.sig Kind.scVector Space.vmem Cert.KernelIdeal.S2x128 EltTy.i32)
local notation "rV" => (Memref.whole Cert.KernelIdeal.cc1_scratch1 : Memref Cert.KernelIdeal.sig Kind.scVector Space.vmem Cert.KernelIdeal.S256x128 EltTy.f32)

variable (d : Dev nD) (L : grid1.Coords)

/-! ## The views the task addresses -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The part the task at coordinates `L` takes. -/
def wL (L : grid1.Coords) : Fin 32 := wid (Fin.cast bound_zero (L 0)) (Fin.cast bound_one (L 1))
theorem wL_val : (wL L).val = 2 * (L 1).val + (L 0).val := rfl

abbrev irowK (L : grid1.Coords) : Rect S64x128 := Rect.unit (s := S64x128) (k1_off1 L) S2x128.size (k1_off1_inb L)
abbrev orowK (L : grid1.Coords) : Rect S8192x128 := Rect.unit (s := S8192x128) (k1_off2 L) S256x128.size (k1_off2_inb L)
abbrev iRowK (L : grid1.Coords) : Memref sig .scVector .hbm S2x128 .i32 := (iV).slice (irowK L) (fun _ => rfl)
abbrev oRowK (L : grid1.Coords) : Memref sig .scVector .hbm S256x128 .f32 := (oV).slice (orowK L) (fun _ => rfl)
abbrev xAllK : Memref sig .scVector .hbm S65536x128 .f32 := (xV).slice (Rect.unit (s := S65536x128) ![0, 0] S65536x128.size inb_S65536x128_S65536x128_0_0) (fun _ => rfl)
/-- The two halves of the row scratch, and the two rows of the fetched list. -/
abbrev rLo : Memref sig .scVector .vmem S128x128 .f32 := (rV).slice (Rect.unit (s := S256x128) ![0, 0] S128x128.size inb_S256x128_S128x128_0_0) (fun _ => rfl)
abbrev rHi : Memref sig .scVector .vmem S128x128 .f32 := (rV).slice (Rect.unit (s := S256x128) ![128, 0] S128x128.size inb_S256x128_S128x128_128_0) (fun _ => rfl)
abbrev lLo : Memref sig .scVector .vmem S128 .i32 := ((sV).slice (Rect.unit (s := S2x128) ![0, 0] S1x128.size inb_S2x128_S1x128_0_0) (fun _ => rfl)).squeeze S128 squeezes_S1x128_S128
abbrev lHi : Memref sig .scVector .vmem S128 .i32 := ((sV).slice (Rect.unit (s := S2x128) ![1, 0] S1x128.size inb_S2x128_S1x128_1_0) (fun _ => rfl)).squeeze S128 squeezes_S1x128_S128

theorem irowK_eq : irowK L = irow (wL L) := by
  unfold irowK irow Rect.part Rect.block
  congr 1 <;> funext a
  · rw [k1_off1_eq]
    match a with
    | 0 => simp [Shape.partIx, Shape.partSize, wL_val]; omega
    | 1 => simp [Shape.partIx, Shape.partSize]
  · match a with
    | 0 => simp [Shape.partSize]
    | 1 => simp [Shape.partSize]
theorem orowK_eq : orowK L = orow (wL L) := by
  unfold orowK orow Rect.part Rect.block
  congr 1 <;> funext a
  · rw [k1_off2_eq]
    match a with
    | 0 => simp [Shape.partIx, Shape.partSize, wL_val]; omega
    | 1 => simp [Shape.partIx, Shape.partSize]
  · match a with
    | 0 => simp [Shape.partSize]
    | 1 => simp [Shape.partSize]

theorem set_iRowK : (iRowK L).view.set = iRowSet (wL L) := by
  show ((View.whole (main_v19_scv : Ref sig .scVector)).slice (irowK L)).set = _
  rw [View.set_slice, irowK_eq]; exact Finset.map_refl
theorem set_oRowK : (oRowK L).view.set = oRowSet (wL L) := by
  show ((View.whole (main_v20_scv : Ref sig .scVector)).slice (orowK L)).set = _
  rw [View.set_slice, orowK_eq]; exact Finset.map_refl

theorem pts_iRowK (f : Buf (Elt F) (iLoc d)) :
    ((iRowK L).view.loc (V d (cV L) (jV L)) ↦[(iRowK L).view.set]{fullShare} f : sProp 𝕄) = iLoc d ↦[iRowSet (wL L)]{fullShare} f := by
  rw [set_iRowK]
theorem pts_oRowK (f : Buf (Elt F) (oLoc d)) :
    ((oRowK L).view.loc (V d (cV L) (jV L)) ↦[(oRowK L).view.set]{fullShare} f : sProp 𝕄) = oLoc d ↦[oRowSet (wL L)]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc1_scratch0)) :
    ((sV).view.loc (V d (cV L) (jV L)) ↦{fullShare} f : sProp 𝕄) = (V d (cV L) (jV L)).loc cc1_scratch0 ↦{fullShare} f := rfl
theorem pts_rV (f : Buf (Elt F) ((V d (cV L) (jV L)).loc cc1_scratch1)) :
    ((rV).view.loc (V d (cV L) (jV L)) ↦{fullShare} f : sProp 𝕄) = (V d (cV L) (jV L)).loc cc1_scratch1 ↦{fullShare} f := rfl

/-! ## The subcore's own buffers and semaphores -/

abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch2.sem)
abbrev cCcell (d : Dev nD) (c : Fin τ.nSC) (i : Fin τ.nSub) : GSem nD τ sig := (V d c i, .dma cc1_scoped1.sem)

theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-! ## What the task's buffers hold -/

/-- The index scratch once the list's two rows have landed in it. -/
abbrev lst (I : Buf (Elt F) (iLoc d)) (fs : Buf (Elt F) ((V d (cV L) (jV L)).loc cc1_scratch0)) : Buf (Elt F) ((V d (cV L) (jV L)).loc cc1_scratch0) :=
  View.write (Elt F) (sV).view fs ((iRowK L).view.read (Elt F) I) Finset.univ

/-- Entry `(r, c)` of the index scratch is the list's entry at the tile's row `r`. -/
theorem lst_apply (I : Buf (Elt F) (iLoc d)) (fs : Buf (Elt F) ((V d (cV L) (jV L)).loc cc1_scratch0)) (j : S2x128.Idx) :
    lst d L I fs j = I ((iRowK L).view.emb j) := by
  unfold lst
  rw [View.write_whole_univ]
  exact (View.read_apply _ _).trans (cast_eq _ _)

theorem inb_lo {I : Buf (Elt F) (iLoc d)} (hI : ListOK I) (fs : Buf (Elt F) ((V d (cV L) (jV L)).loc cc1_scratch0)) :
    ∀ x, ((lLo).view.read (Elt F) (lst d L I fs) x).toNat < S65536x128.size gathers_S65536x128_S128x128.axis := by
  intro x
  rw [show (lLo).view.read (Elt F) (lst d L I fs) x = lst d L I fs ((lLo).view.emb x) from (View.read_apply _ _).trans (cast_eq _ _), lst_apply]
  exact hI _
theorem inb_hi {I : Buf (Elt F) (iLoc d)} (hI : ListOK I) (fs : Buf (Elt F) ((V d (cV L) (jV L)).loc cc1_scratch0)) :
    ∀ x, ((lHi).view.read (Elt F) (lst d L I fs) x).toNat < S65536x128.size gathers_S65536x128_S128x128.axis := by
  intro x
  rw [show (lHi).view.read (Elt F) (lst d L I fs) x = lst d L I fs ((lHi).view.emb x) from (View.read_apply _ _).trans (cast_eq _ _), lst_apply]
  exact hI _

/-- The payloads of the two streams. -/
abbrev payLo (X : Buf (Elt F) (xLoc d)) {I : Buf (Elt F) (iLoc d)} (hI : ListOK I) (fs : Buf (Elt F) ((V d (cV L) (jV L)).loc cc1_scratch0)) : S128x128.Idx → Elt F .f32 :=
  SparseCore.gatherPayload gathers_S65536x128_S128x128 ((xAllK).view.read (Elt F) X)
    (SparseCore.rows ((lLo).view.read (Elt F) (lst d L I fs)) rfl (inb_lo d L hI fs))
abbrev payHi (X : Buf (Elt F) (xLoc d)) {I : Buf (Elt F) (iLoc d)} (hI : ListOK I) (fs : Buf (Elt F) ((V d (cV L) (jV L)).loc cc1_scratch0)) : S128x128.Idx → Elt F .f32 :=
  SparseCore.gatherPayload gathers_S65536x128_S128x128 ((xAllK).view.read (Elt F) X)
    (SparseCore.rows ((lHi).view.read (Elt F) (lst d L I fs)) rfl (inb_hi d L hI fs))

/-- The row scratch after the first stream, and after the second. -/
abbrev scr1 (X : Buf (Elt F) (xLoc d)) {I : Buf (Elt F) (iLoc d)} (hI : ListOK I) (fs : Buf (Elt F) ((V d (cV L) (jV L)).loc cc1_scratch0))
    (fr : Buf (Elt F) ((V d (cV L) (jV L)).loc cc1_scratch1)) : Buf (Elt F) ((V d (cV L) (jV L)).loc cc1_scratch1) :=
  View.write (Elt F) (rLo).view fr (payLo d L X hI fs) Finset.univ
abbrev scr2 (X : Buf (Elt F) (xLoc d)) {I : Buf (Elt F) (iLoc d)} (hI : ListOK I) (fs : Buf (Elt F) ((V d (cV L) (jV L)).loc cc1_scratch0))
    (fr : Buf (Elt F) ((V d (cV L) (jV L)).loc cc1_scratch1)) : Buf (Elt F) ((V d (cV L) (jV L)).loc cc1_scratch1) :=
  View.write (Elt F) (rHi).view (scr1 d L X hI fs fr) (payHi d L X hI fs) Finset.univ

/-! ## The values the streams land -/

/-- The payload of a stream whose list reads row `2 w + h` of the index array is rows `256 w + 128 h …` of the
    gathered array. -/
theorem payload_apply (X : Buf (Elt F) (xLoc d)) {I : Buf (Elt F) (iLoc d)} (hI : ListOK I) (w : Fin 32) (h : Fin 2) (rd : S128.Idx → Elt F .i32)
    (hrd : ∀ k, rd k = I (ix2 ⟨2 * w.val + h.val, by omega⟩ (k 0))) (hin : ∀ k, (rd k).toNat < S65536x128.size gathers_S65536x128_S128x128.axis) (x : S128x128.Idx) :
    SparseCore.gatherPayload gathers_S65536x128_S128x128 ((xAllK).view.read (Elt F) X) (SparseCore.rows rd rfl hin) x
      = gat X I (ix2 ⟨256 * w.val + 128 * h.val + (x 0).val, by have := idx2_lt0 x; omega⟩ (x 1)) := by
  have hx := idx2_lt0 x
  unfold SparseCore.gatherPayload gat
  rw [show ∀ z, (xAllK).view.read (Elt F) X z = X ((xAllK).view.emb z) from fun z => (View.read_apply _ _).trans (cast_eq _ _)]
  obtain ⟨k₀, hk₀⟩ : ∃ k₀ : S128.Idx, (k₀ 0).val = (x 0).val := ⟨(ix1 ⟨(x 0).val, hx⟩ : (⟨1, ![128]⟩ : Shape).Idx), rfl⟩
  have hk : ∀ q : Fin S128.numel, q.val = (x 0).val → S128.rowMajor.symm q = k₀ := fun q hq =>
    (Equiv.symm_apply_eq _).mpr (Fin.ext (hq.trans (hk₀.symm.trans (Shape.rowMajor_val_one (d := ![128]) k₀).symm)))
  refine congrArg X (funext fun a => Fin.ext ?_)
  match a with
  | 0 =>
    show 0 + 1 * (Shape.Gathers.idx gathers_S65536x128_S128x128 (SparseCore.rows rd rfl hin) x gathers_S65536x128_S128x128.axis).val = _
    rw [Shape.Gathers.idx_axis, Nat.zero_add, Nat.one_mul]
    show (rd (S128.rowMajor.symm ((x 0).cast rfl))).toNat = (I _).toNat % 65536
    refine (congrArg (fun k => (rd k).toNat) (hk _ rfl)).trans ?_
    rw [hrd, Nat.mod_eq_of_lt (hI _)]
    refine congrArg (fun j => (I j).toNat) (funext fun b => Fin.ext ?_)
    match b with
    | 0 => show 2 * w.val + h.val = (256 * w.val + 128 * h.val + (x 0).val) / 128; omega
    | 1 => show (k₀ 0).val = (256 * w.val + 128 * h.val + (x 0).val) % 128; omega
  | 1 =>
    show 0 + 1 * (Shape.Gathers.idx gathers_S65536x128_S128x128 (SparseCore.rows rd rfl hin) x 1).val = _
    rw [Shape.Gathers.idx_of_ne _ _ _ _ (by decide), Nat.zero_add, Nat.one_mul]; rfl

theorem emb_iRowK (h : Fin 2) (k : Fin 128) : (iRowK L).view.emb (ix2 h k) = ix2 ⟨2 * (wL L).val + h.val, by omega⟩ k := by
  refine funext fun a => Fin.ext ?_
  match a with
  | 0 =>
    show k1_off1 L 0 + 1 * h.val = 2 * (wL L).val + h.val
    rw [k1_off1_eq, wL_val]; simp; omega
  | 1 =>
    show k1_off1 L 1 + 1 * k.val = k.val
    rw [k1_off1_eq]; simp
theorem emb_oRowK (y : S256x128.Idx) : (oRowK L).view.emb y = ix2 ⟨256 * (wL L).val + (y 0).val, by have := idx2_lt0 y; omega⟩ (y 1) := by
  refine funext fun a => Fin.ext ?_
  match a with
  | 0 =>
    show k1_off2 L 0 + 1 * (y 0).val = 256 * (wL L).val + (y 0).val
    rw [k1_off2_eq, wL_val]; simp; omega
  | 1 =>
    show k1_off2 L 1 + 1 * (y 1).val = (y 1).val
    rw [k1_off2_eq]; simp

/-- A row of the index scratch as a list: its entry `k` is entry `k` of the row. -/
theorem squeeze_row (k : S128.Idx) : Shape.reshapeEquiv (s := S1x128) (s' := S128) squeezes_S1x128_S128.numel_eq k = ix2 0 (k 0) := by
  refine Shape.reshapeEquiv_eq_of_rowMajor _ ?_
  refine (Shape.rowMajor_val_two (d := ![1, 128]) (ix2 0 (k 0))).trans (Eq.trans ?_ (Shape.rowMajor_val_one (d := ![128]) k).symm)
  show 0 * 128 + (k 0).val = (k 0).val
  omega
theorem emb_lLo (k : S128.Idx) : (lLo).view.emb k = ix2 0 (k 0) := by
  show (Rect.unit (s := S2x128) ![0, 0] S1x128.size inb_S2x128_S1x128_0_0).emb (Shape.reshapeEquiv _ k) = _
  rw [squeeze_row]
  refine funext fun a => Fin.ext ?_
  match a with
  | 0 => rfl
  | 1 => show 0 + 1 * (k 0).val = (k 0).val; omega
theorem emb_lHi (k : S128.Idx) : (lHi).view.emb k = ix2 1 (k 0) := by
  show (Rect.unit (s := S2x128) ![1, 0] S1x128.size inb_S2x128_S1x128_1_0).emb (Shape.reshapeEquiv _ k) = _
  rw [squeeze_row]
  refine funext fun a => Fin.ext ?_
  match a with
  | 0 => rfl
  | 1 => show 0 + 1 * (k 0).val = (k 0).val; omega

/-- What the row scratch holds in the end is the gathered array's block of the tile. -/
theorem scr2_apply (X : Buf (Elt F) (xLoc d)) {I : Buf (Elt F) (iLoc d)} (hI : ListOK I) (fs : Buf (Elt F) ((V d (cV L) (jV L)).loc cc1_scratch0))
    (fr : Buf (Elt F) ((V d (cV L) (jV L)).loc cc1_scratch1)) (y : S256x128.Idx) :
    scr2 d L X hI fs fr y = gat X I (ix2 ⟨256 * (wL L).val + (y 0).val, by have := idx2_lt0 y; omega⟩ (y 1)) := by
  have hy := idx2_lt0 y
  by_cases h : (y 0).val < 128
  · have e : (rLo).view.emb (ix2 ⟨(y 0).val, h⟩ (y 1)) = y := funext fun a => Fin.ext (by
      match a with
      | 0 => show 0 + 1 * (y 0).val = _; omega
      | 1 => show 0 + 1 * (y 1).val = _; omega)
    have hn : y ∉ (rHi).view.setOn Finset.univ := by
      intro hm
      obtain ⟨x, -, hx⟩ := Finset.mem_map.mp hm
      have h0 : 128 + 1 * (x 0).val = (y 0).val := congrArg (fun z : S256x128.Idx => (z 0).val) hx
      omega
    refine (View.write_of_not_mem (v := (rHi).view) _ _ _ hn).trans ?_
    refine (congrArg (scr1 d L X hI fs fr) e.symm).trans ?_
    refine (View.write_emb_of_mem (v := (rLo).view) _ _ (Finset.mem_univ _)).trans ?_
    refine (cast_eq _ _).trans ((payload_apply d X hI (wL L) 0 _ (fun k => ?_) _ _).trans ?_)
    · exact ((View.read_apply _ _).trans (cast_eq _ _)).trans ((congrArg (lst d L I fs) (emb_lLo k)).trans
        ((lst_apply d L I fs _).trans (congrArg I (emb_iRowK L 0 (k 0)))))
    · rfl
  · have e : (rHi).view.emb (ix2 ⟨(y 0).val - 128, by omega⟩ (y 1)) = y := funext fun a => Fin.ext (by
      match a with
      | 0 => show 128 + 1 * ((y 0).val - 128) = _; omega
      | 1 => show 0 + 1 * (y 1).val = _; omega)
    refine (congrArg (scr2 d L X hI fs fr) e.symm).trans ?_
    refine (View.write_emb_of_mem (v := (rHi).view) _ _ (Finset.mem_univ _)).trans ?_
    refine (cast_eq _ _).trans ((payload_apply d X hI (wL L) 1 _ (fun k => ?_) _ _).trans ?_)
    · exact ((View.read_apply _ _).trans (cast_eq _ _)).trans ((congrArg (lst d L I fs) (emb_lHi k)).trans
        ((lst_apply d L I fs _).trans (congrArg I (emb_iRowK L 1 (k 0)))))
    · refine congrArg (gat X I) (funext fun a => Fin.ext ?_)
      match a with
      | 0 => show 256 * (wL L).val + 128 * 1 + ((y 0).val - 128) = 256 * (wL L).val + (y 0).val; omega
      | 1 => rfl

/-- The tile's block of the result, once the row scratch is copied out to it. -/
theorem out_eq (X : (d : Dev nD) → Buf (Elt F) (xLoc d)) (I : (d : Dev nD) → Buf (Elt F) (iLoc d)) (hI : ListOK (I d))
    (fo : Buf (Elt F) (oLoc d)) (fs : Buf (Elt F) ((V d (cV L) (jV L)).loc cc1_scratch0)) (fr : Buf (Elt F) ((V d (cV L) (jV L)).loc cc1_scratch1)) :
    ∀ i ∈ (oRowK L).view.set, (oRowK L).view.writes (Elt F) fo [⟨Rect.whole S256x128, (rV).view.read (Elt F) (scr2 d L (X d) hI fs fr)⟩] i = gOut X I d i := by
  intro i hi
  obtain ⟨y, -, rfl⟩ := Finset.mem_map.mp hi
  have ey : ((oRowK L).view.slice (Rect.whole S256x128)).emb y = (oRowK L).view.emb y := congrArg (oRowK L).view.emb (Rect.emb_whole_apply S256x128 y)
  rw [View.writes_singleton]
  refine (congrArg (View.write (Elt F) ((oRowK L).view.slice (Rect.whole S256x128)) fo _ Finset.univ) ey.symm).trans ?_
  refine (View.write_emb_of_mem (v := (oRowK L).view.slice (Rect.whole S256x128)) _ _ (Finset.mem_univ _)).trans ((cast_eq _ _).trans ?_)
  refine ((View.read_apply _ _).trans (cast_eq _ _)).trans ((scr2_apply d L (X d) hI fs fr y).trans ?_)
  exact congrArg (gat (X d) (I d)) (emb_oRowK L y).symm

set_option maxHeartbeats 4000000 in
/-- The task at coordinates `L`: both fetches' and both streams' transfers and waits by the executor and the stream's
    rule; the block of the result ends at the rows the two streams landed. -/
theorem tile_run (hF : (K (F := F)).Facts) [FloatOps F] (X : (d : Dev nD) → Buf (Elt F) (xLoc d)) (I : (d : Dev nD) → Buf (Elt F) (iLoc d))
    (O₀ : (d : Dev nD) → Buf (Elt F) (oLoc d)) (hI : ∀ d, ListOK (I d))
    (O : CellTallies nD τ sig (HIx 1)) (W : Waits sig (HIx 1)) (hO : ∀ g, O g none = 0) :
    iprop(levAts (K (F := F)).L (K (F := F)).lev ∗ emp
        ∗ (iRowPts I d (wL L) ∗ xShPts X d (wL L) ∗ oRowPts O₀ d (wL L))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L xV (Memref.isWhole_whole _) iV (Memref.isWhole_whole _) oV (Memref.isWhole_whole _)
            sV (Memref.isWhole_whole _) rV (Memref.isWhole_whole _) cc1_scratch2 cc1_scoped0 cc1_scoped1)
          fun _ => iprop((iRowPts I d (wL L) ∗ xShPts X d (wL L) ∗ oRowPts (gOut X I) d (wL L))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_gather_body_eq_skeleton]; unfold cc1__sc_gather_body_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hs' := (Entails.of_eq (show ((sV).view.loc (V d (cV L) (jV L)) ↦{fullShare} View.write (Elt F) (sV).view fs (tile_run.sl.dma0 d L I) Finset.univ : sProp 𝕄)
      = (sV).view.loc (V d (cV L) (jV L)) ↦{fullShare} lst d L (I d) fs from rfl)) $$ Hs'
  have hN : ∀ h : S65536x128.Gathers 0 S128x128, ∑ j, ((rLo).slice (S128x128.rowRect h.axis' j) (S128x128.stride_rowRect h.axis' j)).view.dmaCredit
      = (rLo).view.dmaCredit := fun h => SparseCore.sum_rowCredit_eq_dmaCredit _ _ fun _ => rfl
  have hN' : ∀ h : S65536x128.Gathers 0 S128x128, ∑ j, ((rHi).slice (S128x128.rowRect h.axis' j) (S128x128.stride_rowRect h.axis' j)).view.dmaCredit
      = (rHi).view.dmaCredit := fun h => SparseCore.sum_rowCredit_eq_dmaCredit _ _ fun _ => rfl
  ihave Hxs := (pointsTo_split_subset (q := xq (wL L)) (f := X d) (S := Finset.univ) (Finset.subset_univ (xAllK).view.set)).1 $$ Hx'
  icases Hxs with ⟨Hxs, Hxr⟩
  ihave Hrs := (pointsTo_split_subset (q := fullShare) (f := fr) (S := Finset.univ) (Finset.subset_univ (rLo).view.set)).1 $$ Hr'
  icases Hrs with ⟨Hrs, Hrr⟩
  ihave Hss := (pointsTo_split_subset (q := fullShare) (f := lst d L (I d) fs) (S := Finset.univ) (Finset.subset_univ (lLo).view.set)).1 $$ Hs'
  icases Hss with ⟨Hss, Hsr⟩
  iapply (SparseCore.wp_indirectGatherLocal countersEmb 𝒱₀ (V d (cV L) (jV L)) none (hg := gathers_S65536x128_S128x128) (default : HIx 1)
      (rLo).view.dmaCredit (hN _) (by decide) (inb_lo d L (hI d) fs)) $$ [Hxs Hrs Hss HsemB]
  · isplitl [Hxs]; · iexact Hxs
    isplitl [Hrs]; · iexact Hrs
    isplitl [Hss]; · iexact Hss
    iexact HsemB
  iintro Hfl
  sl_exec
  iapply (Transfers.wp_waitLocalO countersEmb 𝒱₀ (V d (cV L) (jV L)) none (default : HIx 1) (rfl : (rLo).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hrs, Hxs, Hss⟩, HsemB, HO⟩
  ihave Hrr' := (Entails.of_eq (SparseCore.pointsTo_rest_write (v := (rLo).view) (S := Finset.univ) (V d (cV L) (jV L)) fr (payLo d L (X d) (hI d) fs))) $$ Hrr
  ihave Hr' := (pointsTo_split_subset (q := fullShare) (f := scr1 d L (X d) (hI d) fs fr) (S := Finset.univ) (Finset.subset_univ (rLo).view.set)).2 $$ [Hrs Hrr']
  · isplitl [Hrs] <;> iassumption
  ihave Hs' := (pointsTo_split_subset (q := fullShare) (f := lst d L (I d) fs) (S := Finset.univ) (Finset.subset_univ (lLo).view.set)).2 $$ [Hss Hsr]
  · isplitl [Hss] <;> iassumption
  sl_exec
  ihave Hrs := (pointsTo_split_subset (q := fullShare) (f := scr1 d L (X d) (hI d) fs fr) (S := Finset.univ) (Finset.subset_univ (rHi).view.set)).1 $$ Hr'
  icases Hrs with ⟨Hrs, Hrr⟩
  ihave Hss := (pointsTo_split_subset (q := fullShare) (f := lst d L (I d) fs) (S := Finset.univ) (Finset.subset_univ (lHi).view.set)).1 $$ Hs'
  icases Hss with ⟨Hss, Hsr⟩
  iapply (SparseCore.wp_indirectGatherLocal countersEmb 𝒱₀ (V d (cV L) (jV L)) none (hg := gathers_S65536x128_S128x128) (default : HIx 1)
      (rHi).view.dmaCredit (hN' _) (by decide) (inb_hi d L (hI d) fs)) $$ [Hxs Hrs Hss HsemB]
  · isplitl [Hxs]; · iexact Hxs
    isplitl [Hrs]; · iexact Hrs
    isplitl [Hss]; · iexact Hss
    iexact HsemB
  iintro Hfl
  sl_exec
  iapply (Transfers.wp_waitLocalO countersEmb 𝒱₀ (V d (cV L) (jV L)) none (default : HIx 1) (rfl : (rHi).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hrs, Hxs, Hss⟩, HsemB, HO⟩
  ihave Hrr' := (Entails.of_eq (SparseCore.pointsTo_rest_write (v := (rHi).view) (S := Finset.univ) (V d (cV L) (jV L)) (scr1 d L (X d) (hI d) fs fr) (payHi d L (X d) (hI d) fs))) $$ Hrr
  ihave Hr' := (pointsTo_split_subset (q := fullShare) (f := scr2 d L (X d) (hI d) fs fr) (S := Finset.univ) (Finset.subset_univ (rHi).view.set)).2 $$ [Hrs Hrr']
  · isplitl [Hrs] <;> iassumption
  ihave Hs' := (pointsTo_split_subset (q := fullShare) (f := lst d L (I d) fs) (S := Finset.univ) (Finset.subset_univ (lHi).view.set)).2 $$ [Hss Hsr]
  · isplitl [Hss] <;> iassumption
  ihave Hx' := (pointsTo_split_subset (q := xq (wL L)) (f := X d) (S := Finset.univ) (Finset.subset_univ (xAllK).view.set)).2 $$ [Hxs Hxr]
  · isplitl [Hxs] <;> iassumption
  ihave Hr' := (Entails.of_eq (pts_rV (F := F) d L _).symm) $$ Hr'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    iapply (Entails.of_eq (pointsTo_congr (out_eq d L X I (hI d) (O₀ d) fs fr)))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  simp only [Finset.mem_insert] at hp
  rcases hp with hp | hp | hp | hp | hp
  · exact .inr (hp ▸ rfl)
  · exact .inr (hp ▸ rfl)
  · exact .inr (hp ▸ rfl)
  · exact .inr (hp ▸ rfl)
  · exact .inl hp

end Cert.Proof.Full

end
-- ==== Proof.FullCall.lean ====
/-
  The gather's call as the launch theorem asks for it: what the call takes and brings back, a tile's obligation from its
  task's run, and the whole arrays as the thirty-two tiles' parts.
-/
module

public import proofs.«01_k».proof.Proof.FullTile

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A tile's obligation -/

/-- The grid point of tile `s` of SparseCore `c`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector [FloatOps F] (c : Fin τ.nSC) (s : Fin τ.nSub) :
    defs₀ (F := F) (.scVector c s) 1 ()
      = SparseCore.onTile hcore1 hsub1 (fun c s => cc1__sc_gather_body (coordsV c s)
          (Memref.whole main_v18_scv) (Memref.isWhole_whole _) (Memref.whole main_v19_scv) (Memref.isWhole_whole _) (Memref.whole main_v20_scv) (Memref.isWhole_whole _)
          (Memref.whole cc1_scratch0) (Memref.isWhole_whole _) (Memref.whole cc1_scratch1) (Memref.isWhole_whole _) cc1_scratch2 cc1_scoped0 cc1_scoped1) ⟨⟩ c s := rfl

/-- A task's post gives the obligation's: its waits were at the kernel's own index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (X : (d : Dev nD) → Buf (Elt F) (xLoc d)) (I : (d : Dev nD) → Buf (Elt F) (iLoc d)) (O₀ : (d : Dev nD) → Buf (Elt F) (oLoc d))

/-- What the call takes and brings back: each tile its part of the three arrays, each SparseCore its sixteen tiles'. -/
def P : (K (F := F)).Pay (nD := nD) (Val := Elt F) (Name := ℕ) (U := UU) where
  st := fun q d c => match q with
    | 0 => bigSep Finset.univ fun i : Fin 16 => goPts X I O₀ d (wid (Fin.cast nCore_zero c) i)
  dn := fun q d c => match q with
    | 0 => bigSep Finset.univ fun i : Fin 16 => goPts X I (gOut X I) d (wid (Fin.cast nCore_zero c) i)
  go := fun q d c i => match q with | 0 => goPts X I O₀ d (wid (Fin.cast nCore_zero c) (Fin.cast nSub_zero i))
  td := fun q d c i => match q with | 0 => goPts X I (gOut X I) d (wid (Fin.cast nCore_zero c) (Fin.cast nSub_zero i))
  x := fun _ _ => iprop(emp)

instance P_storable : (P (F := F) X I O₀).IsStorable where
  st q d c := match q with
    | 0 => (inferInstance : BI.Storable (upEmb : UEmb _ 𝕄) (bigSep Finset.univ fun i : Fin 16 => goPts X I O₀ d (wid (Fin.cast nCore_zero c) i)))
  dn q d c := match q with
    | 0 => (inferInstance : BI.Storable (upEmb : UEmb _ 𝕄) (bigSep Finset.univ fun i : Fin 16 => goPts X I (gOut X I) d (wid (Fin.cast nCore_zero c) i)))
  go q d c i := match q with
    | 0 => (inferInstance : BI.Storable (upEmb : UEmb _ 𝕄) (goPts X I O₀ d (wid (Fin.cast nCore_zero c) (Fin.cast nSub_zero i))))
  td q d c i := match q with
    | 0 => (inferInstance : BI.Storable (upEmb : UEmb _ 𝕄) (goPts X I (gOut X I) d (wid (Fin.cast nCore_zero c) (Fin.cast nSub_zero i))))

set_option maxRecDepth 16384 in
/-- Every tile meets its obligation, at any contents whose list names rows of the table. -/
theorem tileObl [FloatOps F] (hI : ∀ d, ListOK (I d)) : (K (F := F)).TileObl (D (F := F)) 𝒱 (P X I O₀) v₀ 0 := by
  intro d c i O W hO _ _
  simp only [show (P X I O₀).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_run d (coordsV ⟨_, hci.1⟩ ⟨_, hci.2⟩) facts X I O₀ hI O W hO).trans (wp_mono frame _ _ fun _ => obl_post)

/-- A SparseCore's share of the call is its tiles' shares, handed out and gathered back. -/
theorem vecSplit : (K (F := F)).VecSplit' (P X I O₀) 0 := by
  intro d c
  show (bigSep Finset.univ fun i : Fin 16 => goPts X I O₀ d (wid (Fin.cast nCore_zero c) i)) ⊢ |={Set.univ}=> iprop(
      (bigSep Finset.univ fun i : Fin 16 => goPts X I O₀ d (wid (Fin.cast nCore_zero c) i))
      ∗ ((bigSep Finset.univ fun i : Fin 16 => goPts X I (gOut X I) d (wid (Fin.cast nCore_zero c) i))
          -∗ (bigSep Finset.univ fun i : Fin 16 => goPts X I (gOut X I) d (wid (Fin.cast nCore_zero c) i))))
  iintro H; imodintro
  isplitl [H]; · iexact H
  iintro H; iexact H

/-! ## The whole arrays as the tiles' parts -/

theorem idisj : ∀ i ∈ (Finset.univ : Finset (Fin 32)), ∀ j ∈ (Finset.univ : Finset (Fin 32)), i ≠ j → Disjoint (iRowSet i) (iRowSet j) :=
  fun _ _ _ _ h => Rect.part_disjoint idiv h
theorem odisj : ∀ i ∈ (Finset.univ : Finset (Fin 32)), ∀ j ∈ (Finset.univ : Finset (Fin 32)), i ≠ j → Disjoint (oRowSet i) (oRowSet j) :=
  fun _ _ _ _ h => Rect.part_disjoint odiv h
theorem icover : (Finset.univ : Finset (Fin 32)).biUnion iRowSet = Finset.univ := Rect.biUnion_part idiv
theorem ocover : (Finset.univ : Finset (Fin 32)).biUnion oRowSet = Finset.univ := Rect.biUnion_part odiv

/-- The parts, counted by SparseCore and tile. -/
def widEquiv : Fin 2 × Fin 16 ≃ Fin 32 where
  toFun p := wid p.1 p.2
  invFun w := (⟨w.val % 2, by omega⟩, ⟨w.val / 2, by omega⟩)
  left_inv p := by
    obtain ⟨c, i⟩ := p
    refine Prod.ext (Fin.ext ?_) (Fin.ext ?_)
    · show (2 * i.val + c.val) % 2 = c.val; omega
    · show (2 * i.val + c.val) / 2 = i.val; omega
  right_inv w := Fin.ext (by show 2 * (w.val / 2) + w.val % 2 = w.val; omega)

theorem bigSep_wid (Φ : Fin 32 → sProp 𝕄) :
    (bigSep Finset.univ fun c : Fin 2 => bigSep Finset.univ fun i : Fin 16 => Φ (wid c i)) = bigSep Finset.univ Φ := by
  rw [← SparseCore.bigSep_product Finset.univ Finset.univ (fun p : Fin 2 × Fin 16 => Φ (wid p.1 p.2)), Finset.univ_product_univ]
  have h := SparseCore.bigSep_image_of_injOn (s := Finset.univ) (f := widEquiv) widEquiv.injective.injOn Φ
  rw [Finset.image_univ_equiv] at h
  exact h.symm

/-- The three arrays whole are the tiles' parts of them. -/
theorem whole_parts (O : (d : Dev nD) → Buf (Elt F) (oLoc d)) (d : Dev nD) :
    (iprop((iLoc d ↦{fullShare} I d) ∗ (xLoc d ↦{fullShare} X d) ∗ oLoc d ↦{fullShare} O d) : sProp 𝕄)
      = bigSep Finset.univ fun c : Fin 2 => bigSep Finset.univ fun i : Fin 16 => goPts X I O d (wid c i) := by
  rw [bigSep_wid (F := F) (fun w => goPts X I O d w), bigSep_sep', bigSep_sep']
  rw [show (iLoc d ↦{fullShare} I d : sProp 𝕄) = bigSep Finset.univ fun w : Fin 32 => iLoc d ↦[iRowSet w]{fullShare} I d by
      rw [← pointsTo_biUnion Finset.univ (ℓ := iLoc d) iRowSet idisj, icover],
    show (oLoc d ↦{fullShare} O d : sProp 𝕄) = bigSep Finset.univ fun w : Fin 32 => oLoc d ↦[oRowSet w]{fullShare} O d by
      rw [← pointsTo_biUnion Finset.univ (ℓ := oLoc d) oRowSet odisj, ocover],
    show (xLoc d ↦{fullShare} X d : sProp 𝕄) = bigSep Finset.univ fun w : Fin 32 => xLoc d ↦{xq w} X d from
      pointsTo_leaves Finset.univ (X d) 5 fullShare]

theorem st_eq (d : Dev nD) : (bigSep Finset.univ fun c : Fin ((K (F := F)).nCore 0) => (P X I O₀).st 0 d c)
    = (iprop((iLoc d ↦{fullShare} I d) ∗ (xLoc d ↦{fullShare} X d) ∗ oLoc d ↦{fullShare} O₀ d) : sProp 𝕄) := (whole_parts X I O₀ d).symm
theorem dn_eq (d : Dev nD) : (bigSep Finset.univ fun c : Fin ((K (F := F)).nCore 0) => (P X I O₀).dn 0 d c)
    = (iprop((iLoc d ↦{fullShare} I d) ∗ (xLoc d ↦{fullShare} X d) ∗ oLoc d ↦{fullShare} gOut X I d) : sProp 𝕄) := (whole_parts X I (gOut X I) d).symm

end Cert.Proof.Full

end
-- ==== Proof.FpsOps.lean ====
/-
  What one step of the sampling computes, spelled once: the eight words, the rows picked, the coordinates, the squared distances,
  the next words, and the eight rows stored per buffer.
-/
module

public import proofs.«01_k».proof.Proof.FullBase

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## Buffers -/

/-- The contents of a buffer of the TensorCore. -/
abbrev Bf (c : Dev nD) {sp : Space} {S : Shape} {e : EltTy} (M : Memref sig .tc sp S e) : Type :=
  Buf (Elt F) (M.view.loc (c, Proc.tc (τ := τ)))
/-- The buffer whole, at contents `f`. -/
abbrev pt (c : Dev nD) {sp : Space} {S : Shape} {e : EltTy} (M : Memref sig .tc sp S e) (f : Bf (F := F) c M) : sProp 𝕄 :=
  M.view.loc (c, Proc.tc (τ := τ)) ↦{fullShare} f

/-! ## The words of the eight sampled points -/

/-- `w / 128`, rounded down, as the kernel spells it on signed words. -/
def fdiv (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 128#32 0#32)) (Scalar.extui (Scalar.cmpi .slt 128#32 0#32))))
      (Scalar.cmpi .ne (Scalar.remsi w 128#32) 0#32))
    (Scalar.subi (Scalar.divsi w 128#32) 1#32) (Scalar.divsi w 128#32)
/-- `w - 128 * (w / 128)`: the place of point `w` in its row. -/
def fmod (w : BitVec 32) : BitVec 32 := Scalar.subi w (Scalar.muli (fdiv w) 128#32)

/-- The eight words carried, one per batch. -/
def wds (x : IVec S8x1 32) : Fin 8 → BitVec 32 :=
  ![extractAt ![0, 0] (extractStridedSlice S1x1 ![0, 0] x slices_S8x1_o0_0_S1x1) inpos_S1x1_p0_0,
    extractAt ![0, 0] (extractStridedSlice S1x1 ![1, 0] x slices_S8x1_o1_0_S1x1) inpos_S1x1_p0_0,
    extractAt ![0, 0] (extractStridedSlice S1x1 ![2, 0] x slices_S8x1_o2_0_S1x1) inpos_S1x1_p0_0,
    extractAt ![0, 0] (extractStridedSlice S1x1 ![3, 0] x slices_S8x1_o3_0_S1x1) inpos_S1x1_p0_0,
    extractAt ![0, 0] (extractStridedSlice S1x1 ![4, 0] x slices_S8x1_o4_0_S1x1) inpos_S1x1_p0_0,
    extractAt ![0, 0] (extractStridedSlice S1x1 ![5, 0] x slices_S8x1_o5_0_S1x1) inpos_S1x1_p0_0,
    extractAt ![0, 0] (extractStridedSlice S1x1 ![6, 0] x slices_S8x1_o6_0_S1x1) inpos_S1x1_p0_0,
    extractAt ![0, 0] (extractStridedSlice S1x1 ![7, 0] x slices_S8x1_o7_0_S1x1) inpos_S1x1_p0_0]

/-- Row `w / 128` of slab `b` lies in the cloud. -/
abbrev Chk (b : ℕ) (w : BitVec 32) : Prop := ∀ a, (![b, (fdiv w).toNat, 0] : Fin 3 → ℕ) a + S1x1x128.size a ≤ S8x64x128.size a
/-- All eight rows do. -/
abbrev Chks (x : IVec S8x1 32) : Prop := ∀ b : Fin 8, Chk b (wds x b)

/-! ## The sampled points' coordinates -/

/-- The row of slab `b` that holds point `w`, read off the buffer. -/
def ldRow (c : Dev nD) (M : Memref sig .tc .vmem S8x64x128 .f32) (f : Bf (F := F) c M) (b : ℕ) (w : BitVec 32) (h : Chk b w) :
    Vec F S1x1x128 .f32 :=
  View.readAt (Elt F) M.view (Rect.unit (s := S8x64x128) ![b, (fdiv w).toNat, 0] S1x1x128.size h).toLoadRect f
/-- A row with every place but point `w`'s zeroed. -/
def pick (v0 : IVec S1x128 32) (w : BitVec 32) (V : Vec F S1x1x128 .f32) : FVec F S1x128 .f32 :=
  select (cmpi .eq v0 (broadcast S1x128 (fmod w))) (shapeCast S1x128 V shapeCasts_S1x1x128_S1x128)
    (broadcast S1x128 (Scalar.ofBits .f32 0x00000000#32))
/-- The eight such rows of one coordinate. -/
def pickAt (c : Dev nD) (M : Memref sig .tc .vmem S8x64x128 .f32) (f : Bf (F := F) c M) (v0 : IVec S1x128 32) (x : IVec S8x1 32)
    (h : Chks x) (b : Fin 8) : FVec F S1x128 .f32 :=
  pick v0 (wds x b) (ldRow c M f b (wds x b) (h b))
/-- One coordinate of the eight sampled points, along every lane: the rows one under the other, times a matrix. -/
def cent (v2 : FVec F S128x128 .f32) (r : Fin 8 → FVec F S1x128 .f32) : FVec F S8x128 .f32 :=
  matmul dot_S8x128_S128x128_S8x128_1_0_0_1_n_n (some .fp32)
    (concatenate S8x128 0 [⟨S1x128, r 0⟩, ⟨S1x128, r 1⟩, ⟨S1x128, r 2⟩, ⟨S1x128, r 3⟩, ⟨S1x128, r 4⟩, ⟨S1x128, r 5⟩, ⟨S1x128, r 6⟩, ⟨S1x128, r 7⟩]
      concatenates_S1x128_S1x128_S1x128_S1x128_S1x128_S1x128_S1x128_S1x128_S8x128_d0)
    v2 (constant S8x128 .f32 0x00000000#32)

/-! ## Distances and the next point -/

/-- One whole buffer, read. -/
abbrev ldAll (c : Dev nD) (M : Memref sig .tc .vmem S8x64x128 .f32) (f : Bf (F := F) c M) : Vec F S8x64x128 .f32 :=
  View.readAt (Elt F) M.view (Rect.unit (s := S8x64x128) ![0, 0, 0] S8x64x128.size inb_S8x64x128_S8x64x128_0_0_0).toLoadRect f
/-- A cloud's coordinate less the sampled points' coordinate. -/
def diff (X : Vec F S8x64x128 .f32) (C : FVec F S8x128 .f32) : FVec F S8x64x128 .f32 :=
  subf (shapeCast S8x64x128 X shapeCasts_S8x64x128_S8x64x128)
    (broadcastTo S8x64x128 (shapeCast S8x1x128 (shapeCast S8x1x128 C shapeCasts_S8x128_S8x1x128) shapeCasts_S8x1x128_S8x1x128)
      broadcasts_S8x1x128_S8x64x128)
/-- The squared distances to the sampled points. -/
def sqd (X Y Z : Vec F S8x64x128 .f32) (CX CY CZ : FVec F S8x128 .f32) : FVec F S8x64x128 .f32 :=
  addf (addf (mulf (diff X CX) (diff X CX)) (mulf (diff Y CY) (diff Y CY))) (mulf (diff Z CZ) (diff Z CZ))
/-- The next point's word per batch, of the distances and the minima so far: the place of the row maximum's maximum. -/
def nextW (v1 : IVec S8x64x128 32) (d : FVec F S8x64x128 .f32) (D : Vec F S8x64x128 .f32) : IVec S8x1 32 :=
  k0_pay2 (k0_pay58 d D) (k0_pay94 (k0_pay59 v1 d D)) (k0_pay95 (k0_pay58 d D))

/-! ## The rows written -/

/-- Row `b` of the values gathered so far. -/
def rowPiece {η : EltTy} (b : ℕ) (a : Vec F S8x128 η) (h : S8x128.Slices ![b, 0] S1x128) : Vec F S1x1x128 η :=
  shapeCast S1x1x128 (extractStridedSlice S1x128 ![b, 0] a h) shapeCasts_S1x128_S1x1x128
/-- Chunk `n` of every slab lies in the buffer. -/
abbrev InC (n : ℕ) : Prop := ∀ b : Fin 8, ∀ a, (![b.1, n, 0] : Fin 3 → ℕ) a + S1x1x128.size a ≤ S8x8x128.size a
/-- The eight stores of one trip: row `b` to chunk `n` of slab `b`, the last first. -/
def pcs {η : EltTy} (n : ℕ) (hn : InC n) (a : Vec F S8x128 η) : List (View.Piece (Elt F) S8x8x128 η) :=
  [⟨Rect.unit (s := S8x8x128) ![7, n, 0] S1x1x128.size (hn 7), rowPiece 7 a slices_S8x128_o7_0_S1x128⟩,
   ⟨Rect.unit (s := S8x8x128) ![6, n, 0] S1x1x128.size (hn 6), rowPiece 6 a slices_S8x128_o6_0_S1x128⟩,
   ⟨Rect.unit (s := S8x8x128) ![5, n, 0] S1x1x128.size (hn 5), rowPiece 5 a slices_S8x128_o5_0_S1x128⟩,
   ⟨Rect.unit (s := S8x8x128) ![4, n, 0] S1x1x128.size (hn 4), rowPiece 4 a slices_S8x128_o4_0_S1x128⟩,
   ⟨Rect.unit (s := S8x8x128) ![3, n, 0] S1x1x128.size (hn 3), rowPiece 3 a slices_S8x128_o3_0_S1x128⟩,
   ⟨Rect.unit (s := S8x8x128) ![2, n, 0] S1x1x128.size (hn 2), rowPiece 2 a slices_S8x128_o2_0_S1x128⟩,
   ⟨Rect.unit (s := S8x8x128) ![1, n, 0] S1x1x128.size (hn 1), rowPiece 1 a slices_S8x128_o1_0_S1x128⟩,
   ⟨Rect.unit (s := S8x8x128) ![0, n, 0] S1x1x128.size (hn 0), rowPiece 0 a slices_S8x128_o0_0_S1x128⟩]

/-! ## What one step computes -/

/-- The lane numbers, and the row numbers. -/
abbrev lanes : IVec S1x128 32 := iota .tc S1x128 32 [1] iota_S1x128_d1_w32
abbrev rowsI : IVec S8x64x128 32 := iota .tc S8x64x128 32 [1] iota_S8x64x128_d1_w32
/-- The lane that step `w` writes. -/
def atLane (v0 : IVec S1x128 32) (w : BitVec 32) : IVec S8x128 1 :=
  broadcastTo S8x128 (shapeCast S1x128 (cmpi .eq v0 (broadcast S1x128 (fmod w))) shapeCasts_S1x128_S1x128) broadcasts_S1x128_S8x128
/-- The step's coordinates, put at the step's lane. -/
def putC (v0 : IVec S1x128 32) (w : BitVec 32) (C a : FVec F S8x128 .f32) : FVec F S8x128 .f32 := select (atLane v0 w) C a
/-- The points' row numbers in the table of all batches, put at the step's lane. -/
def putI (v0 : IVec S1x128 32) (w : BitVec 32) (x : IVec S8x1 32) (a : IVec S8x128 32) : IVec S8x128 32 :=
  k0_pay51 x a (atLane v0 w) k0_pay4

end Cert.Proof.Full

end
-- ==== Proof.FpsTrip.lean ====
/-
  One trip of the sampling loop, run.
-/
module

public import proofs.«01_k».proof.Proof.FpsOps

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The word of trip `k`: the step it makes. -/
abbrev stepW (k : Fin k0_t1_loop.trips) : BitVec 32 := Scalar.addi (Scf.iv 0#32 1#32 k) 1#32
theorem inC_trip (k : Fin k0_t1_loop.trips) : InC (fdiv (stepW k)).toNat := fun b => match b with
  | 0 => k0_off17_inb k | 1 => k0_off18_inb k | 2 => k0_off19_inb k | 3 => k0_off20_inb k
  | 4 => k0_off21_inb k | 5 => k0_off22_inb k | 6 => k0_off23_inb k | 7 => k0_off24_inb k

set_option maxHeartbeats 4000000 in
/-- **One trip of the sampling loop**: from the points' words and the values gathered so far, the eight rows per buffer are stored,
    the distances are lowered by the new points, and the next words are the places of their maxima. -/
theorem tripRun (c : Dev nD)
    (M0 : Memref sig .tc .vmem S8x64x128 .f32) (h0 : M0.IsWhole) (M1 : Memref sig .tc .vmem S8x64x128 .f32) (h1 : M1.IsWhole)
    (M2 : Memref sig .tc .vmem S8x64x128 .f32) (h2 : M2.IsWhole) (M3 : Memref sig .tc .vmem S8x8x128 .i32) (h3 : M3.IsWhole)
    (M4 : Memref sig .tc .vmem S8x8x128 .f32) (h4 : M4.IsWhole) (M5 : Memref sig .tc .vmem S8x8x128 .f32) (h5 : M5.IsWhole)
    (M6 : Memref sig .tc .vmem S8x8x128 .f32) (h6 : M6.IsWhole) (M7 : Memref sig .tc .vmem S8x64x128 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (v0 : IVec S1x128 32) (v1 : IVec S8x64x128 32) (v2 : FVec F S128x128 .f32) (k : Fin k0_t1_loop.trips)
    (x : IVec S8x1 32) (a0 : IVec S8x128 32) (a1 a2 a3 : FVec F S8x128 .f32) (h : Chks x)
    (Q : IVec S8x1 32 × IVec S8x128 32 × FVec F S8x128 .f32 × FVec F S8x128 .f32 × FVec F S8x128 .f32 → sProp 𝕄) :
    let C0 := cent v2 (pickAt c M0 f0 v0 x h); let C1 := cent v2 (pickAt c M1 f1 v0 x h); let C2 := cent v2 (pickAt c M2 f2 v0 x h)
    let d := sqd (ldAll c M0 f0) (ldAll c M1 f1) (ldAll c M2 f2) C0 C1 C2
    iprop(pt c M0 f0 ∗ pt c M1 f1 ∗ pt c M2 f2 ∗ pt c M3 f3 ∗ pt c M4 f4 ∗ pt c M5 f5 ∗ pt c M6 f6 ∗ pt c M7 f7
      ∗ (∀ r, iprop(⌜r = (nextW v1 d (ldAll c M7 f7), putI v0 (stepW k) x a0, putC v0 (stepW k) C0 a1, putC v0 (stepW k) C1 a2, putC v0 (stepW k) C2 a3)⌝
          ∗ pt c M0 f0 ∗ pt c M1 f1 ∗ pt c M2 f2
          ∗ pt c M3 (M3.view.writes (Elt F) f3 (pcs (F := F) _ (inC_trip k) (putI v0 (stepW k) x a0)))
          ∗ pt c M4 (M4.view.writes (Elt F) f4 (pcs _ (inC_trip k) (putC v0 (stepW k) C0 a1)))
          ∗ pt c M5 (M5.view.writes (Elt F) f5 (pcs _ (inC_trip k) (putC v0 (stepW k) C1 a2)))
          ∗ pt c M6 (M6.view.writes (Elt F) f6 (pcs _ (inC_trip k) (putC v0 (stepW k) C2 a3)))
          ∗ pt c M7 (M7.view.writes (Elt F) f7 [⟨Rect.unit (s := S8x64x128) ![0, 0, 0] S8x64x128.size inb_S8x64x128_S8x64x128_0_0_0, k0_pay57 d (ldAll c M7 f7)⟩]))
        -∗ Q r))
    ⊢ wp frame (wpE (defs₀ (F := F)) Variants.none (T c) none) Set.univ
        (k0_t1_body M0 h0 M1 h1 M2 h2 M3 h3 M4 h4 M5 h5 M6 h6 M7 h7 v0 v1 v2 k (x, a0, a1, a2, a3)) Q := by
  have w9 : k0_chk9 (extractAt ![0, 0] (k0_pay5 x) inpos_S1x1_p0_0) := h 0
  have w10 : k0_chk10 (extractAt ![0, 0] (k0_pay10 x) inpos_S1x1_p0_0) := h 1
  have w11 : k0_chk11 (extractAt ![0, 0] (k0_pay15 x) inpos_S1x1_p0_0) := h 2
  have w12 : k0_chk12 (extractAt ![0, 0] (k0_pay20 x) inpos_S1x1_p0_0) := h 3
  have w13 : k0_chk13 (extractAt ![0, 0] (k0_pay26 x) inpos_S1x1_p0_0) := h 4
  have w14 : k0_chk14 (extractAt ![0, 0] (k0_pay31 x) inpos_S1x1_p0_0) := h 5
  have w15 : k0_chk15 (extractAt ![0, 0] (k0_pay38 x) inpos_S1x1_p0_0) := h 6
  have w16 : k0_chk16 (extractAt ![0, 0] (k0_pay43 x) inpos_S1x1_p0_0) := h 7
  intro C0 C1 C2 d
  iintro ⟨H0, H1, H2, H3, H4, H5, H6, H7, Hk⟩
  unfold k0_t1_body
  sl_exec_parts
  sl_step
  iapply Hk
  isplitr
  · ipureintro; rfl
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

end Cert.Proof.Full

end
-- ==== Proof.FpsHead.lean ====
/-
  The step before the sampling loop, run.
-/
module

public import proofs.«01_k».proof.Proof.FpsOps

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The first step's words: point 0 of every batch. -/
abbrev x0 : IVec S8x1 32 := broadcast S8x1 0#32
theorem chks_zero : Chks x0 := fun b => match b with
  | 0 => by decide | 1 => by decide | 2 => by decide | 3 => by decide | 4 => by decide | 5 => by decide | 6 => by decide | 7 => by decide
theorem inC_zero : InC 0 := by decide

set_option maxHeartbeats 4000000 in
/-- **The step before the loop**: the distances are set to the first value, and point 0 is sampled. -/
theorem headRun (c : Dev nD)
    (M0 : Memref sig .tc .vmem S8x64x128 .f32) (h0 : M0.IsWhole) (M1 : Memref sig .tc .vmem S8x64x128 .f32) (h1 : M1.IsWhole)
    (M2 : Memref sig .tc .vmem S8x64x128 .f32) (h2 : M2.IsWhole) (M3 : Memref sig .tc .vmem S8x8x128 .i32) (h3 : M3.IsWhole)
    (M4 : Memref sig .tc .vmem S8x8x128 .f32) (h4 : M4.IsWhole) (M5 : Memref sig .tc .vmem S8x8x128 .f32) (h5 : M5.IsWhole)
    (M6 : Memref sig .tc .vmem S8x8x128 .f32) (h6 : M6.IsWhole) (M7 : Memref sig .tc .vmem S8x64x128 .f32) (h7 : M7.IsWhole)
    (f0 : Bf (F := F) c M0) (f1 : Bf (F := F) c M1) (f2 : Bf (F := F) c M2) (f3 : Bf (F := F) c M3)
    (f4 : Bf (F := F) c M4) (f5 : Bf (F := F) c M5) (f6 : Bf (F := F) c M6) (f7 : Bf (F := F) c M7)
    (D : Vec F S8x64x128 .f32)
    (hD : M7.view.readCov (Val := Elt F) [⟨Rect.unit (s := S8x64x128) ![0, 0, 0] S8x64x128.size inb_S8x64x128_S8x64x128_0_0_0, k0_pay97⟩]
      (Rect.unit (s := S8x64x128) ![0, 0, 0] S8x64x128.size inb_S8x64x128_S8x64x128_0_0_0).toLoadRect = D)
    (Q : (Σ' (_ : IVec S1x128 32) (_ : IVec S8x64x128 32) (_ : FVec F S128x128 .f32) (_ : IVec S8x128 32) (_ : FVec F S8x128 .f32)
      (_ : FVec F S8x128 .f32) (_ : FVec F S8x128 .f32), FVec F S8 .f32) → sProp 𝕄) :
    let C0 := cent k0_pay96 (pickAt c M0 f0 lanes x0 chks_zero); let C1 := cent k0_pay96 (pickAt c M1 f1 lanes x0 chks_zero)
    let C2 := cent k0_pay96 (pickAt c M2 f2 lanes x0 chks_zero)
    let d := sqd (ldAll c M0 f0) (ldAll c M1 f1) (ldAll c M2 f2) C0 C1 C2
    let aI := putI lanes 0#32 x0 (broadcast S8x128 0#32)
    let z : FVec F S8x128 .f32 := broadcast S8x128 (Scalar.ofBits .f32 0x00000000#32)
    iprop(pt c M0 f0 ∗ pt c M1 f1 ∗ pt c M2 f2 ∗ pt c M3 f3 ∗ pt c M4 f4 ∗ pt c M5 f5 ∗ pt c M6 f6 ∗ pt c M7 f7
      ∗ (∀ r, iprop(⌜∃ v, r = ⟨lanes, rowsI, k0_pay96, aI, putC lanes 0#32 C0 z, putC lanes 0#32 C1 z, putC lanes 0#32 C2 z, v⟩ ∧ k0_pay1 v = nextW rowsI d D⌝
          ∗ pt c M0 f0 ∗ pt c M1 f1 ∗ pt c M2 f2
          ∗ pt c M3 (M3.view.writes (Elt F) f3 (pcs (F := F) 0 inC_zero aI))
          ∗ pt c M4 (M4.view.writes (Elt F) f4 (pcs 0 inC_zero (putC lanes 0#32 C0 z)))
          ∗ pt c M5 (M5.view.writes (Elt F) f5 (pcs 0 inC_zero (putC lanes 0#32 C1 z)))
          ∗ pt c M6 (M6.view.writes (Elt F) f6 (pcs 0 inC_zero (putC lanes 0#32 C2 z)))
          ∗ pt c M7 (M7.view.writes (Elt F) f7
              [⟨Rect.unit (s := S8x64x128) ![0, 0, 0] S8x64x128.size inb_S8x64x128_S8x64x128_0_0_0, k0_pay57 d D⟩,
                ⟨Rect.unit (s := S8x64x128) ![0, 0, 0] S8x64x128.size inb_S8x64x128_S8x64x128_0_0_0, k0_pay97⟩]))
        -∗ Q r))
    ⊢ wp frame (wpE (defs₀ (F := F)) Variants.none (T c) none) Set.univ
        (k0_part28 M0 h0 M1 h1 M2 h2 M3 h3 M4 h4 M5 h5 M6 h6 M7 h7) Q := by
  have w1 : k0_chk1 0#32 := chks_zero 0
  have w2 : k0_chk2 0#32 := chks_zero 1
  have w3 : k0_chk3 0#32 := chks_zero 2
  have w4 : k0_chk4 0#32 := chks_zero 3
  have w5 : k0_chk5 0#32 := chks_zero 4
  have w6 : k0_chk6 0#32 := chks_zero 5
  have w7 : k0_chk7 0#32 := chks_zero 6
  have w8 : k0_chk8 0#32 := chks_zero 7
  subst hD
  intro C0 C1 C2 d aI z
  iintro ⟨H0, H1, H2, H3, H4, H5, H6, H7, Hk⟩
  unfold k0_part28
  sl_exec_parts
  sl_step
  iapply Hk
  isplitr
  · ipureintro; exact ⟨_, rfl, rfl⟩
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  iexact H7

end Cert.Proof.Full

end
-- ==== Proof.FpsWords.lean ====
/-
  The row and the place in the row of a point's word.
-/
module

public import proofs.«01_k».proof.Proof.FpsOps

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## Words -/

set_option maxRecDepth 100000 in
theorem fdiv_all : ∀ n : Fin 8192, fdiv (BitVec.ofNat 32 n.val) = BitVec.ofNat 32 (n.val / 128) := by decide +kernel
set_option maxRecDepth 100000 in
theorem fmod_all : ∀ n : Fin 8192, fmod (BitVec.ofNat 32 n.val) = BitVec.ofNat 32 (n.val % 128) := by decide +kernel
theorem fdiv_toNat {n : ℕ} (h : n < 8192) : (fdiv (BitVec.ofNat 32 n)).toNat = n / 128 := by
  rw [fdiv_all ⟨n, h⟩, BitVec.toNat_ofNat]; exact Nat.mod_eq_of_lt (by show n / 128 < 2 ^ 32; omega)

end Cert.Proof.Full

end
-- ==== Proof.FarMath.lean ====
/-
  Farthest-point sampling, as mathematics: the point farthest from those sampled so far (the first, where several are), and the
  sequence of sampled points with the distances it keeps.
-/
module

public import Idealize.ShloMosaic.Lib.Pointwise

@[expose] public section

noncomputable section

namespace Cert.Proof.Fps

open Idealize.ShloMosaic

/-- `n` is the first place where `D` is greatest. -/
def IsFar (D : Fin 8192 → EReal) (n : Fin 8192) : Prop := (∀ m, D m ≤ D n) ∧ ∀ m, m < n → D m < D n

theorem IsFar.unique {D : Fin 8192 → EReal} {n m : Fin 8192} (hn : IsFar D n) (hm : IsFar D m) : n = m := by
  rcases lt_trichotomy n m with h | h | h
  · exact absurd (hn.1 m) (not_le.mpr (hm.2 n h))
  · exact h
  · exact absurd (hm.1 n) (not_le.mpr (hn.2 m h))

/-- There is one: the least of the places where the greatest value is taken. -/
theorem exists_isFar (D : Fin 8192 → EReal) : ∃ n, IsFar D n := by
  obtain ⟨m, hm⟩ := Finite.exists_max D
  have hne : (Finset.univ.filter fun n => ∀ k, D k ≤ D n).Nonempty := ⟨m, by simpa using hm⟩
  refine ⟨(Finset.univ.filter fun n => ∀ k, D k ≤ D n).min' hne, ?_, ?_⟩
  · simpa using Finset.min'_mem _ hne
  · intro k hk
    have h0 : ∀ j, D j ≤ D ((Finset.univ.filter fun n => ∀ k, D k ≤ D n).min' hne) := by simpa using Finset.min'_mem _ hne
    refine lt_of_le_of_ne (h0 k) fun he => ?_
    refine absurd (Finset.min'_le _ k ?_) (not_le.mpr hk)
    simp only [Finset.mem_filter, Finset.mem_univ, true_and]
    intro j; rw [he]; exact h0 j

/-- The first place where `D` is greatest. -/
def far (D : Fin 8192 → EReal) : Fin 8192 := (exists_isFar D).choose
theorem far_isFar (D : Fin 8192 → EReal) : IsFar D (far D) := (exists_isFar D).choose_spec
theorem IsFar.eq_far {D : Fin 8192 → EReal} {n : Fin 8192} (h : IsFar D n) : n = far D := h.unique (far_isFar D)

/-- The squared distance of point `n` to point `f`. -/
def sq (p : Fin 8192 → Fin 3 → EReal) (f n : Fin 8192) : EReal :=
  (p n 0 - p f 0) * (p n 0 - p f 0) + (p n 1 - p f 1) * (p n 1 - p f 1) + (p n 2 - p f 2) * (p n 2 - p f 2)
/-- The distances after point `f` is sampled. -/
def low (p : Fin 8192 → Fin 3 → EReal) (D : Fin 8192 → EReal) (f : Fin 8192) : Fin 8192 → EReal := fun n => min (D n) (sq p f n)

/-- The value the distances start from. -/
def huge : EReal := Ideal.ofBits .f32 0x501502F9#32

/-- The sampled point at step `t` and the distances before it. -/
def st (p : Fin 8192 → Fin 3 → EReal) : ℕ → Fin 8192 × (Fin 8192 → EReal)
  | 0 => (0, fun _ => huge)
  | t + 1 => (far (low p (st p t).2 (st p t).1), low p (st p t).2 (st p t).1)

/-- The point sampled at step `t`. -/
abbrev pt (p : Fin 8192 → Fin 3 → EReal) (t : ℕ) : Fin 8192 := (st p t).1

/-! ## The kernel's way of finding it: row by row -/

/-- Point `128 r + l`. -/
def at2 (r : Fin 64) (l : Fin 128) : Fin 8192 := ⟨128 * r.val + l.val, by omega⟩
theorem at2_eq (n : Fin 8192) : at2 ⟨n.val / 128, by omega⟩ ⟨n.val % 128, by omega⟩ = n := Fin.ext (by show 128 * (n.val / 128) + n.val % 128 = n.val; omega)

theorem le_foldMax {ι : Type} [Fintype ι] (f : ι → EReal) (i : ι) : f i ≤ Finset.univ.fold max (⊥ : EReal) f :=
  (Finset.le_fold_max _).mpr (.inr ⟨i, Finset.mem_univ i, le_rfl⟩)
theorem foldMax_eq {ι : Type} [Fintype ι] (f : ι → EReal) (i : ι) (h : ∀ j, f j ≤ f i) : Finset.univ.fold max (⊥ : EReal) f = f i :=
  le_antisymm ((Finset.fold_max_le _).mpr ⟨bot_le, fun j _ => h j⟩) (le_foldMax f i)

/-- The first row where a lane's greatest value is taken. -/
theorem exists_row (f : Fin 64 → EReal) : ∃ r : Fin 64, f r = Finset.univ.fold max (⊥ : EReal) f ∧ ∀ q, q < r → f q ≠ Finset.univ.fold max (⊥ : EReal) f := by
  obtain ⟨m, hm⟩ := Finite.exists_max f
  have hne : (Finset.univ.filter fun n => f n = Finset.univ.fold max (⊥ : EReal) f).Nonempty := ⟨m, by simpa using (foldMax_eq f m hm).symm⟩
  refine ⟨(Finset.univ.filter fun n => f n = Finset.univ.fold max (⊥ : EReal) f).min' hne, ?_, ?_⟩
  · simpa using Finset.min'_mem _ hne
  · intro q hq he
    exact absurd (Finset.min'_le _ q (by simpa using he)) (not_le.mpr hq)

theorem toInt_ofNat_small {n : ℕ} (h : n < 2147483648) : (BitVec.ofNat 32 n).toInt = n := by
  rw [BitVec.toInt_ofNat']
  simp only [Int.bmod, Nat.reducePow]
  have : ((n : ℤ) % 4294967296) = n := Int.emod_eq_of_lt (by omega) (by omega)
  push_cast
  rw [this, if_pos (by omega)]

theorem toInt_minsi (x y : BitVec 32) : (IntOp.minsi x y).toInt = min x.toInt y.toInt := by
  unfold IntOp.minsi
  by_cases h : x.slt y
  · have := BitVec.slt_iff_toInt_lt.mp h; simp only [h, if_true]; omega
  · have : ¬ x.toInt < y.toInt := fun k => h (BitVec.slt_iff_toInt_lt.mpr k)
    simp only [h]; simp; omega

/-- The least row number among those marked, the others counted as 2^30. -/
theorem fold_minsi_row (P : Fin 64 → Prop) [DecidablePred P] (r : Fin 64) (hr : P r) (hq : ∀ q, q < r → ¬ P q) :
    Finset.univ.fold IntOp.minsi (2147483647#32) (fun q : Fin 64 => if P q then BitVec.ofNat 32 q.val else 1073741824#32) = BitVec.ofNat 32 r.val := by
  refine BitVec.eq_of_toInt_eq ?_
  rw [← Finset.fold_hom (op' := min) (m := BitVec.toInt) toInt_minsi, toInt_ofNat_small (n := r.val) (by omega)]
  refine le_antisymm ((Finset.fold_min_le _).mpr (.inr ⟨r, Finset.mem_univ r, ?_⟩)) ((Finset.le_fold_min _).mpr ⟨?_, fun q _ => ?_⟩)
  · rw [if_pos hr, toInt_ofNat_small (n := r.val) (by omega)]
  · have : (2147483647#32 : BitVec 32).toInt = 2147483647 := by decide
    rw [this]; omega
  · by_cases h : P q
    · rw [if_pos h, toInt_ofNat_small (n := q.val) (by omega)]
      have : ¬ q < r := fun k => hq q k h
      omega
    · rw [if_neg h]
      have : (1073741824#32 : BitVec 32).toInt = 1073741824 := by decide
      rw [this]; omega

/-- A natural number below 2^31, read as an ideal value and converted back to a word. -/
theorem fptosi_nat {n : ℕ} (h : n < 2147483648) : Ideal.fptosi 32 ((((n : ℕ) : ℤ) : ℝ) : EReal) = BitVec.ofNat 32 n := by
  rw [Ideal.fptosi, Ideal.toIntClamped_coe]
  have h0 : (0 : ℝ) ≤ ((n : ℤ) : ℝ) := by positivity
  rw [if_pos h0, Int.floor_intCast]
  have : max (-((2 ^ (32 - 1) : ℕ) : ℤ)) (min (((2 ^ (32 - 1) : ℕ) : ℤ) - 1) (n : ℤ)) = n := by
    norm_num; omega
  rw [this]; simp

theorem word_at2 (r : Fin 64) (l : Fin 128) :
    (IntOp.addi (IntOp.muli (BitVec.ofNat 32 r.val) 128#32) (BitVec.ofNat 32 l.val)) = BitVec.ofNat 32 (at2 r l).val := by
  apply BitVec.eq_of_toNat_eq
  simp only [IntOp.addi, IntOp.muli, BitVec.toNat_add, BitVec.toNat_mul, BitVec.toNat_ofNat, at2]
  omega

theorem big_le : (((8191 : ℤ) : ℝ) : EReal) ≤ Ideal.ofBits .f32 1317011456#32 := by
  have : Ideal.ofBits .f32 1317011456#32 = ((1073741824 : ℝ) : EReal) := by
    simp [Ideal.ofBits, Ideal.ieee, Nat.shiftRight_eq_div_pow, BitVec.extractLsb']
    norm_num
  rw [this]
  exact_mod_cast (by norm_num : ((8191 : ℤ) : ℝ) ≤ (1073741824 : ℝ))

/-- The kernel's search: the least of the candidates `128 r + l`, each from a lane whose greatest value is the greatest of all and
    the first row holding it, is the first place of the greatest value. -/
theorem cand_eq (E : Fin 64 → Fin 128 → EReal) (D : Fin 8192 → EReal) (hE : ∀ r l, E r l = D (at2 r l)) (n : Fin 8192) (h : IsFar D n) :
    Ideal.fptosi 32
      (Finset.fold min (⊤ : EReal)
        (fun x : Fin 128 =>
          if Finset.fold max (⊥ : EReal) (fun r => E r x) Finset.univ
              = Finset.fold max (⊥ : EReal) (fun l => Finset.fold max (⊥ : EReal) (fun r => E r l) Finset.univ) Finset.univ then
            ((((IntOp.addi (IntOp.muli (Finset.fold IntOp.minsi (2147483647#32)
                (fun r : Fin 64 => if E r x = Finset.fold max (⊥ : EReal) (fun q => E q x) Finset.univ then BitVec.ofNat 32 r.val else 1073741824#32)
                Finset.univ) 128#32) (BitVec.ofNat 32 x.val)).toInt : ℤ) : ℝ) : EReal)
          else Ideal.ofBits .f32 1317011456#32)
        Finset.univ) = BitVec.ofNat 32 n.val := by
  have hrow := fun l : Fin 128 => exists_row fun r => E r l
  choose R hR hQ using hrow
  have hcell : ∀ r l, E r l ≤ D n := fun r l => by rw [hE]; exact h.1 _
  -- the lane's greatest is below the greatest of all, and lane `n % 128` has it
  have hL : Finset.fold max (⊥ : EReal) (fun r => E r ⟨n.val % 128, by omega⟩) Finset.univ = D n := by
    have := foldMax_eq (fun r => E r ⟨n.val % 128, by omega⟩) ⟨n.val / 128, by omega⟩ (fun j => by
      rw [hE ⟨n.val / 128, by omega⟩, at2_eq]; exact hcell j _)
    rw [this, hE, at2_eq]
  have hM : Finset.fold max (⊥ : EReal) (fun l => Finset.fold max (⊥ : EReal) (fun r => E r l) Finset.univ) Finset.univ = D n := by
    have := foldMax_eq (fun l => Finset.fold max (⊥ : EReal) (fun r => E r l) Finset.univ) ⟨n.val % 128, by omega⟩ (fun l => by
      rw [hL]; exact (Finset.fold_max_le _).mpr ⟨bot_le, fun r _ => hcell r l⟩)
    rw [this, hL]
  have hw : ∀ l : Fin 128, (IntOp.addi (IntOp.muli (Finset.fold IntOp.minsi (2147483647#32)
      (fun r : Fin 64 => if E r l = Finset.fold max (⊥ : EReal) (fun q => E q l) Finset.univ then BitVec.ofNat 32 r.val else 1073741824#32)
      Finset.univ) 128#32) (BitVec.ofNat 32 l.val)).toInt = ((at2 (R l) l).val : ℤ) := fun l => by
    rw [fold_minsi_row (fun r => E r l = Finset.fold max (⊥ : EReal) (fun q => E q l) Finset.univ) (R l) (hR l) (hQ l), word_at2,
      toInt_ofNat_small (by have := (at2 (R l) l).isLt; omega)]
  have key : (Finset.fold min (⊤ : EReal)
        (fun x : Fin 128 =>
          if Finset.fold max (⊥ : EReal) (fun r => E r x) Finset.univ
              = Finset.fold max (⊥ : EReal) (fun l => Finset.fold max (⊥ : EReal) (fun r => E r l) Finset.univ) Finset.univ then
            ((((IntOp.addi (IntOp.muli (Finset.fold IntOp.minsi (2147483647#32)
                (fun r : Fin 64 => if E r x = Finset.fold max (⊥ : EReal) (fun q => E q x) Finset.univ then BitVec.ofNat 32 r.val else 1073741824#32)
                Finset.univ) 128#32) (BitVec.ofNat 32 x.val)).toInt : ℤ) : ℝ) : EReal)
          else Ideal.ofBits .f32 1317011456#32)
        Finset.univ) = ((((n.val : ℕ) : ℤ) : ℝ) : EReal) := by
    simp only [hM, hw]
    refine le_antisymm ((Finset.fold_min_le _).mpr (.inr ⟨⟨n.val % 128, by omega⟩, Finset.mem_univ _, ?_⟩)) ((Finset.le_fold_min _).mpr ⟨le_top, fun l _ => ?_⟩)
    · rw [if_pos hL]
      have hr : ¬ (⟨n.val / 128, by omega⟩ : Fin 64) < R ⟨n.val % 128, by omega⟩ := fun hlt =>
        hQ ⟨n.val % 128, by omega⟩ _ hlt (by show E _ _ = _; rw [hE, at2_eq, hL])
      have : ((at2 (R ⟨n.val % 128, by omega⟩) ⟨n.val % 128, by omega⟩).val : ℤ) ≤ (n.val : ℤ) := by
        have h2 : (R ⟨n.val % 128, by omega⟩).val ≤ n.val / 128 := by
          have := not_lt.mp hr; exact this
        simp only [at2]; omega
      exact_mod_cast this
    · by_cases hl : Finset.fold max (⊥ : EReal) (fun r => E r l) Finset.univ = D n
      · rw [if_pos hl]
        have hD : D (at2 (R l) l) = D n := by rw [← hE, hR l, hl]
        have : ¬ at2 (R l) l < n := fun hlt => absurd hD (ne_of_lt (h.2 _ hlt))
        have h2 : (n.val : ℤ) ≤ ((at2 (R l) l).val : ℤ) := by have := not_lt.mp this; exact_mod_cast this
        exact_mod_cast h2
      · rw [if_neg hl]
        refine le_trans ?_ big_le
        have : (n.val : ℤ) ≤ 8191 := by omega
        exact_mod_cast this
  rw [key, fptosi_nat (by omega)]

end Cert.Proof.Fps

end
-- ==== Proof.FpsValue.lean ====
/-
  What one step of the sampling computes, at the ideal values: the points' coordinates are read off the cloud, the distances are
  squared distances, and the next word is the first place of the greatest of them.
-/
module

public import proofs.«01_k».proof.Proof.FpsWords
public import proofs.«01_k».proof.Proof.FarMath
public import Idealize.ShloMosaic.Lib.Pointwise

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Fps

/-! ## Words -/

theorem wds_apply (x : IVec S8x1 32) : ∀ b : Fin 8, wds x b = x (ix2 b 0) := by
  intro b
  fin_cases b <;> exact congrArg x (funext fun a => by fin_cases a <;> rfl)

/-- The words of points below 8192 pass the checks. -/
theorem chks_of (x : IVec S8x1 32) (f : Fin 8 → Fin 8192) (hx : ∀ b, x (ix2 b 0) = BitVec.ofNat 32 (f b).val) : Chks x := fun b a => by
  rw [wds_apply, hx, fdiv_toNat (f b).isLt]
  have := (f b).isLt
  have := b.isLt
  fin_cases a
  · show b.val + 1 ≤ 8; omega
  · show (f b).val / 128 + 1 ≤ 64; omega
  · show 0 + 128 ≤ 128; omega

/-- A lane's number against a point's place in its row. -/
theorem sel_lane {α : Type} (l : Fin 128) {n : ℕ} (hn : n < 8192) (x y : α) :
    Scalar.select (IntOp.cmpi CmpIPredicate.eq (BitVec.ofNat 32 l.val) (fmod (BitVec.ofNat 32 n))) x y = if l.val = n % 128 then x else y := by
  rw [fmod_all ⟨n, hn⟩]
  by_cases h : l.val = n % 128
  · rw [if_pos h, h]; simp [IntOp.cmpi, Scalar.select]
  · rw [if_neg h]
    have : (BitVec.ofNat 32 l.val == BitVec.ofNat 32 (n % 128)) = false := by
      rw [beq_eq_false_iff_ne]
      intro he
      have h2 := congrArg BitVec.toNat he
      rw [BitVec.toNat_ofNat, BitVec.toNat_ofNat, Nat.mod_eq_of_lt (by omega), Nat.mod_eq_of_lt (by omega)] at h2
      exact h h2
    simp [IntOp.cmpi, Scalar.select, this]

/-! ## The sampled points' coordinates -/

/-- Point `n` of slab `b`, as the kernel lays it out. -/
abbrev cell (b : Fin 8) (n : Fin 8192) : S8x64x128.Idx := ix3 b ⟨n.val / 128, by omega⟩ ⟨n.val % 128, by omega⟩

theorem pickAt_apply (c : Dev nD) (M : Memref sig .tc .vmem S8x64x128 .f32) (f : Bf (F := Ideal) c M) (x : IVec S8x1 32) (h : Chks x)
    (b : Fin 8) (n : Fin 8192) (hx : x (ix2 b 0) = BitVec.ofNat 32 n.val) (l : Fin 128) :
    pickAt c M f lanes x h b (ix2 0 l) = if l.val = n.val % 128 then M.view.read (Elt Ideal) f (cell b n) else 0 := by
  unfold pickAt pick
  pointwise
  have hw : wds x b = BitVec.ofNat 32 n.val := (wds_apply x b).trans hx
  generalize h b = hb
  revert hb
  rw [hw]
  intro hb
  rw [sel_lane l n.isLt]
  by_cases hl : l.val = n.val % 128
  · rw [if_pos hl, if_pos hl]
    unfold ldRow
    refine congrArg (M.view.read (Elt Ideal) f) (funext fun a => Fin.ext ?_)
    fin_cases a
    · show b.val + 1 * 0 = b.val; omega
    · show (fdiv (BitVec.ofNat 32 n.val)).toNat + 1 * 0 = n.val / 128; rw [fdiv_toNat n.isLt]; omega
    · show 0 + 1 * l.val = n.val % 128; omega
  · rw [if_neg hl, if_neg hl]

/-- The rows one under the other, times the matrix of ones: each row's sum, along every lane. -/
theorem cent_apply (r : Fin 8 → FVec Ideal S1x128 .f32) (b : Fin 8) (l : Fin 128) :
    cent k0_pay96 r (ix2 b l) = ∑ k : Fin 128, r b (ix2 0 k) := by
  unfold cent
  pointwise [k0_pay96]
  fin_cases b <;> rfl

/-- One coordinate of batch `b`'s sampled point. -/
theorem centAt (c : Dev nD) (M : Memref sig .tc .vmem S8x64x128 .f32) (f : Bf (F := Ideal) c M) (x : IVec S8x1 32) (h : Chks x)
    (n : Fin 8 → Fin 8192) (hx : ∀ b, x (ix2 b 0) = BitVec.ofNat 32 (n b).val) (b : Fin 8) (l : Fin 128) :
    cent k0_pay96 (pickAt c M f lanes x h) (ix2 b l) = M.view.read (Elt Ideal) f (cell b (n b)) := by
  rw [cent_apply]
  simp only [pickAt_apply c M f x h b (n b) (hx b)]
  rw [Finset.sum_eq_single (⟨(n b).val % 128, by omega⟩ : Fin 128)]
  · rw [if_pos rfl]
  · intro k _ hk
    exact if_neg fun e => hk (Fin.ext e)
  · intro hk; exact absurd (Finset.mem_univ _) hk

/-! ## Distances and the next word -/

theorem sqd_apply (X Y Z : Vec Ideal S8x64x128 .f32) (CX CY CZ : FVec Ideal S8x128 .f32) (b : Fin 8) (r : Fin 64) (l : Fin 128) :
    sqd X Y Z CX CY CZ (ix3 b r l)
      = (X (ix3 b r l) - CX (ix2 b l)) * (X (ix3 b r l) - CX (ix2 b l)) + (Y (ix3 b r l) - CY (ix2 b l)) * (Y (ix3 b r l) - CY (ix2 b l))
        + (Z (ix3 b r l) - CZ (ix2 b l)) * (Z (ix3 b r l) - CZ (ix2 b l)) := by
  unfold sqd diff
  pointwise

theorem ofBits_top : Ideal.ofBits .f32 2139095040#32 = ⊤ := by simp [Ideal.ofBits, Ideal.ieee]
theorem ofBits_bot : Ideal.ofBits .f32 4286578688#32 = ⊥ := by simp [Ideal.ofBits, Ideal.ieee]

/-- The next word of batch `b` is the first place of the greatest of the lowered distances. -/
theorem nextW_apply (d D : FVec Ideal S8x64x128 .f32) (b : Fin 8) (G : Fin 8192 → EReal)
    (hG : ∀ n, min (D (cell b n)) (d (cell b n)) = G n) :
    nextW rowsI d D (ix2 b 0) = BitVec.ofNat 32 (far G).val := by
  unfold nextW k0_pay2 k0_pay58 k0_pay94 k0_pay59 k0_pay95
  pointwise [k0_pay58]
  rw [ofBits_top, ofBits_bot]
  refine cand_eq (fun r l => k0_pay56 d D (ix3 b r l)) G (fun r l => ?_) (far G) (far_isFar G)
  rw [← hG]
  have e : cell b (at2 r l) = ix3 b r l := congrArg₂ (fun u v => ix3 b u v)
    (Fin.ext (by show (128 * r.val + l.val) / 128 = r.val; omega)) (Fin.ext (by show (128 * r.val + l.val) % 128 = l.val; omega))
  rw [e]
  rfl

/-! ## What is put at the step's lane, and what is stored -/

theorem putC_apply {t : ℕ} (ht : t < 8192) (C a : FVec Ideal S8x128 .f32) (b : Fin 8) (l : Fin 128) :
    putC lanes (BitVec.ofNat 32 t) C a (ix2 b l) = if l.val = t % 128 then C (ix2 b l) else a (ix2 b l) := by
  unfold putC atLane
  pointwise
  exact sel_lane l ht _ _

theorem putI_apply {t : ℕ} (ht : t < 8192) (x : IVec S8x1 32) (a : IVec S8x128 32) (b : Fin 8) (l : Fin 128) (n : Fin 8192)
    (hx : x (ix2 b 0) = BitVec.ofNat 32 n.val) :
    putI lanes (BitVec.ofNat 32 t) x a (ix2 b l) = if l.val = t % 128 then BitVec.ofNat 32 (8192 * b.val + n.val) else a (ix2 b l) := by
  unfold putI atLane k0_pay51 k0_pay4
  pointwise
  rw [sel_lane l ht, hx]
  refine if_congr Iff.rfl ?_ rfl
  apply BitVec.eq_of_toNat_eq
  simp only [IntOp.addi, IntOp.muli, BitVec.toNat_add, BitVec.toNat_mul, BitVec.toNat_ofNat]
  omega

/-- Row `b`'s store is a row of what was gathered. -/
theorem rowPiece_apply {F : FTy → Type} {η : EltTy} (b : Fin 8) (a : Vec F S8x128 η) (h : S8x128.Slices ![b.val, 0] S1x128) (l : Fin 128) :
    rowPiece b.val a h (ix3 0 0 l) = a (ix2 b l) := by
  unfold rowPiece
  pointwise

end Cert.Proof.Full

end
-- ==== Proof.FpsStep.lean ====
/-
  One step of the sampling against the mathematics: what the lanes, the buffers, the distances and the words hold after `t` steps.
-/
module

public import proofs.«01_k».proof.Proof.FpsValue
public import Idealize.ShloMosaic.Lib.VecWindow

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Fps

/-! ## The rows stored -/

section Stored
variable {F : FTy → Type} {c : Dev nD} {η : EltTy}

/-- One row's store, read back. -/
theorem read_row {sp : Space} (M : Memref sig .tc sp S8x8x128 η) (f : Bf (F := F) c M) (L : List (View.Piece (Elt F) S8x8x128 η)) (b0 n : ℕ) (hb : b0 < 8)
    (inb : ∀ a, (![b0, n, 0] : Fin 3 → ℕ) a + S1x1x128.size a ≤ S8x8x128.size a) (a : Vec F S8x128 η) (h : S8x128.Slices ![b0, 0] S1x128)
    (b : Fin 8) (q : Fin 8) (l : Fin 128) :
    M.view.read (Elt F) (M.view.writes (Elt F) f (⟨Rect.unit (s := S8x8x128) ![b0, n, 0] S1x1x128.size inb, rowPiece b0 a h⟩ :: L)) (ix3 b q l)
      = if b.val = b0 ∧ q.val = n then a (ix2 b l) else M.view.read (Elt F) (M.view.writes (Elt F) f L) (ix3 b q l) := by
  by_cases hh : b.val = b0 ∧ q.val = n
  · obtain ⟨rfl, rfl⟩ := hh
    rw [if_pos ⟨rfl, rfl⟩]
    have he : ∀ i : Fin 3, ((ix3 b q l : S8x8x128.Idx) i).val = (![b.val, q.val, 0] : Fin 3 → ℕ) i + 1 * ((ix3 0 0 l : S1x1x128.Idx) i).val := by
      intro i
      fin_cases i
      · show b.val = b.val + 1 * 0; omega
      · show q.val = q.val + 1 * 0; omega
      · show l.val = 0 + 1 * l.val; omega
    have e := View.read_writes_cons_hit_of_coords M.view f (Rect.unit (s := S8x8x128) ![b.val, q.val, 0] S1x1x128.size inb)
      (rowPiece b.val a h) L (ix3 0 0 l : S1x1x128.Idx) (ix3 b q l) he
    exact e.trans (rowPiece_apply b a h l)
  · rw [if_neg hh]
    rcases not_and_or.mp hh with hb' | hq'
    · refine View.read_writes_cons_miss M.view f _ L _ (Rect.not_mem_set_of_axis _ _ (0 : Fin 3) b0 1 rfl rfl rfl ?_)
      have : ((ix3 b q l : S8x8x128.Idx) (0 : Fin 3)).val = b.val := rfl
      omega
    · refine View.read_writes_cons_miss M.view f _ L _ (Rect.not_mem_set_of_axis _ _ (1 : Fin 3) n 1 rfl rfl rfl ?_)
      have : ((ix3 b q l : S8x8x128.Idx) (1 : Fin 3)).val = q.val := rfl
      omega

/-- The eight rows' stores, read back: chunk `n` of every slab holds what was gathered, the rest is as it was. -/
theorem read_pcs {sp : Space} (M : Memref sig .tc sp S8x8x128 η) (f : Bf (F := F) c M) (n : ℕ) (hn : InC n) (a : Vec F S8x128 η)
    (b : Fin 8) (q : Fin 8) (l : Fin 128) :
    M.view.read (Elt F) (M.view.writes (Elt F) f (pcs n hn a)) (ix3 b q l) = if q.val = n then a (ix2 b l) else M.view.read (Elt F) f (ix3 b q l) := by
  unfold pcs
  rw [read_row M f _ 7 n (by omega), read_row M f _ 6 n (by omega), read_row M f _ 5 n (by omega), read_row M f _ 4 n (by omega),
    read_row M f _ 3 n (by omega), read_row M f _ 2 n (by omega), read_row M f _ 1 n (by omega), read_row M f _ 0 n (by omega), View.writes_nil]
  by_cases hq : q.val = n
  · simp only [hq, and_true, if_true]
    fin_cases b <;> rfl
  · simp only [hq, and_false, if_false]
end Stored

/-! ## What has been gathered after `t` steps -/

section Gathered
variable {α : Type}

/-- The lanes of the last 128 steps hold those steps' values. -/
def AccOK (a : S8x128.Idx → α) (v : Fin 8 → ℕ → α) (t : ℕ) : Prop :=
  ∀ (b : Fin 8) (j : ℕ), j < t → t ≤ j + 128 → a (ix2 b ⟨j % 128, Nat.mod_lt _ (by omega)⟩) = v b j
/-- The buffer holds the values of the steps before `t`. -/
def BufOK (g : S8x8x128.Idx → α) (v : Fin 8 → ℕ → α) (t : ℕ) : Prop :=
  ∀ (b : Fin 8) (j : Fin 1024), j.val < t → g (ix3 b ⟨j.val / 128, by omega⟩ ⟨j.val % 128, by omega⟩) = v b j.val

theorem AccOK.step {a a' : S8x128.Idx → α} {v : Fin 8 → ℕ → α} {t : ℕ} (h : AccOK a v t)
    (hput : ∀ (b : Fin 8) (l : Fin 128), a' (ix2 b l) = if l.val = t % 128 then v b t else a (ix2 b l)) : AccOK a' v (t + 1) := by
  intro b j hj ht
  rw [hput]
  by_cases e : j = t
  · subst e; rw [if_pos rfl]
  · rw [if_neg (by show ¬ j % 128 = t % 128; omega)]
    exact h b j (by omega) (by omega)

theorem BufOK.step {a' : S8x128.Idx → α} {g g' : S8x8x128.Idx → α} {v : Fin 8 → ℕ → α} {t : ℕ} (h : BufOK g v t) (ha : AccOK a' v (t + 1))
    (hw : ∀ (b q : Fin 8) (l : Fin 128), g' (ix3 b q l) = if q.val = t / 128 then a' (ix2 b l) else g (ix3 b q l)) : BufOK g' v (t + 1) := by
  intro b j hj
  rw [hw]
  by_cases e : j.val / 128 = t / 128
  · rw [if_pos e]; exact ha b j.val hj (by omega)
  · rw [if_neg e]; exact h b j (by omega)

theorem accOK_zero (a : S8x128.Idx → α) (v : Fin 8 → ℕ → α) : AccOK a v 0 := fun _ _ h => absurd h (by omega)
theorem bufOK_zero (g : S8x8x128.Idx → α) (v : Fin 8 → ℕ → α) : BufOK g v 0 := fun _ _ h => absurd h (by omega)
end Gathered

/-! ## One step of the sampling, as mathematics -/

/-- Batch `b`'s points, read off the three coordinates' arrays. -/
def pnt (X Y Z : S8x64x128.Idx → EReal) (b : Fin 8) (n : Fin 8192) : Fin 3 → EReal := ![X (cell b n), Y (cell b n), Z (cell b n)]

section Step
variable (c : Dev nD) (M0 M1 M2 M7 : Memref sig .tc .vmem S8x64x128 .f32)
variable (f0 : Bf (F := Ideal) c M0) (f1 : Bf (F := Ideal) c M1) (f2 : Bf (F := Ideal) c M2)

/-- The clouds' points, as the three buffers hold them. -/
abbrev pts (b : Fin 8) : Fin 8192 → Fin 3 → EReal :=
  pnt (M0.view.read (Elt Ideal) f0) (M1.view.read (Elt Ideal) f1) (M2.view.read (Elt Ideal) f2) b
/-- The words of step `t`'s points. -/
def WordOK (x : IVec S8x1 32) (t : ℕ) : Prop := ∀ b : Fin 8, x (ix2 b 0) = BitVec.ofNat 32 (Fps.pt (pts c M0 M1 M2 f0 f1 f2 b) t).val
/-- The distances before step `t`. -/
def DistOK (D : S8x64x128.Idx → EReal) (t : ℕ) : Prop := ∀ (b : Fin 8) (n : Fin 8192), D (cell b n) = (st (pts c M0 M1 M2 f0 f1 f2 b) t).2 n

theorem WordOK.chks {x : IVec S8x1 32} {t : ℕ} (h : WordOK c M0 M1 M2 f0 f1 f2 x t) : Chks x :=
  chks_of x (fun b => Fps.pt (pts c M0 M1 M2 f0 f1 f2 b) t) h

/-- A buffer read whole is its reading. -/
theorem ldAll_eq (M : Memref sig .tc .vmem S8x64x128 .f32) (f : Bf (F := Ideal) c M) : ldAll c M f = M.view.read (Elt Ideal) f :=
  View.readAt_full _ _ _

/-- The lowered distances after step `t`. -/
theorem dist_step {x : IVec S8x1 32} {t : ℕ} (h : Chks x) (hx : WordOK c M0 M1 M2 f0 f1 f2 x t) (D : Vec Ideal S8x64x128 .f32)
    (hD : DistOK c M0 M1 M2 f0 f1 f2 D t) (b : Fin 8) (n : Fin 8192) :
    min (D (cell b n)) (sqd (ldAll c M0 f0) (ldAll c M1 f1) (ldAll c M2 f2) (cent k0_pay96 (pickAt c M0 f0 lanes x h)) (cent k0_pay96 (pickAt c M1 f1 lanes x h))
        (cent k0_pay96 (pickAt c M2 f2 lanes x h)) (cell b n))
      = (st (pts c M0 M1 M2 f0 f1 f2 b) (t + 1)).2 n := by
  rw [hD, sqd_apply, centAt c M0 f0 x h _ hx, centAt c M1 f1 x h _ hx, centAt c M2 f2 x h _ hx, ldAll_eq, ldAll_eq, ldAll_eq]
  rfl

/-- The next words. -/
theorem word_step {x : IVec S8x1 32} {t : ℕ} (h : Chks x) (hx : WordOK c M0 M1 M2 f0 f1 f2 x t) (D : Vec Ideal S8x64x128 .f32)
    (hD : DistOK c M0 M1 M2 f0 f1 f2 D t) :
    WordOK c M0 M1 M2 f0 f1 f2 (nextW rowsI (sqd (ldAll c M0 f0) (ldAll c M1 f1) (ldAll c M2 f2) (cent k0_pay96 (pickAt c M0 f0 lanes x h))
      (cent k0_pay96 (pickAt c M1 f1 lanes x h)) (cent k0_pay96 (pickAt c M2 f2 lanes x h))) D) (t + 1) := fun b =>
  nextW_apply _ D b _ fun n => dist_step c M0 M1 M2 f0 f1 f2 h hx D hD b n

/-- The values one step puts: the row number in the table of all batches, and a coordinate. -/
def rowV (b : Fin 8) (t : ℕ) : BitVec 32 := BitVec.ofNat 32 (8192 * b.val + (Fps.pt (pts c M0 M1 M2 f0 f1 f2 b) t).val)
def coordV (X : S8x64x128.Idx → EReal) (b : Fin 8) (t : ℕ) : EReal := X (cell b (Fps.pt (pts c M0 M1 M2 f0 f1 f2 b) t))

theorem putI_step {x : IVec S8x1 32} {t : ℕ} (ht : t < 8192) (hx : WordOK c M0 M1 M2 f0 f1 f2 x t) (a : IVec S8x128 32)
    (ha : AccOK a (rowV c M0 M1 M2 f0 f1 f2) t) : AccOK (putI lanes (BitVec.ofNat 32 t) x a) (rowV c M0 M1 M2 f0 f1 f2) (t + 1) :=
  ha.step fun b l => putI_apply ht x a b l _ (hx b)

theorem putC_step {x : IVec S8x1 32} {t : ℕ} (ht : t < 8192) (h : Chks x) (hx : WordOK c M0 M1 M2 f0 f1 f2 x t)
    (M : Memref sig .tc .vmem S8x64x128 .f32) (f : Bf (F := Ideal) c M) (a : FVec Ideal S8x128 .f32)
    (ha : AccOK a (coordV c M0 M1 M2 f0 f1 f2 (M.view.read (Elt Ideal) f)) t) :
    AccOK (putC lanes (BitVec.ofNat 32 t) (cent k0_pay96 (pickAt c M f lanes x h)) a) (coordV c M0 M1 M2 f0 f1 f2 (M.view.read (Elt Ideal) f)) (t + 1) :=
  ha.step fun b l => by
    rw [putC_apply ht, centAt c M f x h _ hx]; rfl
end Step

end Cert.Proof.Full

end
-- ==== Proof.FpsRun.lean ====
/-
  The sampling kernel run: the step before the loop, the loop by its invariant, and what the four results hold at the end.
-/
module

public import proofs.«01_k».proof.Proof.FpsTrip
public import proofs.«01_k».proof.Proof.FpsHead
public import proofs.«01_k».proof.Proof.FpsStep

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Cert.Proof.Fps

theorem stepW_eq (k : Fin k0_t1_loop.trips) : stepW k = BitVec.ofNat 32 (k.val + 1) := by
  unfold stepW Scf.iv Scalar.addi IntOp.addi
  apply BitVec.eq_of_toNat_eq
  simp [BitVec.toNat_add, BitVec.toNat_mul, BitVec.toNat_ofNat]
theorem trips_eq : k0_t1_loop.trips = 1023 := by decide +kernel
theorem stepW_fdiv (k : Fin k0_t1_loop.trips) : (fdiv (stepW k)).toNat = (k.val + 1) / 128 := by
  rw [stepW_eq, fdiv_toNat (by have h1 := k.isLt; have h2 := trips_eq; omega)]

theorem pay57_apply (d D : FVec Ideal S8x64x128 .f32) (b : Fin 8) (r : Fin 64) (l : Fin 128) :
    k0_pay57 d D (ix3 b r l) = min (D (ix3 b r l)) (d (ix3 b r l)) := by
  unfold k0_pay57 k0_pay56
  pointwise
theorem pay97_apply (b : Fin 8) (r : Fin 64) (l : Fin 128) : k0_pay97 (F := Ideal) (ix3 b r l) = huge := by
  unfold k0_pay97
  pointwise
  rfl

/-- **What is held after `t` steps**: the words of the next points, and the four buffers, with their lanes, at the values so far. -/
structure Held (c : Dev nD) (M0 M1 M2 : Memref sig .tc .vmem S8x64x128 .f32) (M3 : Memref sig .tc .vmem S8x8x128 .i32)
    (M4 M5 M6 : Memref sig .tc .vmem S8x8x128 .f32) (M7 : Memref sig .tc .vmem S8x64x128 .f32)
    (f0 : Bf (F := Ideal) c M0) (f1 : Bf (F := Ideal) c M1) (f2 : Bf (F := Ideal) c M2) (f3 : Bf (F := Ideal) c M3)
    (f4 : Bf (F := Ideal) c M4) (f5 : Bf (F := Ideal) c M5) (f6 : Bf (F := Ideal) c M6) (f7 : Bf (F := Ideal) c M7)
    (t : ℕ) (r : IVec S8x1 32 × IVec S8x128 32 × FVec Ideal S8x128 .f32 × FVec Ideal S8x128 .f32 × FVec Ideal S8x128 .f32) : Prop where
  word : WordOK c M0 M1 M2 f0 f1 f2 r.1 t
  dist : DistOK c M0 M1 M2 f0 f1 f2 (M7.view.read (Elt Ideal) f7) t
  accI : AccOK r.2.1 (rowV c M0 M1 M2 f0 f1 f2) t
  acc0 : AccOK r.2.2.1 (coordV c M0 M1 M2 f0 f1 f2 (M0.view.read (Elt Ideal) f0)) t
  acc1 : AccOK r.2.2.2.1 (coordV c M0 M1 M2 f0 f1 f2 (M1.view.read (Elt Ideal) f1)) t
  acc2 : AccOK r.2.2.2.2 (coordV c M0 M1 M2 f0 f1 f2 (M2.view.read (Elt Ideal) f2)) t
  bufI : BufOK (M3.view.read (Elt Ideal) f3) (rowV c M0 M1 M2 f0 f1 f2) t
  buf0 : BufOK (M4.view.read (Elt Ideal) f4) (coordV c M0 M1 M2 f0 f1 f2 (M0.view.read (Elt Ideal) f0)) t
  buf1 : BufOK (M5.view.read (Elt Ideal) f5) (coordV c M0 M1 M2 f0 f1 f2 (M1.view.read (Elt Ideal) f1)) t
  buf2 : BufOK (M6.view.read (Elt Ideal) f6) (coordV c M0 M1 M2 f0 f1 f2 (M2.view.read (Elt Ideal) f2)) t

/-- One step takes what is held after `t` steps to what is held after the next. -/
theorem held_step (c : Dev nD)
    (M0 : Memref sig .tc .vmem S8x64x128 .f32) (M1 : Memref sig .tc .vmem S8x64x128 .f32)
    (M2 : Memref sig .tc .vmem S8x64x128 .f32) (M3 : Memref sig .tc .vmem S8x8x128 .i32)
    (M4 : Memref sig .tc .vmem S8x8x128 .f32) (M5 : Memref sig .tc .vmem S8x8x128 .f32)
    (M6 : Memref sig .tc .vmem S8x8x128 .f32) (M7 : Memref sig .tc .vmem S8x64x128 .f32)
    (f0 : Bf (F := Ideal) c M0) (f1 : Bf (F := Ideal) c M1) (f2 : Bf (F := Ideal) c M2) (f3 : Bf (F := Ideal) c M3)
    (f4 : Bf (F := Ideal) c M4) (f5 : Bf (F := Ideal) c M5) (f6 : Bf (F := Ideal) c M6) (f7 : Bf (F := Ideal) c M7)
    (t : ℕ) (ht : t < 8192) (x : IVec S8x1 32) (a0 : IVec S8x128 32) (a1 a2 a3 : FVec Ideal S8x128 .f32) (h : Chks x)
    (D : Vec Ideal S8x64x128 .f32) (L : List (View.Piece (Elt Ideal) S8x64x128 .f32))
    (n : ℕ) (hn : InC n) (hnt : n = t / 128) (w : BitVec 32) (hw : w = BitVec.ofNat 32 t)
    (g7 : Bf (F := Ideal) c M7) (hD : M7.view.read (Elt Ideal) g7 = D)
    (H : Held c M0 M1 M2 M3 M4 M5 M6 M7 f0 f1 f2 f3 f4 f5 f6 g7 t (x, a0, a1, a2, a3)) :
    Held c M0 M1 M2 M3 M4 M5 M6 M7 f0 f1 f2
      (M3.view.writes (Elt Ideal) f3 (pcs (F := Ideal) n hn (putI lanes w x a0)))
      (M4.view.writes (Elt Ideal) f4 (pcs n hn (putC lanes w (cent k0_pay96 (pickAt c M0 f0 lanes x h)) a1)))
      (M5.view.writes (Elt Ideal) f5 (pcs n hn (putC lanes w (cent k0_pay96 (pickAt c M1 f1 lanes x h)) a2)))
      (M6.view.writes (Elt Ideal) f6 (pcs n hn (putC lanes w (cent k0_pay96 (pickAt c M2 f2 lanes x h)) a3)))
      (M7.view.writes (Elt Ideal) f7 (⟨Rect.unit (s := S8x64x128) ![0, 0, 0] S8x64x128.size inb_S8x64x128_S8x64x128_0_0_0,
        k0_pay57 (sqd (ldAll c M0 f0) (ldAll c M1 f1) (ldAll c M2 f2) (cent k0_pay96 (pickAt c M0 f0 lanes x h))
          (cent k0_pay96 (pickAt c M1 f1 lanes x h)) (cent k0_pay96 (pickAt c M2 f2 lanes x h))) D⟩ :: L)) (t + 1)
      (nextW rowsI (sqd (ldAll c M0 f0) (ldAll c M1 f1) (ldAll c M2 f2) (cent k0_pay96 (pickAt c M0 f0 lanes x h))
          (cent k0_pay96 (pickAt c M1 f1 lanes x h)) (cent k0_pay96 (pickAt c M2 f2 lanes x h))) D,
        putI lanes w x a0, putC lanes w (cent k0_pay96 (pickAt c M0 f0 lanes x h)) a1, putC lanes w (cent k0_pay96 (pickAt c M1 f1 lanes x h)) a2,
        putC lanes w (cent k0_pay96 (pickAt c M2 f2 lanes x h)) a3) := by
  subst hw hnt hD
  have eI := putI_step c M0 M1 M2 f0 f1 f2 ht H.word a0 H.accI
  have e0 := putC_step c M0 M1 M2 f0 f1 f2 ht h H.word M0 f0 a1 H.acc0
  have e1 := putC_step c M0 M1 M2 f0 f1 f2 ht h H.word M1 f1 a2 H.acc1
  have e2 := putC_step c M0 M1 M2 f0 f1 f2 ht h H.word M2 f2 a3 H.acc2
  exact {
    word := word_step c M0 M1 M2 f0 f1 f2 h H.word _ H.dist
    dist := fun b n => by
      rw [View.read_writes_full, pay57_apply]
      exact dist_step c M0 M1 M2 f0 f1 f2 h H.word _ H.dist b n
    accI := eI
    acc0 := e0
    acc1 := e1
    acc2 := e2
    bufI := H.bufI.step eI fun b q l => read_pcs M3 f3 _ hn _ b q l
    buf0 := H.buf0.step e0 fun b q l => read_pcs M4 f4 _ hn _ b q l
    buf1 := H.buf1.step e1 fun b q l => read_pcs M5 f5 _ hn _ b q l
    buf2 := H.buf2.step e2 fun b q l => read_pcs M6 f6 _ hn _ b q l }

/-- The eight buffers after `t` steps. -/
def inv (c : Dev nD) (M0 M1 M2 : Memref sig .tc .vmem S8x64x128 .f32) (M3 : Memref sig .tc .vmem S8x8x128 .i32)
    (M4 M5 M6 : Memref sig .tc .vmem S8x8x128 .f32) (M7 : Memref sig .tc .vmem S8x64x128 .f32)
    (f0 : Bf (F := Ideal) c M0) (f1 : Bf (F := Ideal) c M1) (f2 : Bf (F := Ideal) c M2) (t : ℕ)
    (r : IVec S8x1 32 × IVec S8x128 32 × FVec Ideal S8x128 .f32 × FVec Ideal S8x128 .f32 × FVec Ideal S8x128 .f32) :
    sProp (MT nD τ sig (HIx 1) (Elt Ideal) ℕ UU ℕ) :=
  iprop(∃ f3 f4 f5 f6 f7, ⌜Held c M0 M1 M2 M3 M4 M5 M6 M7 f0 f1 f2 f3 f4 f5 f6 f7 t r⌝
    ∗ pt c M0 f0 ∗ pt c M1 f1 ∗ pt c M2 f2 ∗ pt c M3 f3 ∗ pt c M4 f4 ∗ pt c M5 f5 ∗ pt c M6 f6 ∗ pt c M7 f7)

set_option maxHeartbeats 1000000 in
/-- **The sampling kernel's run**: from the eight buffers held whole it runs to its return, the three clouds as they were and the four
    results at the 1024 sampled points' row numbers and coordinates. -/
theorem fpsRun (c : Dev nD)
    (M0 : Memref sig .tc .vmem S8x64x128 .f32) (h0 : M0.IsWhole) (M1 : Memref sig .tc .vmem S8x64x128 .f32) (h1 : M1.IsWhole)
    (M2 : Memref sig .tc .vmem S8x64x128 .f32) (h2 : M2.IsWhole) (M3 : Memref sig .tc .vmem S8x8x128 .i32) (h3 : M3.IsWhole)
    (M4 : Memref sig .tc .vmem S8x8x128 .f32) (h4 : M4.IsWhole) (M5 : Memref sig .tc .vmem S8x8x128 .f32) (h5 : M5.IsWhole)
    (M6 : Memref sig .tc .vmem S8x8x128 .f32) (h6 : M6.IsWhole) (M7 : Memref sig .tc .vmem S8x64x128 .f32) (h7 : M7.IsWhole)
    (f0 : Bf (F := Ideal) c M0) (f1 : Bf (F := Ideal) c M1) (f2 : Bf (F := Ideal) c M2) (f3 : Bf (F := Ideal) c M3)
    (f4 : Bf (F := Ideal) c M4) (f5 : Bf (F := Ideal) c M5) (f6 : Bf (F := Ideal) c M6) (f7 : Bf (F := Ideal) c M7)
    (Q : PUnit → sProp (MT nD τ sig (HIx 1) (Elt Ideal) ℕ UU ℕ)) :
    iprop(pt c M0 f0 ∗ pt c M1 f1 ∗ pt c M2 f2 ∗ pt c M3 f3 ∗ pt c M4 f4 ∗ pt c M5 f5 ∗ pt c M6 f6 ∗ pt c M7 f7
      ∗ (∀ r, inv c M0 M1 M2 M3 M4 M5 M6 M7 f0 f1 f2 1024 r -∗ Q ⟨⟩))
    ⊢ wp frame (wpE (defs₀ (F := Ideal)) Variants.none (T c) none) Set.univ
        (cc0__fps_body M0 h0 M1 h1 M2 h2 M3 h3 M4 h4 M5 h5 M6 h6 M7 h7) Q := by
  have hD : M7.view.readCov (Val := Elt Ideal) [⟨Rect.unit (s := S8x64x128) ![0, 0, 0] S8x64x128.size inb_S8x64x128_S8x64x128_0_0_0, k0_pay97 (F := Ideal)⟩]
      (Rect.unit (s := S8x64x128) ![0, 0, 0] S8x64x128.size inb_S8x64x128_S8x64x128_0_0_0).toLoadRect = k0_pay97 (F := Ideal) := by
    exact View.readCov_full (Val := Elt Ideal) M7.view inb_S8x64x128_S8x64x128_0_0_0 inb_S8x64x128_S8x64x128_0_0_0 (k0_pay97 (F := Ideal)) []
  have hh : Held c M0 M1 M2 M3 M4 M5 M6 M7 f0 f1 f2 f3 f4 f5 f6
      (M7.view.writes (Elt Ideal) f7 [⟨Rect.unit (s := S8x64x128) ![0, 0, 0] S8x64x128.size inb_S8x64x128_S8x64x128_0_0_0, k0_pay97 (F := Ideal)⟩]) 0
      (x0, broadcast S8x128 0#32, broadcast S8x128 (Scalar.ofBits .f32 0x00000000#32), broadcast S8x128 (Scalar.ofBits .f32 0x00000000#32),
        broadcast S8x128 (Scalar.ofBits .f32 0x00000000#32)) :=
    { word := fun b => rfl
      dist := fun b n => by rw [View.read_writes_full]; exact pay97_apply _ _ _
      accI := accOK_zero _ _
      acc0 := accOK_zero _ _
      acc1 := accOK_zero _ _
      acc2 := accOK_zero _ _
      bufI := bufOK_zero _ _
      buf0 := bufOK_zero _ _
      buf1 := bufOK_zero _ _
      buf2 := bufOK_zero _ _ }
  rw [cc0__fps_body_eq_skeleton]; unfold cc0__fps_body_skel
  iintro ⟨H0, H1, H2, H3, H4, H5, H6, H7, Hk⟩
  rw [wp_bind]
  iapply (headRun c M0 h0 M1 h1 M2 h2 M3 h3 M4 h4 M5 h5 M6 h6 M7 h7 f0 f1 f2 f3 f4 f5 f6 f7 (k0_pay97 (F := Ideal)) hD)
  iframe H0 H1 H2 H3 H4 H5 H6 H7
  iintro %r ⟨%hr, H0, H1, H2, H3, H4, H5, H6, H7⟩
  obtain ⟨v, rfl, hv⟩ := hr
  have hd1 := held_step c M0 M1 M2 M3 M4 M5 M6 M7 f0 f1 f2 f3 f4 f5 f6 f7 0 (by omega) x0 (broadcast S8x128 0#32) (broadcast S8x128 (Scalar.ofBits .f32 0x00000000#32)) (broadcast S8x128 (Scalar.ofBits .f32 0x00000000#32)) (broadcast S8x128 (Scalar.ofBits .f32 0x00000000#32)) chks_zero (k0_pay97 (F := Ideal)) [⟨Rect.unit (s := S8x64x128) ![0, 0, 0] S8x64x128.size inb_S8x64x128_S8x64x128_0_0_0, k0_pay97 (F := Ideal)⟩]
    0 inC_zero rfl 0#32 rfl (M7.view.writes (Elt Ideal) f7 [⟨Rect.unit (s := S8x64x128) ![0, 0, 0] S8x64x128.size inb_S8x64x128_S8x64x128_0_0_0, k0_pay97 (F := Ideal)⟩]) (View.read_writes_full M7.view f7 inb_S8x64x128_S8x64x128_0_0_0 (k0_pay97 (F := Ideal)) []) hh
  rw [← hv] at hd1
  dsimp only
  rw [wp_bind]
  iapply (Scf.wp_for _ _ _ _ _ _ _ _ _ (fun k r => inv c M0 M1 M2 M3 M4 M5 M6 M7 f0 f1 f2 (k + 1) r) (by
    rintro k ⟨x, a0, a1, a2, a3⟩
    unfold inv
    iintro ⟨%g3, %g4, %g5, %g6, %g7, %H, H0, H1, H2, H3, H4, H5, H6, H7⟩
    have hk : k.val + 1 < 8192 := by
      have hlt := k.isLt
      have htr : Scf.trips k0_t1_loop.lb k0_t1_loop.ub k0_t1_loop.st = 1023 := trips_eq
      omega
    have hc : Chks x := H.word.chks
    iapply (tripRun c M0 h0 M1 h1 M2 h2 M3 h3 M4 h4 M5 h5 M6 h6 M7 h7 f0 f1 f2 g3 g4 g5 g6 g7 lanes rowsI k0_pay96 k x a0 a1 a2 a3 hc)
    iframe H0 H1 H2 H3 H4 H5 H6 H7
    iintro %r ⟨%hr, H0, H1, H2, H3, H4, H5, H6, H7⟩
    iexists _, _, _, _, _
    iframe H0 H1 H2 H3 H4 H5 H6 H7
    ipureintro
    rw [hr]
    exact held_step c M0 M1 M2 M3 M4 M5 M6 M7 f0 f1 f2 g3 g4 g5 g6 g7 (k.val + 1) hk x a0 a1 a2 a3 hc _ [] _ (inC_trip k) (stepW_fdiv k) _ (stepW_eq k) g7 (ldAll_eq c M7 g7).symm H))
  isplitl [H0 H1 H2 H3 H4 H5 H6 H7]
  · unfold inv
    iexists _, _, _, _, _
    iframe H0 H1 H2 H3 H4 H5 H6 H7
    ipureintro
    exact hd1
  · iintro %acc Hi
    iapply (BI.BIBase.Entails.of_eq (wp_pure ..).symm)
    imodintro
    iapply Hk $$ %acc
    iexact Hi

end Cert.Proof.Full

end
-- ==== Proof.FpsOut.lean ====
/-
  What the sampling kernel leaves, as functions of the three clouds: the row numbers and the coordinates of the sampled points.
-/
module

public import proofs.«01_k».proof.Proof.FpsRun
public import Idealize.ShloMosaic.Lib.Pipeline.Regions

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)

local notation "𝕀" => MT nD τ sig (HIx 1) (Elt Ideal) ℕ UU ℕ

/-! ## What the sampling kernel leaves -/

/-- The sampled points' row numbers in the table of all batches' points. -/
def outI (X Y Z : S8x64x128.Idx → EReal) : IVec S8x8x128 32 :=
  fun j => BitVec.ofNat 32 (8192 * (j 0).val + (Fps.pt (pnt X Y Z (j 0)) (128 * (j 1).val + (j 2).val)).val)
/-- The sampled points' coordinates `W`. -/
def outC (X Y Z W : S8x64x128.Idx → EReal) : S8x8x128.Idx → EReal :=
  fun j => W (cell (j 0) (Fps.pt (pnt X Y Z (j 0)) (128 * (j 1).val + (j 2).val)))

theorem BufOK.eq_of {α : Type} {g h : S8x8x128.Idx → α} {v : Fin 8 → ℕ → α} (hg : BufOK g v 1024)
    (hh : ∀ (b q : Fin 8) (l : Fin 128), h (ix3 b q l) = v b (128 * q.val + l.val)) : g = h := by
  funext j
  idx_vars j
  rw [hh]
  have e := hg j0 ⟨128 * j1.val + j2.val, by omega⟩ (by show 128 * j1.val + j2.val < 1024; omega)
  rw [← e]
  congr 1
  congr 1 <;> exact Fin.ext (by simp only []; omega)

/-- **The sampling kernel's run, its results named.** -/
theorem fpsOut (c : Dev nD)
    (M0 : Memref sig .tc .vmem S8x64x128 .f32) (h0 : M0.IsWhole) (M1 : Memref sig .tc .vmem S8x64x128 .f32) (h1 : M1.IsWhole)
    (M2 : Memref sig .tc .vmem S8x64x128 .f32) (h2 : M2.IsWhole) (M3 : Memref sig .tc .vmem S8x8x128 .i32) (h3 : M3.IsWhole)
    (M4 : Memref sig .tc .vmem S8x8x128 .f32) (h4 : M4.IsWhole) (M5 : Memref sig .tc .vmem S8x8x128 .f32) (h5 : M5.IsWhole)
    (M6 : Memref sig .tc .vmem S8x8x128 .f32) (h6 : M6.IsWhole) (M7 : Memref sig .tc .vmem S8x64x128 .f32) (h7 : M7.IsWhole)
    (f0 : Bf (F := Ideal) c M0) (f1 : Bf (F := Ideal) c M1) (f2 : Bf (F := Ideal) c M2) (f3 : Bf (F := Ideal) c M3)
    (f4 : Bf (F := Ideal) c M4) (f5 : Bf (F := Ideal) c M5) (f6 : Bf (F := Ideal) c M6) (f7 : Bf (F := Ideal) c M7)
    (Q : PUnit → sProp 𝕀) :
    iprop(pt c M0 f0 ∗ pt c M1 f1 ∗ pt c M2 f2 ∗ pt c M3 f3 ∗ pt c M4 f4 ∗ pt c M5 f5 ∗ pt c M6 f6 ∗ pt c M7 f7
      ∗ ((∃ g3 g4 g5 g6 g7, ⌜M3.view.read (Elt Ideal) g3 = outI (M0.view.read (Elt Ideal) f0) (M1.view.read (Elt Ideal) f1) (M2.view.read (Elt Ideal) f2)
            ∧ M4.view.read (Elt Ideal) g4 = outC (M0.view.read (Elt Ideal) f0) (M1.view.read (Elt Ideal) f1) (M2.view.read (Elt Ideal) f2) (M0.view.read (Elt Ideal) f0)
            ∧ M5.view.read (Elt Ideal) g5 = outC (M0.view.read (Elt Ideal) f0) (M1.view.read (Elt Ideal) f1) (M2.view.read (Elt Ideal) f2) (M1.view.read (Elt Ideal) f1)
            ∧ M6.view.read (Elt Ideal) g6 = outC (M0.view.read (Elt Ideal) f0) (M1.view.read (Elt Ideal) f1) (M2.view.read (Elt Ideal) f2) (M2.view.read (Elt Ideal) f2)⌝
          ∗ pt c M0 f0 ∗ pt c M1 f1 ∗ pt c M2 f2 ∗ pt c M3 g3 ∗ pt c M4 g4 ∗ pt c M5 g5 ∗ pt c M6 g6 ∗ pt c M7 g7) -∗ Q ⟨⟩))
    ⊢ wp frame (wpE (defs₀ (F := Ideal)) Variants.none (T c) none) Set.univ
        (cc0__fps_body M0 h0 M1 h1 M2 h2 M3 h3 M4 h4 M5 h5 M6 h6 M7 h7) Q := by
  iintro ⟨H0, H1, H2, H3, H4, H5, H6, H7, Hk⟩
  iapply (fpsRun c M0 h0 M1 h1 M2 h2 M3 h3 M4 h4 M5 h5 M6 h6 M7 h7 f0 f1 f2 f3 f4 f5 f6 f7)
  iframe H0 H1 H2 H3 H4 H5 H6 H7
  iintro %r Hi
  unfold inv
  icases Hi with ⟨%g3, %g4, %g5, %g6, %g7, %H, H0, H1, H2, H3, H4, H5, H6, H7⟩
  iapply Hk
  iexists g3, g4, g5, g6, g7
  iframe H0 H1 H2 H3 H4 H5 H6 H7
  ipureintro
  exact ⟨H.bufI.eq_of fun b q l => rfl, H.buf0.eq_of fun b q l => rfl, H.buf1.eq_of fun b q l => rfl, H.buf2.eq_of fun b q l => rfl⟩

end Cert.Proof.Full

end
-- ==== Proof.FullMm.lean ====
/-
  The 1x1 convolution's kernel: its eight products fill the result's buffer, one slab each.
-/
module

public import proofs.«01_k».proof.Proof.FpsOps
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.Regions
public import Idealize.ShloMosaic.Lib.Pipeline.Value

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## What the kernel computes -/

/-- Slab `b` of a batched array. -/
def slab {α : Type} (X : S8x1024x128.Idx → α) (b : Fin 8) : S1x1024x128.Idx → α := fun j => X (ix3 b (j 1) (j 2))

/-- The convolution: slab `b` of the result is the product of the weights with slab `b` of the input, and the bias. -/
def mmOut (W : Vec F S256x128 .f32) (X : Vec F S8x1024x128 .f32) (B : Vec F S256x1 .f32) : Vec F S8x256x1024 .f32 :=
  fun i => k2_pay2 W (slab X (i 0)) B (ix3 0 (i 1) (i 2))

theorem zero2 : (![0, 0] : Fin 2 → Nat) = fun _ => 0 := funext fun a => by fin_cases a <;> rfl

/-- A slab of the input, as the kernel loads it. -/
theorem ld_slab (X : Vec F S8x1024x128 .f32) (b : Fin 8) (inb : ∀ a, (![b.val, 0, 0] : Fin 3 → ℕ) a + S1x1024x128.size a ≤ S8x1024x128.size a) :
    View.ld X (Rect.unit (s := S8x1024x128) ![b.val, 0, 0] S1x1024x128.size inb) = slab X b :=
  funext fun x => congrArg X (funext fun
    | ⟨0, _⟩ => Fin.ext (by show b.val + 1 * (x 0).val = b.val; have : (x 0).val < 1 := (x 0).isLt; omega)
    | ⟨1, _⟩ => Fin.ext (by show 0 + 1 * (x 1).val = (x 1).val; omega)
    | ⟨2, _⟩ => Fin.ext (by show 0 + 1 * (x 2).val = (x 2).val; omega))

/-- The store of slab `b` agrees with the convolution on the slab. -/
theorem piece_eq (W : Vec F S256x128 .f32) (X : Vec F S8x1024x128 .f32) (B : Vec F S256x1 .f32) (b : Fin 8)
    (inb : ∀ a, (![b.val, 0, 0] : Fin 3 → ℕ) a + S1x256x1024.size a ≤ S8x256x1024.size a)
    (inbX : ∀ a, (![b.val, 0, 0] : Fin 3 → ℕ) a + S1x1024x128.size a ≤ S8x1024x128.size a) (x : S1x256x1024.Idx) :
    k2_pay2 (View.ld W (Rect.unit (s := S256x128) ![0, 0] S256x128.size inb_S256x128_S256x128_0_0))
        (View.ld X (Rect.unit (s := S8x1024x128) ![b.val, 0, 0] S1x1024x128.size inbX))
        (View.ld B (Rect.unit (s := S256x1) ![0, 0] S256x1.size inb_S256x1_S256x1_0_0)) x
      = mmOut W X B ((Rect.unit (s := S8x256x1024) ![b.val, 0, 0] S1x256x1024.size inb).emb x) := by
  have hW : View.ld W (Rect.unit (s := S256x128) ![0, 0] S256x128.size inb_S256x128_S256x128_0_0) = W := View.ld_unit_zero zero2 _ W
  have hB : View.ld B (Rect.unit (s := S256x1) ![0, 0] S256x1.size inb_S256x1_S256x1_0_0) = B := View.ld_unit_zero zero2 _ B
  have he : (Rect.unit (s := S8x256x1024) ![b.val, 0, 0] S1x256x1024.size inb).emb x = ix3 b (x 1) (x 2) := funext fun
    | ⟨0, _⟩ => Fin.ext (by show b.val + 1 * (x 0).val = b.val; have : (x 0).val < 1 := (x 0).isLt; omega)
    | ⟨1, _⟩ => Fin.ext (by show 0 + 1 * (x 1).val = (x 1).val; omega)
    | ⟨2, _⟩ => Fin.ext (by show 0 + 1 * (x 2).val = (x 2).val; omega)
  have hx : x = ix3 0 (x 1) (x 2) := funext fun
    | ⟨0, _⟩ => Fin.ext (by have : (x 0).val < 1 := (x 0).isLt; show (x 0).val = 0; omega)
    | ⟨1, _⟩ => rfl
    | ⟨2, _⟩ => rfl
  rw [hW, hB, ld_slab X b inbX, he]
  exact congrArg _ hx

/-! ## The kernel's run -/

set_option maxHeartbeats 1000000 in
/-- From the four staging buffers held whole: the kernel runs to its return, the inputs as they were and the result's
    reading as the convolution. -/
theorem kernelRun (c : Dev nD) (M0 : Memref sig .tc .vmem S8x1024x128 .f32) (h0 : M0.IsWhole) (M1 : Memref sig .tc .vmem S256x128 .f32) (h1 : M1.IsWhole)
    (M2 : Memref sig .tc .vmem S256x1 .f32) (h2 : M2.IsWhole) (M3 : Memref sig .tc .vmem S8x256x1024 .f32) (h3 : M3.IsWhole)
    (f0 : Bf (F := F) c M0) (f1 : Bf (F := F) c M1) (f2 : Bf (F := F) c M2) (f3 : Bf (F := F) c M3)
    (Q : PUnit → sProp 𝕄) :
    iprop(pt c M0 f0 ∗ pt c M1 f1 ∗ pt c M2 f2 ∗ pt c M3 f3
      ∗ (iprop(pt c M0 f0 ∗ pt c M1 f1 ∗ pt c M2 f2
          ∗ ∃ f, ⌜M3.view.read (Elt F) f = mmOut (M1.view.read (Elt F) f1) (M0.view.read (Elt F) f0) (M2.view.read (Elt F) f2)⌝ ∗ pt c M3 f) -∗ Q ⟨⟩))
    ⊢ wp frame (wpE (defs₀ (F := F)) Variants.none (T c) none) Set.univ
        (cc2__mm_body M0 h0 M1 h1 M2 h2 M3 h3) Q := by
  iintro ⟨H0, H1, H2, H3, Hk⟩
  rw [cc2__mm_body_eq_skeleton]; unfold cc2__mm_body_skel
  rw [k2_part1_eq_skeleton, k2_part2_eq_skeleton, k2_part3_eq_skeleton]; unfold k2_part1_skel k2_part2_skel k2_part3_skel
  sl_exec
  sl_step
  iapply Hk
  isplitl [H0]; · iexact H0
  isplitl [H1]; · iexact H1
  isplitl [H2]; · iexact H2
  iexists _
  isplitr; swap
  · iexact H3
  · ipureintro
    refine funext fun y => View.read_writes_apply_of_pieces _ _ (mmOut (M1.view.read (Elt F) f1) (M0.view.read (Elt F) f0) (M2.view.read (Elt F) f2)) _ ?_ y
      (View.cover_of_tiled (s := S8x256x1024) _ (![1, 256, 1024] : Fin 3 → ℕ) rfl y)
    intro p hp x
    simp only [List.mem_cons, List.not_mem_nil, or_false] at hp
    rcases hp with rfl | rfl | rfl | rfl | rfl | rfl | rfl | rfl
    · exact piece_eq _ _ _ 7 inb_S8x256x1024_S1x256x1024_7_0_0 inb_S8x1024x128_S1x1024x128_7_0_0 x
    · exact piece_eq _ _ _ 6 inb_S8x256x1024_S1x256x1024_6_0_0 inb_S8x1024x128_S1x1024x128_6_0_0 x
    · exact piece_eq _ _ _ 5 inb_S8x256x1024_S1x256x1024_5_0_0 inb_S8x1024x128_S1x1024x128_5_0_0 x
    · exact piece_eq _ _ _ 4 inb_S8x256x1024_S1x256x1024_4_0_0 inb_S8x1024x128_S1x1024x128_4_0_0 x
    · exact piece_eq _ _ _ 3 inb_S8x256x1024_S1x256x1024_3_0_0 inb_S8x1024x128_S1x1024x128_3_0_0 x
    · exact piece_eq _ _ _ 2 inb_S8x256x1024_S1x256x1024_2_0_0 inb_S8x1024x128_S1x1024x128_2_0_0 x
    · exact piece_eq _ _ _ 1 inb_S8x256x1024_S1x256x1024_1_0_0 inb_S8x1024x128_S1x1024x128_1_0_0 x
    · exact piece_eq _ _ _ 0 inb_S8x256x1024_S1x256x1024_0_0_0 inb_S8x1024x128_S1x1024x128_0_0_0 x

end Cert.Proof.Full

end
-- ==== Proof.FullDat.lean ====
/-
  The two TensorCore kernels as pipelines: what their buffers hold at each point, their bodies' obligations, and what their
  regions leave in the arrays.
-/
module

public import proofs.«01_k».proof.Proof.FpsOut
public import proofs.«01_k».proof.Proof.FullMm

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)

local notation "𝕀" => MT nD τ sig (HIx 1) (Elt Ideal) ℕ UU ℕ

/-- The TensorCore's buffers at a region's entry, by device. -/
abbrev Vals : Type := (c : Dev nD) → (b : Ref sig .tc) → Buf (Elt Ideal) ((T c : Thread nD τ).loc b)

variable (V : Vals)

/-- The sampled rows, and coordinate `W` of the sampled points, of the clouds at the region's entry. -/
def vI (c : Dev nD) : IVec S8x8x128 32 := outI (V c main_v2) (V c main_v5) (V c main_v8)
def vC (c : Dev nD) (W : S8x64x128.Idx → EReal) : S8x8x128.Idx → EReal := outC (V c main_v2) (V c main_v5) (V c main_v8) W
/-- What the convolution's region leaves in the result's array. -/
def convOut (c : Dev nD) : Vec Ideal S8x256x1024 .f32 := mmOut (F := Ideal) (V c main_arg2) (V c main_v21) (V c main_v22)

/-! ## The two pipelines' proof data -/

/-- An index whose coordinates are another's is the other. -/
theorem idx_id {s : Shape} {x y : s.Idx} (h : ∀ a, (y a).val = 0 + 1 * (x a).val) : y = x := funext fun a => Fin.ext ((h a).trans (by omega))

/-- The sampling's proof data on device `c`, before or after the program's call `n`: the arrays at their entry contents;
    after the body the clouds' buffers as fetched and the results' at the sampled points; the kernel's scratch and the other
    kernel's staging buffers held through. -/
def dat0 (n : ℕ) (c : Dev nD) : Dat τ (Elt Ideal) (HIx 1) ℕ UU ℕ cfg0 c where
  A w := V c (Pipeline.arrRef spec0 w)
  after w _ := match w with
    | ⟨0, _⟩ => V c main_v2
    | ⟨1, _⟩ => V c main_v5
    | ⟨2, _⟩ => V c main_v8
    | ⟨3, _⟩ => vI V c
    | ⟨4, _⟩ => vC V c (V c main_v2)
    | ⟨5, _⟩ => vC V c (V c main_v5)
    | ⟨6, _⟩ => vC V c (V c main_v8)
  Φ _ := Pipeline.scopedRest spec0 c
  q _ := fullShare
  owed _ := (K (F := Ideal)).Otc c n
  recorded _ := {p | (K (F := Ideal)).lev (T c, p.1) p.2 ≤ 8 * SparseCore.Cfg.Blocks.fst (Q := 1) (N := 1) n}
/-- The convolution's. -/
def dat1 (n : ℕ) (c : Dev nD) : Dat τ (Elt Ideal) (HIx 1) ℕ UU ℕ cfg2 c where
  A w := V c (Pipeline.arrRef spec2 w)
  after w _ := match w with
    | ⟨0, _⟩ => V c main_v21
    | ⟨1, _⟩ => V c main_arg2
    | ⟨2, _⟩ => V c main_v22
    | ⟨3, _⟩ => convOut V c
  Φ _ := Pipeline.scopedRest spec2 c
  q _ := fullShare
  owed _ := (K (F := Ideal)).Otc c n
  recorded _ := {p | (K (F := Ideal)).lev (T c, p.1) p.2 ≤ 8 * SparseCore.Cfg.Blocks.fst (Q := 1) (N := 1) n}
def dats (n : ℕ) : (p : Fin 2) → (c : Dev nD) → Dat τ (Elt Ideal) (HIx 1) ℕ UU ℕ (cfgs p) c
  | ⟨0, _⟩, c => dat0 V n c
  | ⟨1, _⟩, c => dat1 V n c

theorem s0_0 (n : ℕ) (c : Dev nD) (d : (cfg0.win 0).block.Idx → Elt Ideal (cfg0.win 0).elt) : (dat0 V n c).before 0 t0_0 d = V c main_v2 := by
  unfold Dat.before; rw [if_pos (by decide)]; exact funext fun x => congrArg (V c main_v2) (idx_id fun | ⟨0, _⟩ => rfl | ⟨1, _⟩ => rfl | ⟨2, _⟩ => rfl)
theorem s0_1 (n : ℕ) (c : Dev nD) (d : (cfg0.win 1).block.Idx → Elt Ideal (cfg0.win 1).elt) : (dat0 V n c).before 1 t0_0 d = V c main_v5 := by
  unfold Dat.before; rw [if_pos (by decide)]; exact funext fun x => congrArg (V c main_v5) (idx_id fun | ⟨0, _⟩ => rfl | ⟨1, _⟩ => rfl | ⟨2, _⟩ => rfl)
theorem s0_2 (n : ℕ) (c : Dev nD) (d : (cfg0.win 2).block.Idx → Elt Ideal (cfg0.win 2).elt) : (dat0 V n c).before 2 t0_0 d = V c main_v8 := by
  unfold Dat.before; rw [if_pos (by decide)]; exact funext fun x => congrArg (V c main_v8) (idx_id fun | ⟨0, _⟩ => rfl | ⟨1, _⟩ => rfl | ⟨2, _⟩ => rfl)
theorem s1_0 (n : ℕ) (c : Dev nD) (d : (cfg2.win 0).block.Idx → Elt Ideal (cfg2.win 0).elt) : (dat1 V n c).before 0 t2_0 d = V c main_v21 := by
  unfold Dat.before; rw [if_pos (by decide)]; exact funext fun x => congrArg (V c main_v21) (idx_id fun | ⟨0, _⟩ => rfl | ⟨1, _⟩ => rfl | ⟨2, _⟩ => rfl)
theorem s1_1 (n : ℕ) (c : Dev nD) (d : (cfg2.win 1).block.Idx → Elt Ideal (cfg2.win 1).elt) : (dat1 V n c).before 1 t2_0 d = V c main_arg2 := by
  unfold Dat.before; rw [if_pos (by decide)]; exact funext fun x => congrArg (V c main_arg2) (idx_id fun | ⟨0, _⟩ => rfl | ⟨1, _⟩ => rfl)
theorem s1_2 (n : ℕ) (c : Dev nD) (d : (cfg2.win 2).block.Idx → Elt Ideal (cfg2.win 2).elt) : (dat1 V n c).before 2 t2_0 d = V c main_v22 := by
  unfold Dat.before; rw [if_pos (by decide)]; exact funext fun x => congrArg (V c main_v22) (idx_id fun | ⟨0, _⟩ => rfl | ⟨1, _⟩ => rfl)

set_option maxHeartbeats 4000000 in
/-- The sampling's body obligation: the staging buffers and the scratch taken apart, the kernel's run applied, its post reassembled. -/
theorem body0 (n : ℕ) (c : Dev nD) : BodyObligation (dat0 V n c) (defs₀ (F := Ideal)) 𝒱₀ none Set.univ := fun t => by
  obtain rfl := fin_N0 t
  rw [bigSep_W0, bigSep_W0]
  simp only [owns_whole_eq]
  rw [show (dat0 V n c).Φ t0_0.castSucc = Pipeline.scopedRest spec0 c from rfl, show (dat0 V n c).Φ t0_0.succ = Pipeline.scopedRest spec0 c from rfl, scopedRest0_eq]
  iintro ⟨⟨⟨%f7, H7⟩, Hr⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩⟩
  rw [s0_0] at hf0; rw [s0_1] at hf1; rw [s0_2] at hf2
  iapply (fpsOut c (stage0_0 0) (hstage0_0 0) (stage0_1 0) (hstage0_1 0) (stage0_2 0) (hstage0_2 0) (stage0_3 0) (hstage0_3 0) (stage0_4 0) (hstage0_4 0) (stage0_5 0) (hstage0_5 0) (stage0_6 0) (hstage0_6 0) (Memref.whole cc0_scratch0) (Memref.isWhole_whole _) f0 f1 f2 f3 f4 f5 f6 f7)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨%g3, %g4, %g5, %g6, %g7, %hg, H0, H1, H2, H3, H4, H5, H6, H7⟩
  rw [hf0, hf1, hf2] at hg
  isplitl [H7 Hr]
  · isplitl [H7]; · iexists g7; iexact H7
    iexact Hr
  isplitl [HO]; · iexact HO
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists g3; isplitr; swap; (· iexact H3); ipureintro; exact hg.1
  isplitl [H4]; · iexists g4; isplitr; swap; (· iexact H4); ipureintro; exact hg.2.1
  isplitl [H5]; · iexists g5; isplitr; swap; (· iexact H5); ipureintro; exact hg.2.2.1
  iexists g6; isplitr; swap; (· iexact H6); ipureintro; exact hg.2.2.2

/-- The convolution's. -/
theorem body1 (n : ℕ) (c : Dev nD) : BodyObligation (dat1 V n c) (defs₀ (F := Ideal)) 𝒱₀ none Set.univ := fun t => by
  obtain rfl := fin_N2 t
  rw [bigSep_W2, bigSep_W2]
  simp only [owns_whole_eq]
  rw [show (dat1 V n c).Φ t2_0.castSucc = Pipeline.scopedRest spec2 c from rfl, show (dat1 V n c).Φ t2_0.succ = Pipeline.scopedRest spec2 c from rfl]
  iintro ⟨Hr, HO, ⟨%d0, %f0, %hf0, H0⟩, ⟨%d1, %f1, %hf1, H1⟩, ⟨%d2, %f2, %hf2, H2⟩, ⟨%d3, %f3, %hf3, H3⟩⟩
  rw [s1_0] at hf0; rw [s1_1] at hf1; rw [s1_2] at hf2
  iapply (kernelRun c (stage2_0 0) (hstage2_0 0) (stage2_1 0) (hstage2_1 0) (stage2_2 0) (hstage2_2 0) (stage2_3 0) (hstage2_3 0) f0 f1 f2 f3)
  isplitl [H0]; · iexact H0
  isplitl [H1]; · iexact H1
  isplitl [H2]; · iexact H2
  isplitl [H3]; · iexact H3
  iintro ⟨H0, H1, H2, %f, %hf, H3⟩
  isplitl [Hr]; · iexact Hr
  isplitl [HO]; · iexact HO
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  iexists f; isplitr; swap; (· iexact H3); ipureintro
  subst hf0 hf1 hf2; exact hf

/-! ## The results' arrays after the regions -/

theorem emb0_3 (x : S8x8x128.Idx) : ((cfg0.win 3).blk t0_0).view.emb x = x := idx_id fun | ⟨0, _⟩ => rfl | ⟨1, _⟩ => rfl | ⟨2, _⟩ => rfl
theorem emb0_4 (x : S8x8x128.Idx) : ((cfg0.win 4).blk t0_0).view.emb x = x := idx_id fun | ⟨0, _⟩ => rfl | ⟨1, _⟩ => rfl | ⟨2, _⟩ => rfl
theorem emb0_5 (x : S8x8x128.Idx) : ((cfg0.win 5).blk t0_0).view.emb x = x := idx_id fun | ⟨0, _⟩ => rfl | ⟨1, _⟩ => rfl | ⟨2, _⟩ => rfl
theorem emb0_6 (x : S8x8x128.Idx) : ((cfg0.win 6).blk t0_0).view.emb x = x := idx_id fun | ⟨0, _⟩ => rfl | ⟨1, _⟩ => rfl | ⟨2, _⟩ => rfl
theorem emb2_3 (x : S8x256x1024.Idx) : ((cfg2.win 3).blk t2_0).view.emb x = x := idx_id fun | ⟨0, _⟩ => rfl | ⟨1, _⟩ => rfl | ⟨2, _⟩ => rfl

theorem final0_3 (n : ℕ) (c : Dev nD) : (dat0 V n c).arrAt 3 cfg0.N = vI V c :=
  (dat0 V n c).arrAt_eq_of_cover 3 (vI V c) (fun t _ => by obtain rfl := fin_N0 t; exact funext fun x => (congrArg (vI V c) (emb0_3 x)).symm)
    fun i => ⟨t0_0, flush0_3 t0_0, Finset.mem_map.mpr ⟨i, Finset.mem_univ _, emb0_3 i⟩⟩
theorem final0_4 (n : ℕ) (c : Dev nD) : (dat0 V n c).arrAt 4 cfg0.N = vC V c (V c main_v2) :=
  (dat0 V n c).arrAt_eq_of_cover 4 (vC V c (V c main_v2)) (fun t _ => by obtain rfl := fin_N0 t; exact funext fun x => (congrArg (vC V c (V c main_v2)) (emb0_4 x)).symm)
    fun i => ⟨t0_0, flush0_4 t0_0, Finset.mem_map.mpr ⟨i, Finset.mem_univ _, emb0_4 i⟩⟩
theorem final0_5 (n : ℕ) (c : Dev nD) : (dat0 V n c).arrAt 5 cfg0.N = vC V c (V c main_v5) :=
  (dat0 V n c).arrAt_eq_of_cover 5 (vC V c (V c main_v5)) (fun t _ => by obtain rfl := fin_N0 t; exact funext fun x => (congrArg (vC V c (V c main_v5)) (emb0_5 x)).symm)
    fun i => ⟨t0_0, flush0_5 t0_0, Finset.mem_map.mpr ⟨i, Finset.mem_univ _, emb0_5 i⟩⟩
theorem final0_6 (n : ℕ) (c : Dev nD) : (dat0 V n c).arrAt 6 cfg0.N = vC V c (V c main_v8) :=
  (dat0 V n c).arrAt_eq_of_cover 6 (vC V c (V c main_v8)) (fun t _ => by obtain rfl := fin_N0 t; exact funext fun x => (congrArg (vC V c (V c main_v8)) (emb0_6 x)).symm)
    fun i => ⟨t0_0, flush0_6 t0_0, Finset.mem_map.mpr ⟨i, Finset.mem_univ _, emb0_6 i⟩⟩
theorem final2_3 (n : ℕ) (c : Dev nD) : (dat1 V n c).arrAt 3 cfg2.N = convOut V c :=
  (dat1 V n c).arrAt_eq_of_cover 3 (convOut V c) (fun t _ => by obtain rfl := fin_N2 t; exact funext fun x => (congrArg (convOut V c) (emb2_3 x)).symm)
    fun i => ⟨t2_0, flush2_3 t2_0, Finset.mem_map.mpr ⟨i, Finset.mem_univ _, emb2_3 i⟩⟩

/-! ## The regions -/

/-- What the core owes for the calls from `n` on, its recorded waits below them. -/
abbrev tcOwes (n : ℕ) (c : Dev nD) : sProp 𝕀 :=
  iprop(∃ W, ⌜(K (F := Ideal)).WBelow (T c) W (8 * SparseCore.Cfg.Blocks.fst (Q := 1) (N := 1) n)⌝ ∗ owes (T c) ((K (F := Ideal)).Otc c n) W)

/-- The handshakes' units are none of the kernels' own. -/
theorem Otc_none (n : ℕ) (c : Dev nD) (g : GSem nD τ sig) : (K (F := Ideal)).Otc (N := 1) c n g none = 0 := by
  by_contra h
  have := SparseCore.Cfg.lev_of_Otc_pos (Nat.pos_of_ne_zero h)
  rw [SparseCore.Cfg.lev_none] at this
  omega

/-- The prefetched tables' admissible contents: no table. -/
abbrev adm : (p : Fin 2) → (pcfgs (F := Ideal) p).Adm := fun p => (cfgs p).toPCfg_adm

/-- The regions have no semaphore of their own. -/
abbrev osem : Fin 0 → SemLoc sig := fun k => k.elim0
theorem ownSemFacts0 : Pipeline.OwnSemFacts spec0 osem := by decide
theorem ownSemFacts2 : Pipeline.OwnSemFacts spec2 osem := by decide

set_option maxHeartbeats 4000000 in
/-- What the regions' ends ask of the arrays: the results at what the kernels leave, every other buffer kept as it was. -/
theorem arrays_end0 (n : ℕ) (c : Dev nD) : (dat0 V n c).arrays ((dat0 V n c).arrAt · cfg0.N)
    ⊢ iprop((((T c : Thread nD τ).loc main_v2) ↦{fullShare} V c main_v2) ∗ (((T c : Thread nD τ).loc main_v5) ↦{fullShare} V c main_v5)
      ∗ (((T c : Thread nD τ).loc main_v8) ↦{fullShare} V c main_v8) ∗ (((T c : Thread nD τ).loc main_v9_0) ↦{fullShare} vI V c)
      ∗ (((T c : Thread nD τ).loc main_v9_1) ↦{fullShare} vC V c (V c main_v2)) ∗ (((T c : Thread nD τ).loc main_v9_2) ↦{fullShare} vC V c (V c main_v5))
      ∗ (((T c : Thread nD τ).loc main_v9_3) ↦{fullShare} vC V c (V c main_v8))) := by
  unfold Pipeline.Dat.arrays
  refine (Entails.of_eq (bigSep_W0 _)).trans ?_
  have e0 : (dat0 V n c).arrAt 0 cfg0.N = V c main_v2 := (dat0 V n c).arrAt_in 0 rfl _
  have e1 : (dat0 V n c).arrAt 1 cfg0.N = V c main_v5 := (dat0 V n c).arrAt_in 1 rfl _
  have e2 : (dat0 V n c).arrAt 2 cfg0.N = V c main_v8 := (dat0 V n c).arrAt_in 2 rfl _
  have s0 : ((cfg0.win 0).arr.view.set) = Finset.univ := View.set_whole _
  have s1 : ((cfg0.win 1).arr.view.set) = Finset.univ := View.set_whole _
  have s2 : ((cfg0.win 2).arr.view.set) = Finset.univ := View.set_whole _
  have s3 : ((cfg0.win 3).arr.view.set) = Finset.univ := View.set_whole _
  have s4 : ((cfg0.win 4).arr.view.set) = Finset.univ := View.set_whole _
  have s5 : ((cfg0.win 5).arr.view.set) = Finset.univ := View.set_whole _
  have s6 : ((cfg0.win 6).arr.view.set) = Finset.univ := View.set_whole _
  simp only [(dat0 V n c).share_full (fun _ => rfl)]
  rw [s0, s1, s2, s3, s4, s5, s6, e0, e1, e2, final0_3, final0_4, final0_5, final0_6]
theorem arrays_end2 (n : ℕ) (c : Dev nD) : (dat1 V n c).arrays ((dat1 V n c).arrAt · cfg2.N)
    ⊢ iprop((((T c : Thread nD τ).loc main_arg2) ↦{fullShare} V c main_arg2) ∗ (((T c : Thread nD τ).loc main_v23) ↦{fullShare} convOut V c)) := by
  unfold Pipeline.Dat.arrays
  refine (Entails.of_eq (bigSep_W2 _)).trans ?_
  have h1 : (dat1 V n c).arrAt 1 cfg2.N = V c main_arg2 := (dat1 V n c).arrAt_in 1 rfl _
  have s1 : ((cfg2.win 1).arr.view.set) = Finset.univ := View.set_whole _
  have s3 : ((cfg2.win 3).arr.view.set) = Finset.univ := View.set_whole _
  iintro ⟨-, H1, -, H3⟩
  isplitl [H1]
  · rw [s1, (dat1 V n c).share_full (fun _ => rfl)]; dsimp only; rw [h1]; iexact H1
  · rw [s3, (dat1 V n c).share_full (fun _ => rfl)]; dsimp only; rw [final2_3]; iexact H3

end Cert.Proof.Full

end
-- ==== Proof.FullRegion.lean ====
/-
The two TensorCore kernels' regions in @main: entered with the device's buffers at some contents, each leaves them at those
  contents with its results' arrays rewritten.
-/
module

public import proofs.«01_k».proof.Proof.FullDat
public import Idealize.ShloMosaic.Lib.Pipeline.FrameTail
public import Idealize.ShloMosaic.Lib.Pipeline.RegionsLoop

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.Pipeline (Dat Cfg Window BodyObligation cellOf)

/-- The TensorCore's buffers of a valuation. -/
abbrev vals (W : Dev nD → Valuation τ sig (Elt Ideal)) : Vals := fun c b => W c (Proc.devRef .tc b)

set_option backward.isDefEq.respectTransparency.types false in
set_option maxHeartbeats 4000000 in
/-- The sampling's region, entered from the device's buffers at `W`: it leaves them at `W` with the results' arrays rewritten. -/
def reg0 (W : Dev nD → Valuation τ sig (Elt Ideal)) (n : ℕ) : Pipeline.RegionSeg (pcfgs (F := Ideal)) adm (dats (vals W) n) (none : HIx 1) defs₀ 𝒱₀ (K (F := Ideal)).L (K (F := Ideal)).lev 0 where
  win := launch0.win.to₀
  block_pos := launch0.block_pos
  stage_whole := launch0.stage_whole
  K := Fin 0
  osem := osem
  ho := ownSemFacts0
  hbody c := (body0 (vals W) n c).loose
  hwaits c := Pipeline.cellsWaits_intro _ _ _ _ _ fun w s t => (K (F := Ideal)).mayWait_none _ (Otc_none n c)
  pre c := iprop(unscopedBufs c (vals W c) ∗ tcOwes n c)
  post c := iprop(unscopedBufs c (fun b => Pipeline.afterRegion (dat0 (vals W) n c) (W c) (Proc.devRef .tc b)) ∗ tcOwes n c)
  X c := iprop(emp)
  Y c := iprop(emp)
  Z c := Pipeline.unscopedRest spec0 c (vals W c)
  hentry c := by
    have hsplit := (Pipeline.arrays_of_unscopedBufs (pcfgs (F := Ideal)) adm (p := 0) (dats (vals W) n) launch0.win launch0.arr_whole c
      ((dat0 (vals W) n c).share_full fun _ => rfl) (vals W c) (fun _ => rfl))
    iintro ⟨⟨Hub, ⟨%R, %hR, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists R; isplitr
      · ipureintro; exact fun p hp => Or.inl (hR p hp)
      · iexact HO
    isplitr; · iempintro
    iexact Hr
  hin c := by
    show iprop(_ ∗ _ ∗ Pipeline.scopedRest spec0 c) ⊢ Pipeline.scopedRest spec0 c
    iintro ⟨-, -, Hr⟩; iexact Hr
  hout c := by
    show Pipeline.scopedRest spec0 c ⊢ iprop(_ ∗ _ ∗ Pipeline.scopedRest spec0 c)
    iintro Hr
    isplitr; · iempintro
    isplitr
    · unfold Pipeline.ownSems0; rw [show (Finset.univ : Finset (Fin 0)) = ∅ from rfl, BI.bigSep_empty]; iempintro
    · iexact Hr
  hexit c := by
    have hjoin := (Pipeline.unscopedBufs_of_arrays (pcfgs (F := Ideal)) adm (p := 0) launch0.win launch0.arr_whole c (dats (vals W) n)
      ((dat0 (vals W) n c).share_full fun _ => rfl) (vals W c) (fun b => Pipeline.afterRegion (dat0 (vals W) n c) (W c) (Proc.devRef .tc b))
      ((dat0 (vals W) n c).arrAt · cfg0.N) (fun w => (Pipeline.afterRegion_arr (dat0 (vals W) n c) (W c) launch0.win.arr_inj w).symm)
      (fun b hb => Pipeline.afterRegion_of_not_arr (dat0 (vals W) n c) (W c) fun w e => hb (Finset.mem_image.mpr ⟨w, Finset.mem_univ _, e.symm⟩)))
    iintro ⟨Ha, HO, -, HZ⟩
    imodintro
    isplitl [Ha HZ]
    · iapply hjoin
      isplitl [Ha]; · iexact Ha
      iexact HZ
    unfold Pipeline.Dat.owesAt Pipeline.owesWithin
    icases HO with ⟨%R, %hR, HO⟩; iexists R; isplitr; swap; (· iexact HO)
    ipureintro
    intro p hp
    rcases hR hp with h | ⟨w, s, rfl⟩
    · exact h
    · rw [SparseCore.Cfg.lev_none]; exact Nat.zero_le _

set_option backward.isDefEq.respectTransparency.types false in
set_option maxHeartbeats 4000000 in
/-- The convolution's region, likewise. -/
def reg1 (W : Dev nD → Valuation τ sig (Elt Ideal)) (n : ℕ) : Pipeline.RegionSeg (pcfgs (F := Ideal)) adm (dats (vals W) n) (none : HIx 1) defs₀ 𝒱₀ (K (F := Ideal)).L (K (F := Ideal)).lev 1 where
  win := launch2.win.to₀
  block_pos := launch2.block_pos
  stage_whole := launch2.stage_whole
  K := Fin 0
  osem := osem
  ho := ownSemFacts2
  hbody c := (body1 (vals W) n c).loose
  hwaits c := Pipeline.cellsWaits_intro _ _ _ _ _ fun w s t => (K (F := Ideal)).mayWait_none _ (Otc_none n c)
  pre c := iprop(unscopedBufs c (vals W c) ∗ tcOwes n c)
  post c := iprop(unscopedBufs c (fun b => Pipeline.afterRegion (dat1 (vals W) n c) (W c) (Proc.devRef .tc b)) ∗ tcOwes n c)
  X c := iprop(emp)
  Y c := iprop(emp)
  Z c := Pipeline.unscopedRest spec2 c (vals W c)
  hentry c := by
    have hsplit := (Pipeline.arrays_of_unscopedBufs (pcfgs (F := Ideal)) adm (p := 1) (dats (vals W) n) launch2.win launch2.arr_whole c
      ((dat1 (vals W) n c).share_full fun _ => rfl) (vals W c) (fun _ => rfl))
    iintro ⟨⟨Hub, ⟨%R, %hR, HO⟩⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists R; isplitr
      · ipureintro; exact fun p hp => Or.inl (hR p hp)
      · iexact HO
    isplitr; · iempintro
    iexact Hr
  hin c := by
    show iprop(_ ∗ _ ∗ Pipeline.scopedRest spec2 c) ⊢ Pipeline.scopedRest spec2 c
    iintro ⟨-, -, Hr⟩; iexact Hr
  hout c := by
    show Pipeline.scopedRest spec2 c ⊢ iprop(_ ∗ _ ∗ Pipeline.scopedRest spec2 c)
    iintro Hr
    isplitr; · iempintro
    isplitr
    · unfold Pipeline.ownSems0; rw [show (Finset.univ : Finset (Fin 0)) = ∅ from rfl, BI.bigSep_empty]; iempintro
    · iexact Hr
  hexit c := by
    have hjoin := (Pipeline.unscopedBufs_of_arrays (pcfgs (F := Ideal)) adm (p := 1) launch2.win launch2.arr_whole c (dats (vals W) n)
      ((dat1 (vals W) n c).share_full fun _ => rfl) (vals W c) (fun b => Pipeline.afterRegion (dat1 (vals W) n c) (W c) (Proc.devRef .tc b))
      ((dat1 (vals W) n c).arrAt · cfg2.N) (fun w => (Pipeline.afterRegion_arr (dat1 (vals W) n c) (W c) launch2.win.arr_inj w).symm)
      (fun b hb => Pipeline.afterRegion_of_not_arr (dat1 (vals W) n c) (W c) fun w e => hb (Finset.mem_image.mpr ⟨w, Finset.mem_univ _, e.symm⟩)))
    iintro ⟨Ha, HO, -, HZ⟩
    imodintro
    isplitl [Ha HZ]
    · iapply hjoin
      isplitl [Ha]; · iexact Ha
      iexact HZ
    unfold Pipeline.Dat.owesAt Pipeline.owesWithin
    icases HO with ⟨%R, %hR, HO⟩; iexists R; isplitr; swap; (· iexact HO)
    ipureintro
    intro p hp
    rcases hR hp with h | ⟨w, s, rfl⟩
    · exact h
    · rw [SparseCore.Cfg.lev_none]; exact Nat.zero_le _

end Cert.Proof.Full

end
-- ==== Proof.FullRun.lean ====
/-
The whole program's run: its host operations as three straight lines around the sampling, the gather and the convolution,
  the launch element of the ghost state dealt to the handshakes and to the two pipelines, @main on the TensorCore, and the
  run of the whole mesh.
-/
module

public import proofs.«01_k».proof.Proof.FullCall
public import proofs.«01_k».proof.Proof.FullRegion
public import Idealize.ShloMosaic.Lib.Pipeline.BigSepL

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "𝕀" => MT nD τ sig (HIx 1) (Elt Ideal) ℕ UU ℕ

open Idealize.ShloMosaic.StableHlo (held after wp_seq unary reshape nary)

/-! ## The launch element of the ghost state -/

/-- The pipelines' share of the ghost state on one device: their cells and their staging tokens. -/
abbrev G (d : Dev nD) : sProp 𝕀 :=
  iprop((bigSep Finset.univ fun p : Fin 2 => Pipeline.cellsGhost (Pipeline.pin (pcfgs (F := Ideal)) adm) EP p d)
    ∗ (bigSep Finset.univ fun p : Fin 2 => Pipeline.toksInit (Pipeline.pin (pcfgs (F := Ideal)) adm) EP p d))

/-- The launch element: the handshakes' cells and tokens, the pipelines' cells and tokens, no transfer counted. -/
def u₀ : UU := (initOf (K (F := Ideal)).hsCells (K (F := Ideal)).hsToks,
  (initOf (Pipeline.cells (nD := nD) (τ := τ) (Pipeline.pin (pcfgs (F := Ideal)) adm) cellOf_inj) (Pipeline.launchToks (Pipeline.pin (pcfgs (F := Ideal)) adm) cellOf_inj), 1))

theorem bigSep_none {J : Type} (s : Finset J) : (bigSep s fun _ => iprop(emp)) = (iprop(emp) : sProp 𝕀) := bigSep_emp_const s

theorem own_EP (a : UP) : (BI.own (((Emb.inl : Emb UP (UP × Counters)).trans embR) a) : sProp 𝕀) ⊢ BI.own (EP a) := Entails.of_eq rfl

/-- The launch element pays for the handshakes, the pipelines, and the tiles' (empty) extra resources. -/
theorem hu₀ (X : (d : Dev nD) → Buf (Elt Ideal) (xLoc d)) (I : (d : Dev nD) → Buf (Elt Ideal) (iLoc d)) (O₀ : (d : Dev nD) → Buf (Elt Ideal) (oLoc d)) :
    (ownU u₀ : sProp 𝕀)
    ⊢ |={Set.univ}=> iprop(BI.own (EH (initOf (K (F := Ideal)).hsCells (K (F := Ideal)).hsToks)) ∗ (bigSep Finset.univ fun d : Dev nD => G d)
        ∗ bigSep Finset.univ fun thr : Thread nD τ => bigSep Finset.univ fun q : Fin 1 => (P X I O₀).x q thr) := by
  unfold u₀
  iintro Hu
  ihave H := (ownU_pair _ _) $$ Hu
  icases H with ⟨HH, HR⟩
  ihave HR := (own_pair_emb embR _ _) $$ HR
  icases HR with ⟨HP, -⟩
  ihave HP := (own_EP _) $$ HP
  imod (Pipeline.fund_ghost (Pipeline.pin (pcfgs (F := Ideal)) adm) EP cellOf_inj) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P X I O₀).x q thr) = bigSep Finset.univ fun _ => iprop(emp) from
    bigSep_congr fun _ _ => bigSep_univ_of_subsingleton (0 : Fin 1), bigSep_none]
  iempintro

/-! ## The host operations -/

/-- The operations before the sampling: the three coordinates of the points, laid out in rows of 128. -/
abbrev ops₀ : List (HloOp τ sig (Elt Ideal)) :=
  [unary main_arg0 main_v0 ((extractStridedSlice S8x8192x1 ![0, 0, 0] · slices_S8x8192x3_S8x8192x1_0_0_0) : (⟨S8x8192x3, .f32⟩ : BufTy).Contents (Elt Ideal) → (⟨S8x8192x1, .f32⟩ : BufTy).Contents (Elt Ideal)),
    reshape main_v0 main_v1 (rfl : (.f32 : EltTy) = .f32) shapeCasts_S8x8192x1_S8x8192,
    reshape main_v1 main_v2 (rfl : (.f32 : EltTy) = .f32) shapeCasts_S8x8192_S8x64x128,
    unary main_arg0 main_v3 ((extractStridedSlice S8x8192x1 ![0, 0, 1] · slices_S8x8192x3_S8x8192x1_0_0_1) : (⟨S8x8192x3, .f32⟩ : BufTy).Contents (Elt Ideal) → (⟨S8x8192x1, .f32⟩ : BufTy).Contents (Elt Ideal)),
    reshape main_v3 main_v4 (rfl : (.f32 : EltTy) = .f32) shapeCasts_S8x8192x1_S8x8192,
    reshape main_v4 main_v5 (rfl : (.f32 : EltTy) = .f32) shapeCasts_S8x8192_S8x64x128,
    unary main_arg0 main_v6 ((extractStridedSlice S8x8192x1 ![0, 0, 2] · slices_S8x8192x3_S8x8192x1_0_0_2) : (⟨S8x8192x3, .f32⟩ : BufTy).Contents (Elt Ideal) → (⟨S8x8192x1, .f32⟩ : BufTy).Contents (Elt Ideal)),
    reshape main_v6 main_v7 (rfl : (.f32 : EltTy) = .f32) shapeCasts_S8x8192x1_S8x8192,
    reshape main_v7 main_v8 (rfl : (.f32 : EltTy) = .f32) shapeCasts_S8x8192_S8x64x128]
/-- The operations between the sampling and the gather: the sampled points' coordinates put together, the table of rows
    and the flat list of row numbers. -/
abbrev ops₁ : List (HloOp τ sig (Elt Ideal)) :=
  [reshape main_v9_1 main_v10 (rfl : (.f32 : EltTy) = .f32) shapeCasts_S8x8x128_S8x1024,
    reshape main_v9_2 main_v11 (rfl : (.f32 : EltTy) = .f32) shapeCasts_S8x8x128_S8x1024,
    reshape main_v9_3 main_v12 (rfl : (.f32 : EltTy) = .f32) shapeCasts_S8x8x128_S8x1024,
    unary main_v10 main_v13 (broadcastInDim S8x1024x1 ![0, 1] bcast_S8x1024_S8x1024x1_0_1 : (⟨S8x1024, .f32⟩ : BufTy).Contents (Elt Ideal) → (⟨S8x1024x1, .f32⟩ : BufTy).Contents (Elt Ideal)),
    unary main_v11 main_v14 (broadcastInDim S8x1024x1 ![0, 1] bcast_S8x1024_S8x1024x1_0_1 : (⟨S8x1024, .f32⟩ : BufTy).Contents (Elt Ideal) → (⟨S8x1024x1, .f32⟩ : BufTy).Contents (Elt Ideal)),
    unary main_v12 main_v15 (broadcastInDim S8x1024x1 ![0, 1] bcast_S8x1024_S8x1024x1_0_1 : (⟨S8x1024, .f32⟩ : BufTy).Contents (Elt Ideal) → (⟨S8x1024x1, .f32⟩ : BufTy).Contents (Elt Ideal)),
    nary ![main_v13, main_v14, main_v15] main_v16 (fun u => (concatenate S8x1024x3 2 [⟨S8x1024x1, (u 0 : (⟨S8x1024x1, .f32⟩ : BufTy).Contents (Elt Ideal))⟩, ⟨S8x1024x1, (u 1 : (⟨S8x1024x1, .f32⟩ : BufTy).Contents (Elt Ideal))⟩, ⟨S8x1024x1, (u 2 : (⟨S8x1024x1, .f32⟩ : BufTy).Contents (Elt Ideal))⟩] concatenates_S8x1024x1_S8x1024x1_S8x1024x1_S8x1024x3_d2 : (⟨S8x1024x3, .f32⟩ : BufTy).Contents (Elt Ideal))),
    unary main_arg1 main_v17 ((transpose S8x8192x128 [0, 2, 1] · transposes_S8x128x8192_S8x8192x128_0_2_1) : (⟨S8x128x8192, .f32⟩ : BufTy).Contents (Elt Ideal) → (⟨S8x8192x128, .f32⟩ : BufTy).Contents (Elt Ideal)),
    reshape main_v17 main_v18 (rfl : (.f32 : EltTy) = .f32) shapeCasts_S8x8192x128_S65536x128,
    reshape main_v9_0 main_v19 (rfl : (.i32 : EltTy) = .i32) shapeCasts_S8x8x128_S64x128]
/-- The operations after the gather: the gathered rows by batch, the bias as a column. -/
abbrev ops₂ : List (HloOp τ sig (Elt Ideal)) :=
  [reshape main_v20 main_v21 (rfl : (.f32 : EltTy) = .f32) shapeCasts_S8192x128_S8x1024x128,
    reshape main_arg3 main_v22 (rfl : (.f32 : EltTy) = .f32) shapeCasts_S256_S256x1]

/-- @main: the sampling, the gather and the convolution, with the three lines of host operations between them. -/
theorem main_eq (d : Dev nD) : main (F := Ideal) d = (StableHlo.seq ops₀ >>= fun _ => (SparseCore.liftProg (.op (.customCall (Pipeline.entry 0) ()) .ret) >>= fun _ => (StableHlo.seq ops₁ >>= fun _ =>
    (sc.run d 0 >>= fun _ => (StableHlo.seq ops₂ >>= fun _ => (SparseCore.liftProg (.op (.customCall (Pipeline.entry 1) ()) .ret) >>= fun _ => pure ⟨⟩)))))) := rfl

/-- The device's unscoped buffers, as the host operations name them. -/
def ucRefs : Finset (DevRef τ sig) := (StableHlo.tcRefs τ sig).filter fun b => ¬ b.isScoped

theorem unscopedBufs_held (c : Dev nD) (W : Valuation τ sig (Elt Ideal)) :
    (unscopedBufs c (fun b => W (Proc.devRef .tc b)) : sProp 𝕀) = held (c.tc : Thread nD τ) ucRefs W := by
  unfold unscopedBufs held ucRefs StableHlo.tcRefs
  rw [Finset.filter_map, bigSep_map]; rfl

theorem sub_ucRefs (op : HloOp τ sig (Elt Ideal)) (h : op.bufs ⊆ StableHlo.tcRefs τ sig) : op.bufs ⊆ ucRefs := fun b hb =>
  Finset.mem_filter.mpr ⟨h hb, fun h' => Bool.false_ne_true ((op.no_scoped b hb).symm.trans h')⟩

theorem ops₀_sub : ∀ op ∈ ops₀, op.bufs ⊆ ucRefs := by
  simp only [List.forall_mem_cons, List.not_mem_nil, false_imp_iff, implies_true, and_true]
  exact ⟨sub_ucRefs _ (StableHlo.unary_bufs_sub ..), sub_ucRefs _ (StableHlo.reshape_bufs_sub ..), sub_ucRefs _ (StableHlo.reshape_bufs_sub ..), sub_ucRefs _ (StableHlo.unary_bufs_sub ..), sub_ucRefs _ (StableHlo.reshape_bufs_sub ..), sub_ucRefs _ (StableHlo.reshape_bufs_sub ..), sub_ucRefs _ (StableHlo.unary_bufs_sub ..), sub_ucRefs _ (StableHlo.reshape_bufs_sub ..), sub_ucRefs _ (StableHlo.reshape_bufs_sub ..)⟩
theorem ops₀_fresh : ∀ op ∈ ops₀, op.fresh = ∅ := by
  simp only [List.forall_mem_cons, List.not_mem_nil, false_imp_iff, implies_true, and_true]
  exact ⟨rfl, rfl, rfl, rfl, rfl, rfl, rfl, rfl, rfl⟩
theorem ops₀_writes : ops₀.Forall fun op => op.writes ⊆ (([main_v0, main_v1, main_v2, main_v3, main_v4, main_v5, main_v6, main_v7, main_v8] : List (Ref sig .tc)).map (Proc.devRef (τ := τ) .tc)).toFinset := by
  simp only [List.Forall, StableHlo.unary_writes, StableHlo.reshape_writes, StableHlo.nary_writes]; decide
theorem ops₁_sub : ∀ op ∈ ops₁, op.bufs ⊆ ucRefs := by
  simp only [List.forall_mem_cons, List.not_mem_nil, false_imp_iff, implies_true, and_true]
  exact ⟨sub_ucRefs _ (StableHlo.reshape_bufs_sub ..), sub_ucRefs _ (StableHlo.reshape_bufs_sub ..), sub_ucRefs _ (StableHlo.reshape_bufs_sub ..), sub_ucRefs _ (StableHlo.unary_bufs_sub ..), sub_ucRefs _ (StableHlo.unary_bufs_sub ..), sub_ucRefs _ (StableHlo.unary_bufs_sub ..), sub_ucRefs _ (StableHlo.nary_bufs_sub ..), sub_ucRefs _ (StableHlo.unary_bufs_sub ..), sub_ucRefs _ (StableHlo.reshape_bufs_sub ..), sub_ucRefs _ (StableHlo.reshape_bufs_sub ..)⟩
theorem ops₁_fresh : ∀ op ∈ ops₁, op.fresh = ∅ := by
  simp only [List.forall_mem_cons, List.not_mem_nil, false_imp_iff, implies_true, and_true]
  exact ⟨rfl, rfl, rfl, rfl, rfl, rfl, rfl, rfl, rfl, rfl⟩
theorem ops₁_writes : ops₁.Forall fun op => op.writes ⊆ (([main_v10, main_v11, main_v12, main_v13, main_v14, main_v15, main_v16, main_v17, main_v18, main_v19] : List (Ref sig .tc)).map (Proc.devRef (τ := τ) .tc)).toFinset := by
  simp only [List.Forall, StableHlo.unary_writes, StableHlo.reshape_writes, StableHlo.nary_writes]; decide
theorem ops₂_sub : ∀ op ∈ ops₂, op.bufs ⊆ ucRefs := by
  simp only [List.forall_mem_cons, List.not_mem_nil, false_imp_iff, implies_true, and_true]
  exact ⟨sub_ucRefs _ (StableHlo.reshape_bufs_sub ..), sub_ucRefs _ (StableHlo.reshape_bufs_sub ..)⟩
theorem ops₂_fresh : ∀ op ∈ ops₂, op.fresh = ∅ := by
  simp only [List.forall_mem_cons, List.not_mem_nil, false_imp_iff, implies_true, and_true]
  exact ⟨rfl, rfl⟩
theorem ops₂_writes : ops₂.Forall fun op => op.writes ⊆ (([main_v21, main_v22] : List (Ref sig .tc)).map (Proc.devRef (τ := τ) .tc)).toFinset := by
  simp only [List.Forall, StableHlo.unary_writes, StableHlo.reshape_writes, StableHlo.nary_writes]; decide

/-! ## The contents along @main -/

variable (m : (ℓ : Loc nD τ sig) → Buf (Elt Ideal) ℓ) (ρ : Dev nD → PrngReg)

/-- Argument `b` of device `d` at launch. -/
abbrev arg (d : Dev nD) (b : Ref sig .tc) : Buf (Elt Ideal) ((SparseCore.T d : Thread nD τ).loc b) := m ((SparseCore.T d).loc b)

/-- The buffers at launch, after the first line, the sampling, the second line, the gather, the third line, the convolution. -/
def V₁ (d : Dev nD) : Valuation τ sig (Elt Ideal) := after ops₀ fun b => m (d, b)
def V₂ (d : Dev nD) : Valuation τ sig (Elt Ideal) := Pipeline.afterRegion (dat0 (vals (V₁ m)) 0 d) (V₁ m d)
def V₃ (d : Dev nD) : Valuation τ sig (Elt Ideal) := after ops₁ (V₂ m d)
/-- The table, the list and the result's buffer as the gather finds them. -/
abbrev Xv (d : Dev nD) : Buf (Elt Ideal) (xLoc d) := V₃ m d (Proc.devRef .tc main_v18)
abbrev Iv (d : Dev nD) : Buf (Elt Ideal) (iLoc d) := V₃ m d (Proc.devRef .tc main_v19)
abbrev Ov (d : Dev nD) : Buf (Elt Ideal) (oLoc d) := V₃ m d (Proc.devRef .tc main_v20)
def V₄ (d : Dev nD) : Valuation τ sig (Elt Ideal) := Function.update (V₃ m d) (Proc.devRef .tc main_v20) (gOut (Xv m) (Iv m) d)
def V₅ (d : Dev nD) : Valuation τ sig (Elt Ideal) := after ops₂ (V₄ m d)
def V₆ (d : Dev nD) : Valuation τ sig (Elt Ideal) := Pipeline.afterRegion (dat1 (vals (V₅ m)) 1 d) (V₅ m d)

theorem V₄_o (d : Dev nD) : V₄ m d (Proc.devRef .tc main_v20) = gOut (Xv m) (Iv m) d := Function.update_self _ _ _
theorem V₄_ne (d : Dev nD) {b : Ref sig .tc} (h : b ≠ main_v20) : V₄ m d (Proc.devRef .tc b) = V₃ m d (Proc.devRef .tc b) :=
  Function.update_of_ne (StableHlo.devRef_ne_of_ne h) _ _

/-! ## @main on the TensorCore -/

/-- The buffers that the gather does not touch. -/
abbrev others : Finset (Ref sig .tc) := (Finset.univ.filter fun b : Ref sig .tc => ¬ b.isScoped) \ {main_v19, main_v18, main_v20}

/-- The device's unscoped buffers, the gather's three first. -/
theorem unscopedBufs_eq (d : Dev nD) (W : Valuation τ sig (Elt Ideal)) :
    (unscopedBufs d (fun b => W (Proc.devRef .tc b)) : sProp 𝕀) = iprop((iLoc d ↦{fullShare} W (Proc.devRef .tc main_v19)) ∗ (xLoc d ↦{fullShare} W (Proc.devRef .tc main_v18))
      ∗ (oLoc d ↦{fullShare} W (Proc.devRef .tc main_v20)) ∗ bigSep others
        fun b : Ref sig .tc => (SparseCore.T d : Thread nD τ).loc b ↦{fullShare} W (Proc.devRef .tc b)) := by
  unfold unscopedBufs
  rw [show (Finset.univ.filter fun b : Ref sig .tc => ¬ b.isScoped)
      = insert main_v19 (insert main_v18 (insert main_v20 others)) by decide,
    SparseCore.bigSep_insert' (by decide), SparseCore.bigSep_insert' (by decide), SparseCore.bigSep_insert' (by decide)]

/-- The call's buffers back in place: the buffers at `V₄`. -/
theorem buffers_back (d : Dev nD) :
    (iprop((iLoc d ↦{fullShare} Iv m d) ∗ (xLoc d ↦{fullShare} Xv m d) ∗ (oLoc d ↦{fullShare} gOut (Xv m) (Iv m) d)
      ∗ bigSep others fun b : Ref sig .tc => (SparseCore.T d : Thread nD τ).loc b ↦{fullShare} V₃ m d (Proc.devRef .tc b)) : sProp 𝕀)
      = held (d.tc : Thread nD τ) ucRefs (V₄ m d) := by
  rw [← unscopedBufs_held, unscopedBufs_eq, V₄_o, V₄_ne m d (b := main_v19) (by decide), V₄_ne m d (b := main_v18) (by decide)]
  rw [show (bigSep others fun b : Ref sig .tc => ((SparseCore.T d : Thread nD τ).loc b ↦{fullShare} V₄ m d (Proc.devRef .tc b) : sProp 𝕀))
    = bigSep others fun b : Ref sig .tc => (SparseCore.T d : Thread nD τ).loc b ↦{fullShare} V₃ m d (Proc.devRef .tc b) from
    bigSep_congr fun b hb => by rw [V₄_ne m d (b := b) (by rintro rfl; exact absurd hb (by decide))]]

/-- The buffers after the second line, one by one. -/
theorem held_V₃ (d : Dev nD) : (held (d.tc : Thread nD τ) ucRefs (after ops₁ (V₂ m d)) : sProp 𝕀)
    = iprop((iLoc d ↦{fullShare} Iv m d) ∗ (xLoc d ↦{fullShare} Xv m d) ∗ (oLoc d ↦{fullShare} Ov m d)
      ∗ bigSep others fun b : Ref sig .tc => (SparseCore.T d : Thread nD τ).loc b ↦{fullShare} V₃ m d (Proc.devRef .tc b)) :=
  (unscopedBufs_held d (V₃ m d)).symm.trans (unscopedBufs_eq d (V₃ m d))

theorem held_V₁ (d : Dev nD) : (held (d.tc : Thread nD τ) ucRefs (after ops₀ fun b => m (d, b)) : sProp 𝕀) = unscopedBufs d (vals (V₁ m) d) :=
  (unscopedBufs_held d (V₁ m d)).symm
theorem held_V₅ (d : Dev nD) : (held (d.tc : Thread nD τ) ucRefs (after ops₂ (V₄ m d)) : sProp 𝕀) = unscopedBufs d (vals (V₅ m) d) :=
  (unscopedBufs_held d (V₅ m d)).symm
theorem held_V₂ (d : Dev nD) : (unscopedBufs d (fun b => V₂ m d (Proc.devRef .tc b)) : sProp 𝕀) = held (d.tc : Thread nD τ) ucRefs (V₂ m d) :=
  unscopedBufs_held d (V₂ m d)

/-- What @main leaves: every buffer at `V₆`. -/
abbrev FIN (d : Dev nD) : sProp 𝕀 := unscopedBufs d (fun b => V₆ m d (Proc.devRef .tc b))

theorem start0 (d : Dev nD) : iprop(unscopedBufs d (vals (V₁ m) d) ∗ tcOwes 0 d) ⊢ (reg0 (V₁ m) 0).pre d := BI.Entails.refl _
theorem end0 (d : Dev nD) : (reg0 (V₁ m) 0).post d ⊢ iprop(unscopedBufs d (fun b => V₂ m d (Proc.devRef .tc b)) ∗ tcOwes 0 d) := BI.Entails.refl _
theorem start1 (d : Dev nD) : iprop(unscopedBufs d (vals (V₅ m) d) ∗ tcOwes 1 d) ⊢ (reg1 (V₅ m) 1).pre d := BI.Entails.refl _
theorem end1 (d : Dev nD) : (reg1 (V₅ m) 1).post d ⊢ iprop(FIN m d ∗ tcOwes 1 d) := BI.Entails.refl _

set_option maxHeartbeats 4000000 in
theorem hmain (κ : GSem nD τ sig → ℕ) (d : Dev nD) :
    iprop((K (F := Ideal)).ctx EH (P (Xv m) (Iv m) (Ov m)) κ ∗ (K (F := Ideal)).tcSt EH d 0 ∗ (K (F := Ideal)).tcRes m ρ d ∗ G d)
      ⊢ wp frame (wpE ((K (F := Ideal)).defs (D (F := Ideal))) 𝒱 (SparseCore.T d) none) Set.univ (main d)
          fun _ => iprop((K (F := Ideal)).tcSt EH d 1 ∗ FIN m d ∗ (K (F := Ideal)).tcEnd d) := by
  unfold SparseCore.Cfg.tcRes SparseCore.Cfg.tcEnd G
  rw [main_eq, bigSep_univ_eq_bigSepL [(0 : Fin 2), 1] (by decide) (by decide), bigSep_univ_eq_bigSepL [(0 : Fin 2), 1] (by decide) (by decide)]
  simp only [bigSepL_cons', bigSepL_nil]
  iintro ⟨#Hctx, Hst, ⟨Hb, Hub, Hts, -⟩, HG⟩
  icases HG with ⟨⟨Hg0, Hg1, -⟩, ⟨Ht0, Ht1, -⟩⟩
  ihave #Hlev := ((K (F := Ideal)).ctx_levAts κ) $$ Hctx
  -- the first line of host operations
  ihave Hh := (Entails.of_eq (unscopedBufs_held d fun b => m (d, b))) $$ Hub
  iapply (wp_seq 𝒱 none Set.univ d ucRefs _ ops₀ ops₀_sub ops₀_fresh _) $$ [Hb Hh]
  · isplitl [Hb] <;> iassumption
  iintro ⟨Hb, Hh⟩
  ihave Hub := (Entails.of_eq (held_V₁ m d)) $$ Hh
  -- the sampling
  unfold SparseCore.Cfg.tcSt
  icases Hst with ⟨HO, Hst⟩
  rw [wp_bind]
  iapply ((K (F := Ideal)).wp_liftProg (D (F := Ideal)) 𝒱 (SparseCore.T d) Set.univ none _ _)
  iapply ((reg0 (V₁ m) 0).wp (pcfgs (F := Ideal)) adm (dats (vals (V₁ m)) 0) none cellOf_inj EP defs₀ 𝒱₀ _ _ d none (fun _ h => nomatch h))
  isplitr [Hb Hub HO Hg0 Ht0]; swap
  · isplitl [Hb]; · iexact Hb
    isplitl [Hub HO]
    · iapply (start0 m d)
      isplitl [Hub]; · iexact Hub
      iexact HO
    isplitr; · iexact Hlev
    isplitl [Hg0]; · iexact Hg0
    iexact Ht0
  iintro ⟨Hb, Hpost⟩
  ihave Hpost := (end0 m d) $$ Hpost
  icases Hpost with ⟨Hub, HO⟩
  simp only [wp_ret]
  imodintro
  -- the second line
  ihave Hh := (Entails.of_eq (held_V₂ m d)) $$ Hub
  iapply (wp_seq 𝒱 none Set.univ d ucRefs _ ops₁ ops₁_sub ops₁_fresh _) $$ [Hb Hh]
  · isplitl [Hb] <;> iassumption
  iintro ⟨Hb, Hh⟩
  ihave Hub := (Entails.of_eq (held_V₃ m d)) $$ Hh
  icases Hub with ⟨Hi, Hx, Ho, Hrest⟩
  -- the gather
  rw [wp_bind]
  iapply ((K (F := Ideal)).wp_run (D (F := Ideal)) 𝒱 (EH := EH) (P := P (Xv m) (Iv m) (Ov m)) κ d 0) $$ [HO Hst Hi Hx Ho Hb Hts Hrest Hg1 Ht1]
  isplitr; · iexact Hctx
  isplitl [HO Hst]
  · unfold SparseCore.Cfg.tcSt
    isplitl [HO]; · iexact HO
    iexact Hst
  isplitl [Hi Hx Ho]
  · rw [st_eq]
    isplitl [Hi]; · iexact Hi
    isplitl [Hx]; · iexact Hx
    iexact Ho
  iintro ⟨Hst, Hdn⟩
  ihave Hdn := (Entails.of_eq (dn_eq (Xv m) (Iv m) (Ov m) d)) $$ Hdn
  icases Hdn with ⟨Hi, Hx, Ho⟩
  ihave Hh := (Entails.of_eq (buffers_back m d)) $$ [Hi Hx Ho Hrest]
  · isplitl [Hi]; · iexact Hi
    isplitl [Hx]; · iexact Hx
    isplitl [Ho]; · iexact Ho
    iexact Hrest
  -- the third line
  iapply (wp_seq 𝒱 none Set.univ d ucRefs _ ops₂ ops₂_sub ops₂_fresh _) $$ [Hb Hh]
  · isplitl [Hb] <;> iassumption
  iintro ⟨Hb, Hh⟩
  ihave Hub := (Entails.of_eq (held_V₅ m d)) $$ Hh
  -- the convolution
  unfold SparseCore.Cfg.tcSt
  icases Hst with ⟨HO, Hst⟩
  rw [wp_bind]
  iapply ((K (F := Ideal)).wp_liftProg (D (F := Ideal)) 𝒱 (SparseCore.T d) Set.univ none _ _)
  iapply ((reg1 (V₅ m) 1).wp (pcfgs (F := Ideal)) adm (dats (vals (V₅ m)) 1) none cellOf_inj EP defs₀ 𝒱₀ _ _ d none (fun _ h => nomatch h))
  isplitr [Hb Hub HO Hg1 Ht1]
  · iintro ⟨Hb, Hpost⟩
    ihave Hpost := (end1 m d) $$ Hpost
    icases Hpost with ⟨HF, HO⟩
    simp only [wp_ret, wp_pure]
    imodintro
    imodintro
    isplitl [HO Hst]
    · isplitl [HO]; · iexact HO
      iexact Hst
    isplitl [HF]; · iexact HF
    isplitl [Hb]; · iexact Hb
    iexact Hts
  isplitl [Hb]; · iexact Hb
  isplitl [Hub HO]
  · iapply (start1 m d)
    isplitl [Hub]; · iexact Hub
    iexact HO
  isplitr; · iexact Hlev
  isplitl [Hg1]; · iexact Hg1
  iexact Ht1

/-! ## The run -/

/-- What a final state shows of device `d`: every unscoped buffer at `V₆`. -/
def fq (d : Dev nD) (s' : Phys nD τ sig (Elt Ideal)) : Prop :=
  ∀ b : Ref sig .tc, ¬ b.isScoped → s'.mem.mem ((SparseCore.T d : Thread nD τ).loc b) = V₆ m d (Proc.devRef .tc b)

set_option maxRecDepth 16384 in
/-- A set of buffers held whole are what the state says. -/
theorem read_bufs (d : Dev nD) (s' : Phys nD τ sig (Elt Ideal)) (f : (b : Ref sig .tc) → Buf (Elt Ideal) ((SparseCore.T d : Thread nD τ).loc b)) (s : Finset (Ref sig .tc)) :
    iprop((bigSep s fun b => (SparseCore.T d : Thread nD τ).loc b ↦{fullShare} f b) ∗ SI s')
      ⊢ (iprop(⌜∀ b ∈ s, s'.mem.mem ((SparseCore.T d : Thread nD τ).loc b) = f b⌝ ∗ SI s') : sProp 𝕀) := by
  induction s using Finset.induction_on with
  | empty =>
    iintro ⟨-, HSI⟩
    isplitr
    · ipureintro; intro b hb; exact absurd hb (Finset.notMem_empty b)
    · iexact HSI
  | insert a s ha ih =>
    rw [SparseCore.bigSep_insert' ha]
    iintro ⟨⟨Ha, Hs⟩, HSI⟩
    ihave H := ih $$ [Hs HSI]
    · isplitl [Hs] <;> iassumption
    icases H with ⟨%hs, HSI⟩
    ihave H := (persistent_entails_right (SI_pointsTo_agree (st := s') (ℓ := (SparseCore.T d : Thread nD τ).loc a) (I := Finset.univ) (q := fullShare) (f := f a))) $$ [HSI Ha]
    · isplitl [HSI] <;> iassumption
    icases H with ⟨%h, HSI, -⟩
    isplitr
    · ipureintro
      intro b hb
      rcases Finset.mem_insert.mp hb with rfl | hb
      · exact funext fun i => h i (Finset.mem_univ i)
      · exact hs b hb
    · iexact HSI

theorem hfin (d : Dev nD) (s' : Phys nD τ sig (Elt Ideal)) : iprop(FIN m d ∗ SI s') ⊢ (⌜fq m d s'⌝ : sProp 𝕀) := by
  unfold FIN unscopedBufs
  iintro H
  ihave H := (read_bufs d s' (fun b => V₆ m d (Proc.devRef .tc b)) _) $$ H
  icases H with ⟨%h, -⟩
  ipureintro
  exact fun b hb => h b (Finset.mem_filter.mpr ⟨Finset.mem_univ b, hb⟩)

/-- Every terminal state: the unscoped buffers at `V₆`, the counters at zero. -/
def QC : PUnit × MemSt nD τ sig (Elt Ideal) → Prop := fun r =>
  (∀ c : Dev nD, ∀ b : Ref sig .tc, ¬ b.isScoped → r.2.mem ((SparseCore.T c : Thread nD τ).loc b) = V₆ m c (Proc.devRef .tc b)) ∧ r.2.sem = fun _ => 0

/-- The run, for any launch memory whose sampled list names rows of the table. -/
theorem run_main (hI : ∀ d, ListOK (Iv m d)) :
    θ_run (Cert.KernelIdeal.defs (F := Ideal)) (Cert.KernelIdeal.threads (F := Ideal)) ⟨m, fun _ => 0, ρ⟩ (QC m) :=
  SparseCore.Cfg.θ_run_sc_quiescent (K := K (F := Ideal)) (D := D (F := Ideal)) (𝒱 := 𝒱) (EH := EH) (P := P (Xv m) (Iv m) (Ov m)) (A := ∅) facts v₀
    (fun q hq => match q with | 0 => nomatch hq)
    (fun q _ => match q with | 0 => tileObl (Xv m) (Iv m) (Ov m) hI)
    (fun q _ => match q with | 0 => SparseCore.Cfg.VecSplit.of_plain (vecSplit (Xv m) (Iv m) (Ov m)))
    m ρ main G (FIN m) u₀ (sep_elim_left.trans (hu₀ (Xv m) (Iv m) (Ov m))) (hmain m ρ) (fq m) (hfin m) (QC m) (fun _ h hz => ⟨h, hz⟩)

end Cert.Proof.Full

end
-- ==== Proof.RefOps.lean ====
/-
The reference program's operations, stretch by stretch: before its loop, the loop's condition and body, and after it. Each
  called function's operations stand at the buffers of the call.
-/
module

public import proofs.«01_k».proof.Proof.Gen.ReferenceIdeal
public import Idealize.ShloMosaic.Lib.StableHlo.RunLoop
public import Idealize.ShloMosaic.Lib.Pointwise

@[expose] public section

noncomputable section

namespace Cert.Proof.Ref

open Cert.ReferenceIdeal Cert.ReferenceIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo
open TcCoe

/-! ## The operations, stretch by stretch -/

/-- Before the loop: the constants, and the operands copied into the carried buffers. -/
def opsPre : List (HloOp τ sig (Elt Ideal)) := [
  StableHlo.nullary main_cst (constant (F := Ideal) S_ .f32 0x501502F9#32),
  StableHlo.unary main_cst main_v0 (broadcastInDim S8x8192 ![] bcast_S_S8x8192 : (⟨S_, .f32⟩ : BufTy).Contents (Elt Ideal) → (⟨S8x8192, .f32⟩ : BufTy).Contents (Elt Ideal)),
  StableHlo.nullary main_c (constantI S_ 32 0#32),
  StableHlo.unary main_c main_v1 (broadcastInDim S8 ![] bcast_S_S8 : (⟨S_, .i32⟩ : BufTy).Contents (Elt Ideal) → (⟨S8, .i32⟩ : BufTy).Contents (Elt Ideal)),
  StableHlo.nullary main_c_0 (constantI S_ 32 0#32),
  StableHlo.unary main_c_0 main_v2 (broadcastInDim S8x1024 ![] bcast_S_S8x1024 : (⟨S_, .i32⟩ : BufTy).Contents (Elt Ideal) → (⟨S8x1024, .i32⟩ : BufTy).Contents (Elt Ideal)),
  StableHlo.nullary main_c_1 (constantI S_ 32 0#32),
  StableHlo.nullary main_c_2 (constantI S_ 32 0#32),
  StableHlo.unary main_arg0 main_v3_0 id,
  StableHlo.unary main_c_2 main_v3_1 id,
  StableHlo.unary main_c_1 main_v3_2 id,
  StableHlo.unary main_v0 main_v3_3 id,
  StableHlo.unary main_v1 main_v3_4 id,
  StableHlo.unary main_v2 main_v3_5 id]
theorem opsPre_sub : opsPre.Forall fun op => op.bufs ⊆ tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
/-- The buffers it writes. -/
abbrev opsPreW : List (Ref sig .tc) := [main_cst, main_v0, main_c, main_v1, main_c_0, main_v2, main_c_1, main_c_2, main_v3_0, main_v3_1, main_v3_2, main_v3_3, main_v3_4, main_v3_5]
theorem opsPre_writes : opsPre.Forall fun op => op.writes ⊆ (opsPreW.map (Proc.devRef (τ := τ) .tc)).toFinset := by
  simp only [opsPre, List.Forall, StableHlo.nullary_writes, StableHlo.unary_writes, StableHlo.binary_writes, StableHlo.ternary_writes, StableHlo.quaternary_writes]; decide

/-- A trip: the sampled point's number put in its column. -/
def opsPut : List (HloOp τ sig (Elt Ideal)) := [
  StableHlo.nullary main_while0b_c_8 (constantI S_ 32 1#32),
  StableHlo.binary main_v3_2 main_while0b_c_8 main_while0b_v15 (addi : (⟨S_, .i32⟩ : BufTy).Contents (Elt Ideal) → (⟨S_, .i32⟩ : BufTy).Contents (Elt Ideal) → (⟨S_, .i32⟩ : BufTy).Contents (Elt Ideal)),
  StableHlo.nullary main_while0b_c_9 (constantI S_ 32 0#32),
  StableHlo.binary main_v3_2 main_while0b_c_9 main_while0b_v16 (cmpi .slt : (⟨S_, .i32⟩ : BufTy).Contents (Elt Ideal) → (⟨S_, .i32⟩ : BufTy).Contents (Elt Ideal) → (⟨S_, .i1⟩ : BufTy).Contents (Elt Ideal)),
  StableHlo.nullary main_while0b_c_10 (constantI S_ 32 1024#32),
  StableHlo.binary main_v3_2 main_while0b_c_10 main_while0b_v17 (addi : (⟨S_, .i32⟩ : BufTy).Contents (Elt Ideal) → (⟨S_, .i32⟩ : BufTy).Contents (Elt Ideal) → (⟨S_, .i32⟩ : BufTy).Contents (Elt Ideal)),
  StableHlo.ternary main_while0b_v16 main_while0b_v17 main_v3_2 main_while0b_v18 (select : (⟨S_, .i1⟩ : BufTy).Contents (Elt Ideal) → (⟨S_, .i32⟩ : BufTy).Contents (Elt Ideal) → (⟨S_, .i32⟩ : BufTy).Contents (Elt Ideal) → (⟨S_, .i32⟩ : BufTy).Contents (Elt Ideal)),
  StableHlo.unary main_while0b_v18 main_while0b_v19 (id : (⟨S_, .i32⟩ : BufTy).Contents (Elt Ideal) → (⟨S_, .i32⟩ : BufTy).Contents (Elt Ideal)),
  StableHlo.unary main_while0b_v19 main_while0b_v20 (broadcastInDim S1 ![] bcast_S_S1 : (⟨S_, .i32⟩ : BufTy).Contents (Elt Ideal) → (⟨S1, .i32⟩ : BufTy).Contents (Elt Ideal)),
  StableHlo.ternary main_v3_5 main_while0b_v20 main_v3_4 main_while0b_v21 ((fun x i u => Host.scatter scatter_S8x1024_S1_S8_0_1_1_0 (fun _ b => b) x i u) : (⟨S8x1024, .i32⟩ : BufTy).Contents (Elt Ideal) → (⟨S1, .i32⟩ : BufTy).Contents (Elt Ideal) → (⟨S8, .i32⟩ : BufTy).Contents (Elt Ideal) → (⟨S8x1024, .i32⟩ : BufTy).Contents (Elt Ideal)),
  StableHlo.unary main_v3_4 main_while0b_v22 (broadcastInDim S8x1x1 ![0] bcast_S8_S8x1x1_0 : (⟨S8, .i32⟩ : BufTy).Contents (Elt Ideal) → (⟨S8x1x1, .i32⟩ : BufTy).Contents (Elt Ideal))]
theorem opsPut_sub : opsPut.Forall fun op => op.bufs ⊆ tcRefs τ sig :=
  ⟨StableHlo.nullary_bufs_sub .., StableHlo.binary_bufs_sub .., StableHlo.nullary_bufs_sub .., StableHlo.binary_bufs_sub .., StableHlo.nullary_bufs_sub .., StableHlo.binary_bufs_sub .., StableHlo.ternary_bufs_sub .., StableHlo.unary_bufs_sub .., StableHlo.unary_bufs_sub .., StableHlo.ternary_bufs_sub .., StableHlo.unary_bufs_sub ..⟩
/-- The buffers it writes. -/
abbrev opsPutW : List (Ref sig .tc) := [main_while0b_c_8, main_while0b_v15, main_while0b_c_9, main_while0b_v16, main_while0b_c_10, main_while0b_v17, main_while0b_v18, main_while0b_v19, main_while0b_v20, main_while0b_v21, main_while0b_v22]
theorem opsPut_writes : opsPut.Forall fun op => op.writes ⊆ (opsPutW.map (Proc.devRef (τ := τ) .tc)).toFinset := by
  simp only [opsPut, List.Forall, StableHlo.nullary_writes, StableHlo.unary_writes, StableHlo.binary_writes, StableHlo.ternary_writes, StableHlo.quaternary_writes]; decide

/-- The sampled point's coordinates picked. -/
def opsPick : List (HloOp τ sig (Elt Ideal)) := [
  StableHlo.nullary main_while0b_call0_c (constantI S_ 32 0#32),
  StableHlo.unary main_while0b_call0_c main_while0b_call0_v0 (broadcastInDim S8x1x1 ![] bcast_S_S8x1x1),
  StableHlo.binary main_while0b_v22 main_while0b_call0_v0 main_while0b_call0_v1 (cmpi .slt),
  StableHlo.nullary main_while0b_call0_c_0 (constantI S_ 32 8192#32),
  StableHlo.unary main_while0b_call0_c_0 main_while0b_call0_v2 (broadcastInDim S8x1x1 ![] bcast_S_S8x1x1),
  StableHlo.binary main_while0b_v22 main_while0b_call0_v2 main_while0b_call0_v3 addi,
  StableHlo.ternary main_while0b_call0_v1 main_while0b_call0_v3 main_while0b_v22 main_while0b_call0_v4 select,
  StableHlo.nullary main_while0b_call0_c_1 (constantI S1 32 8191#32),
  StableHlo.nullary main_while0b_call0_c_2 (constantI S_ 32 0#32),
  StableHlo.unary main_while0b_call0_c_2 main_while0b_call0_v5 (broadcastInDim S8x1x1 ![] bcast_S_S8x1x1),
  StableHlo.binary main_while0b_call0_v4 main_while0b_call0_v5 main_while0b_call0_v6 (cmpi .sge),
  StableHlo.unary main_while0b_call0_c_1 main_while0b_call0_v7 (broadcastInDim S1x1x1 ![2] bcast_S1_S1x1x1_2),
  StableHlo.unary main_while0b_call0_v7 main_while0b_call0_v8 (broadcastInDim S8x1x1 ![0, 1, 2] bcast_S1x1x1_S8x1x1_0_1_2),
  StableHlo.binary main_while0b_call0_v4 main_while0b_call0_v8 main_while0b_call0_v9 (cmpi .sle),
  StableHlo.binary main_while0b_call0_v6 main_while0b_call0_v9 main_while0b_call0_v10 andi,
  StableHlo.nullary main_while0b_call0_c_3 (constantI S_ 1 1#1),
  StableHlo.binary main_while0b_call0_v10 main_while0b_call0_c_3 main_while0b_call0_v11 (fun x v => Host.reduce IntOp.andi x v reducesTo_S8x1x1_S8x1_d2 h_S_),
  StableHlo.binary main_v3_0 main_while0b_call0_v4 main_while0b_call0_v12 (fun x i => Host.gather gather_S8x8192x3_S8x1x1_S8x1x3_2_1_0_0_1_2_113 x i),
  StableHlo.unary main_while0b_call0_v11 main_while0b_call0_v13 (broadcastInDim S8x1x3 ![0, 1] bcast_S8x1_S8x1x3_0_1),
  StableHlo.nullary main_while0b_call0_cst (constant (F := Ideal) S_ .f32 0x7FC00000#32),
  StableHlo.unary main_while0b_call0_cst main_while0b_call0_v14 (broadcastInDim S8x1x3 ![] bcast_S_S8x1x3),
  StableHlo.ternary main_while0b_call0_v13 main_while0b_call0_v12 main_while0b_call0_v14 main_while0b_v23 select]
theorem opsPick_sub : opsPick.Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- The buffers it writes. -/
abbrev opsPickW : List (Ref sig .tc) := [main_while0b_call0_c, main_while0b_call0_v0, main_while0b_call0_v1, main_while0b_call0_c_0, main_while0b_call0_v2, main_while0b_call0_v3, main_while0b_call0_v4, main_while0b_call0_c_1, main_while0b_call0_c_2, main_while0b_call0_v5, main_while0b_call0_v6, main_while0b_call0_v7, main_while0b_call0_v8, main_while0b_call0_v9, main_while0b_call0_v10, main_while0b_call0_c_3, main_while0b_call0_v11, main_while0b_call0_v12, main_while0b_call0_v13, main_while0b_call0_cst, main_while0b_call0_v14, main_while0b_v23]
theorem opsPick_writes : opsPick.Forall fun op => op.writes ⊆ (opsPickW.map (Proc.devRef (τ := τ) .tc)).toFinset := by
  simp only [opsPick, List.Forall, StableHlo.nullary_writes, StableHlo.unary_writes, StableHlo.binary_writes, StableHlo.ternary_writes, StableHlo.quaternary_writes]; decide

/-- The distances to it, and the least of them and those kept. -/
def opsDist : List (HloOp τ sig (Elt Ideal)) := [
  StableHlo.unary main_while0b_v23 main_while0b_v24 (broadcastInDim S8x8192x3 ![0, 1, 2] bcast_S8x1x3_S8x8192x3_0_1_2 : (⟨S8x1x3, .f32⟩ : BufTy).Contents (Elt Ideal) → (⟨S8x8192x3, .f32⟩ : BufTy).Contents (Elt Ideal)),
  StableHlo.binary main_v3_0 main_while0b_v24 main_while0b_v25 (subf (F := Ideal) (φ := .f32) : (⟨S8x8192x3, .f32⟩ : BufTy).Contents (Elt Ideal) → (⟨S8x8192x3, .f32⟩ : BufTy).Contents (Elt Ideal) → (⟨S8x8192x3, .f32⟩ : BufTy).Contents (Elt Ideal)),
  StableHlo.binary main_while0b_v25 main_while0b_v25 main_while0b_v26 (mulf (F := Ideal) (φ := .f32) : (⟨S8x8192x3, .f32⟩ : BufTy).Contents (Elt Ideal) → (⟨S8x8192x3, .f32⟩ : BufTy).Contents (Elt Ideal) → (⟨S8x8192x3, .f32⟩ : BufTy).Contents (Elt Ideal)),
  StableHlo.nullary main_while0b_cst_11 (constant (F := Ideal) S_ .f32 0x00000000#32),
  StableHlo.binary main_while0b_v26 main_while0b_cst_11 main_while0b_v27 ((fun x v => Host.reduceAdd (F := Ideal) (φ := .f32) x v reducesTo_S8x8192x3_S8x8192_d2 h_S_) : (⟨S8x8192x3, .f32⟩ : BufTy).Contents (Elt Ideal) → (⟨S_, .f32⟩ : BufTy).Contents (Elt Ideal) → (⟨S8x8192, .f32⟩ : BufTy).Contents (Elt Ideal)),
  StableHlo.binary main_v3_3 main_while0b_v27 main_while0b_v28 (minimumf (F := Ideal) (φ := .f32) : (⟨S8x8192, .f32⟩ : BufTy).Contents (Elt Ideal) → (⟨S8x8192, .f32⟩ : BufTy).Contents (Elt Ideal) → (⟨S8x8192, .f32⟩ : BufTy).Contents (Elt Ideal))]
theorem opsDist_sub : opsDist.Forall fun op => op.bufs ⊆ tcRefs τ sig :=
  ⟨StableHlo.unary_bufs_sub .., StableHlo.binary_bufs_sub .., StableHlo.binary_bufs_sub .., StableHlo.nullary_bufs_sub .., StableHlo.binary_bufs_sub .., StableHlo.binary_bufs_sub ..⟩
/-- The buffers it writes. -/
abbrev opsDistW : List (Ref sig .tc) := [main_while0b_v24, main_while0b_v25, main_while0b_v26, main_while0b_cst_11, main_while0b_v27, main_while0b_v28]
theorem opsDist_writes : opsDist.Forall fun op => op.writes ⊆ (opsDistW.map (Proc.devRef (τ := τ) .tc)).toFinset := by
  simp only [opsDist, List.Forall, StableHlo.nullary_writes, StableHlo.unary_writes, StableHlo.binary_writes, StableHlo.ternary_writes, StableHlo.quaternary_writes]; decide

/-- The farthest point. -/
def opsFar : List (HloOp τ sig (Elt Ideal)) := [
  StableHlo.nullary main_while0b_call1_v0 (iotaInDim S8x8192 32 1),
  StableHlo.nullary main_while0b_call1_cst (constant (F := Ideal) S_ .f32 0xFF800000#32),
  StableHlo.nullary main_while0b_call1_c (constantI S_ 32 0#32),
  StableHlo.quaternary main_while0b_v28 main_while0b_call1_v0 main_while0b_call1_cst main_while0b_call1_c main_while0b_call1_v1_0 (fun (x : FVec Ideal S8x8192 .f32) (y : IVec S8x8192 32) (u : FVec Ideal S_ .f32) (v : IVec S_ 32) (j : S8.Idx) => (Host.argReduce (F := Ideal) (reducer_argmax_f32_i32 (F := Ideal)) x y u v reducesTo_S8x8192_S8_d1 h_S_ j).1),
  StableHlo.quaternary main_while0b_v28 main_while0b_call1_v0 main_while0b_call1_cst main_while0b_call1_c main_while0b_v29 (fun (x : FVec Ideal S8x8192 .f32) (y : IVec S8x8192 32) (u : FVec Ideal S_ .f32) (v : IVec S_ 32) (j : S8.Idx) => (Host.argReduce (F := Ideal) (reducer_argmax_f32_i32 (F := Ideal)) x y u v reducesTo_S8x8192_S8_d1 h_S_ j).2)]
theorem opsFar_sub : opsFar.Forall fun op => op.bufs ⊆ tcRefs τ sig :=
  ⟨StableHlo.nullary_bufs_sub .., StableHlo.nullary_bufs_sub .., StableHlo.nullary_bufs_sub .., StableHlo.quaternary_bufs_sub .., StableHlo.quaternary_bufs_sub ..⟩
/-- The buffers it writes. -/
abbrev opsFarW : List (Ref sig .tc) := [main_while0b_call1_v0, main_while0b_call1_cst, main_while0b_call1_c, main_while0b_call1_v1_0, main_while0b_v29]
theorem opsFar_writes : opsFar.Forall fun op => op.writes ⊆ (opsFarW.map (Proc.devRef (τ := τ) .tc)).toFinset := by
  simp only [opsFar, List.Forall, StableHlo.nullary_writes, StableHlo.unary_writes, StableHlo.binary_writes, StableHlo.ternary_writes, StableHlo.quaternary_writes]; decide

/-- The carried buffers written. -/
def opsNext : List (HloOp τ sig (Elt Ideal)) := [
  StableHlo.nullary main_while0b_c_12 (constantI S_ 32 1#32),
  StableHlo.binary main_v3_1 main_while0b_c_12 main_while0b_v30 (addi : (⟨S_, .i32⟩ : BufTy).Contents (Elt Ideal) → (⟨S_, .i32⟩ : BufTy).Contents (Elt Ideal) → (⟨S_, .i32⟩ : BufTy).Contents (Elt Ideal)),
  StableHlo.unary main_while0b_v30 main_v3_1 id,
  StableHlo.unary main_while0b_v15 main_v3_2 id,
  StableHlo.unary main_while0b_v28 main_v3_3 id,
  StableHlo.unary main_while0b_v29 main_v3_4 id,
  StableHlo.unary main_while0b_v21 main_v3_5 id]
theorem opsNext_sub : opsNext.Forall fun op => op.bufs ⊆ tcRefs τ sig :=
  ⟨StableHlo.nullary_bufs_sub .., StableHlo.binary_bufs_sub .., StableHlo.unary_bufs_sub .., StableHlo.unary_bufs_sub .., StableHlo.unary_bufs_sub .., StableHlo.unary_bufs_sub .., StableHlo.unary_bufs_sub ..⟩
/-- The buffers it writes. -/
abbrev opsNextW : List (Ref sig .tc) := [main_while0b_c_12, main_while0b_v30, main_v3_1, main_v3_2, main_v3_3, main_v3_4, main_v3_5]
theorem opsNext_writes : opsNext.Forall fun op => op.writes ⊆ (opsNextW.map (Proc.devRef (τ := τ) .tc)).toFinset := by
  simp only [opsNext, List.Forall, StableHlo.nullary_writes, StableHlo.unary_writes, StableHlo.binary_writes, StableHlo.ternary_writes, StableHlo.quaternary_writes]; decide

/-- After the loop: the sampled numbers as indices. -/
def opsIx : List (HloOp τ sig (Elt Ideal)) := [
  StableHlo.unary main_v3_5 main_v4 (broadcastInDim S8x1024x1 ![0, 1] bcast_S8x1024_S8x1024x1_0_1 : (⟨S8x1024, .i32⟩ : BufTy).Contents (Elt Ideal) → (⟨S8x1024x1, .i32⟩ : BufTy).Contents (Elt Ideal))]
theorem opsIx_sub : opsIx.Forall fun op => op.bufs ⊆ tcRefs τ sig := StableHlo.unary_bufs_sub ..
/-- The buffers it writes. -/
abbrev opsIxW : List (Ref sig .tc) := [main_v4]
theorem opsIx_writes : opsIx.Forall fun op => op.writes ⊆ (opsIxW.map (Proc.devRef (τ := τ) .tc)).toFinset := by
  simp only [opsIx, List.Forall, StableHlo.nullary_writes, StableHlo.unary_writes, StableHlo.binary_writes, StableHlo.ternary_writes, StableHlo.quaternary_writes]; decide

/-- The sampled coordinates. -/
def opsXyz : List (HloOp τ sig (Elt Ideal)) := [
  StableHlo.nullary main_call2_c (constantI S_ 32 0#32),
  StableHlo.unary main_call2_c main_call2_v0 (broadcastInDim S8x1024x1 ![] bcast_S_S8x1024x1),
  StableHlo.binary main_v4 main_call2_v0 main_call2_v1 (cmpi .slt),
  StableHlo.nullary main_call2_c_0 (constantI S_ 32 8192#32),
  StableHlo.unary main_call2_c_0 main_call2_v2 (broadcastInDim S8x1024x1 ![] bcast_S_S8x1024x1),
  StableHlo.binary main_v4 main_call2_v2 main_call2_v3 addi,
  StableHlo.ternary main_call2_v1 main_call2_v3 main_v4 main_call2_v4 select,
  StableHlo.nullary main_call2_c_1 (constantI S1 32 8191#32),
  StableHlo.nullary main_call2_c_2 (constantI S_ 32 0#32),
  StableHlo.unary main_call2_c_2 main_call2_v5 (broadcastInDim S8x1024x1 ![] bcast_S_S8x1024x1),
  StableHlo.binary main_call2_v4 main_call2_v5 main_call2_v6 (cmpi .sge),
  StableHlo.unary main_call2_c_1 main_call2_v7 (broadcastInDim S1x1x1 ![2] bcast_S1_S1x1x1_2),
  StableHlo.unary main_call2_v7 main_call2_v8 (broadcastInDim S8x1024x1 ![0, 1, 2] bcast_S1x1x1_S8x1024x1_0_1_2),
  StableHlo.binary main_call2_v4 main_call2_v8 main_call2_v9 (cmpi .sle),
  StableHlo.binary main_call2_v6 main_call2_v9 main_call2_v10 andi,
  StableHlo.nullary main_call2_c_3 (constantI S_ 1 1#1),
  StableHlo.binary main_call2_v10 main_call2_c_3 main_call2_v11 (fun x v => Host.reduce IntOp.andi x v reducesTo_S8x1024x1_S8x1024_d2 h_S_),
  StableHlo.binary main_arg0 main_call2_v4 main_call2_v12 (fun x i => Host.gather gather_S8x8192x3_S8x1024x1_S8x1024x3_2_1_0_0_1_2_113 x i),
  StableHlo.unary main_call2_v11 main_call2_v13 (broadcastInDim S8x1024x3 ![0, 1] bcast_S8x1024_S8x1024x3_0_1),
  StableHlo.nullary main_call2_cst (constant (F := Ideal) S_ .f32 0x7FC00000#32),
  StableHlo.unary main_call2_cst main_call2_v14 (broadcastInDim S8x1024x3 ![] bcast_S_S8x1024x3),
  StableHlo.ternary main_call2_v13 main_call2_v12 main_call2_v14 main_v5 select]
theorem opsXyz_sub : opsXyz.Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- The buffers it writes. -/
abbrev opsXyzW : List (Ref sig .tc) := [main_call2_c, main_call2_v0, main_call2_v1, main_call2_c_0, main_call2_v2, main_call2_v3, main_call2_v4, main_call2_c_1, main_call2_c_2, main_call2_v5, main_call2_v6, main_call2_v7, main_call2_v8, main_call2_v9, main_call2_v10, main_call2_c_3, main_call2_v11, main_call2_v12, main_call2_v13, main_call2_cst, main_call2_v14, main_v5]
theorem opsXyz_writes : opsXyz.Forall fun op => op.writes ⊆ (opsXyzW.map (Proc.devRef (τ := τ) .tc)).toFinset := by
  simp only [opsXyz, List.Forall, StableHlo.nullary_writes, StableHlo.unary_writes, StableHlo.binary_writes, StableHlo.ternary_writes, StableHlo.quaternary_writes]; decide

/-- The features point by point, and the indices again. -/
def opsRows : List (HloOp τ sig (Elt Ideal)) := [
  StableHlo.unary main_arg1 main_v6 ((transpose S8x8192x128 [0, 2, 1] · transposes_S8x128x8192_S8x8192x128_0_2_1) : (⟨S8x128x8192, .f32⟩ : BufTy).Contents (Elt Ideal) → (⟨S8x8192x128, .f32⟩ : BufTy).Contents (Elt Ideal)),
  StableHlo.unary main_v3_5 main_v7 (broadcastInDim S8x1024x1 ![0, 1] bcast_S8x1024_S8x1024x1_0_1 : (⟨S8x1024, .i32⟩ : BufTy).Contents (Elt Ideal) → (⟨S8x1024x1, .i32⟩ : BufTy).Contents (Elt Ideal))]
theorem opsRows_sub : opsRows.Forall fun op => op.bufs ⊆ tcRefs τ sig :=
  ⟨StableHlo.unary_bufs_sub .., StableHlo.unary_bufs_sub ..⟩
/-- The buffers it writes. -/
abbrev opsRowsW : List (Ref sig .tc) := [main_v6, main_v7]
theorem opsRows_writes : opsRows.Forall fun op => op.writes ⊆ (opsRowsW.map (Proc.devRef (τ := τ) .tc)).toFinset := by
  simp only [opsRows, List.Forall, StableHlo.nullary_writes, StableHlo.unary_writes, StableHlo.binary_writes, StableHlo.ternary_writes, StableHlo.quaternary_writes]; decide

/-- The sampled points' features. -/
def opsTake : List (HloOp τ sig (Elt Ideal)) := [
  StableHlo.nullary main_call3_c (constantI S_ 32 0#32),
  StableHlo.unary main_call3_c main_call3_v0 (broadcastInDim S8x1024x1 ![] bcast_S_S8x1024x1),
  StableHlo.binary main_v7 main_call3_v0 main_call3_v1 (cmpi .slt),
  StableHlo.nullary main_call3_c_0 (constantI S_ 32 8192#32),
  StableHlo.unary main_call3_c_0 main_call3_v2 (broadcastInDim S8x1024x1 ![] bcast_S_S8x1024x1),
  StableHlo.binary main_v7 main_call3_v2 main_call3_v3 addi,
  StableHlo.ternary main_call3_v1 main_call3_v3 main_v7 main_call3_v4 select,
  StableHlo.nullary main_call3_c_1 (constantI S1 32 8191#32),
  StableHlo.nullary main_call3_c_2 (constantI S_ 32 0#32),
  StableHlo.unary main_call3_c_2 main_call3_v5 (broadcastInDim S8x1024x1 ![] bcast_S_S8x1024x1),
  StableHlo.binary main_call3_v4 main_call3_v5 main_call3_v6 (cmpi .sge),
  StableHlo.unary main_call3_c_1 main_call3_v7 (broadcastInDim S1x1x1 ![2] bcast_S1_S1x1x1_2),
  StableHlo.unary main_call3_v7 main_call3_v8 (broadcastInDim S8x1024x1 ![0, 1, 2] bcast_S1x1x1_S8x1024x1_0_1_2),
  StableHlo.binary main_call3_v4 main_call3_v8 main_call3_v9 (cmpi .sle),
  StableHlo.binary main_call3_v6 main_call3_v9 main_call3_v10 andi,
  StableHlo.nullary main_call3_c_3 (constantI S_ 1 1#1),
  StableHlo.binary main_call3_v10 main_call3_c_3 main_call3_v11 (fun x v => Host.reduce IntOp.andi x v reducesTo_S8x1024x1_S8x1024_d2 h_S_),
  StableHlo.binary main_v6 main_call3_v4 main_call3_v12 (fun x i => Host.gather gather_S8x8192x128_S8x1024x1_S8x1024x128_2_1_0_0_1_2_11128 x i),
  StableHlo.unary main_call3_v11 main_call3_v13 (broadcastInDim S8x1024x128 ![0, 1] bcast_S8x1024_S8x1024x128_0_1),
  StableHlo.nullary main_call3_cst (constant (F := Ideal) S_ .f32 0x7FC00000#32),
  StableHlo.unary main_call3_cst main_call3_v14 (broadcastInDim S8x1024x128 ![] bcast_S_S8x1024x128),
  StableHlo.ternary main_call3_v13 main_call3_v12 main_call3_v14 main_v8 select]
theorem opsTake_sub : opsTake.Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩
/-- The buffers it writes. -/
abbrev opsTakeW : List (Ref sig .tc) := [main_call3_c, main_call3_v0, main_call3_v1, main_call3_c_0, main_call3_v2, main_call3_v3, main_call3_v4, main_call3_c_1, main_call3_c_2, main_call3_v5, main_call3_v6, main_call3_v7, main_call3_v8, main_call3_v9, main_call3_v10, main_call3_c_3, main_call3_v11, main_call3_v12, main_call3_v13, main_call3_cst, main_call3_v14, main_v8]
theorem opsTake_writes : opsTake.Forall fun op => op.writes ⊆ (opsTakeW.map (Proc.devRef (τ := τ) .tc)).toFinset := by
  simp only [opsTake, List.Forall, StableHlo.nullary_writes, StableHlo.unary_writes, StableHlo.binary_writes, StableHlo.ternary_writes, StableHlo.quaternary_writes]; decide

/-- The convolution. -/
def opsMm : List (HloOp τ sig (Elt Ideal)) := [
  StableHlo.unary main_v8 main_v9 ((transpose S8x128x1024 [0, 2, 1] · transposes_S8x1024x128_S8x128x1024_0_2_1) : (⟨S8x1024x128, .f32⟩ : BufTy).Contents (Elt Ideal) → (⟨S8x128x1024, .f32⟩ : BufTy).Contents (Elt Ideal)),
  StableHlo.binary main_v9 main_arg2 main_v10 ((fun l r => Host.dotGeneral (F := Ideal) (φ₁ := .f32) (φ₂ := .f32) dot_S8x128x1024_S256x128_S8x1024x256_1_1_02_0_n_n none l r) : (⟨S8x128x1024, .f32⟩ : BufTy).Contents (Elt Ideal) → (⟨S256x128, .f32⟩ : BufTy).Contents (Elt Ideal) → (⟨S8x1024x256, .f32⟩ : BufTy).Contents (Elt Ideal)),
  StableHlo.unary main_v10 main_v11 ((transpose S8x256x1024 [0, 2, 1] · transposes_S8x1024x256_S8x256x1024_0_2_1) : (⟨S8x1024x256, .f32⟩ : BufTy).Contents (Elt Ideal) → (⟨S8x256x1024, .f32⟩ : BufTy).Contents (Elt Ideal)),
  StableHlo.unary main_arg3 main_v12 (broadcastInDim S1x256x1 ![1] bcast_S256_S1x256x1_1 : (⟨S256, .f32⟩ : BufTy).Contents (Elt Ideal) → (⟨S1x256x1, .f32⟩ : BufTy).Contents (Elt Ideal)),
  StableHlo.unary main_v12 main_v13 (broadcastInDim S8x256x1024 ![0, 1, 2] bcast_S1x256x1_S8x256x1024_0_1_2 : (⟨S1x256x1, .f32⟩ : BufTy).Contents (Elt Ideal) → (⟨S8x256x1024, .f32⟩ : BufTy).Contents (Elt Ideal)),
  StableHlo.binary main_v11 main_v13 main_v14 (addf (F := Ideal) (φ := .f32) : (⟨S8x256x1024, .f32⟩ : BufTy).Contents (Elt Ideal) → (⟨S8x256x1024, .f32⟩ : BufTy).Contents (Elt Ideal) → (⟨S8x256x1024, .f32⟩ : BufTy).Contents (Elt Ideal))]
theorem opsMm_sub : opsMm.Forall fun op => op.bufs ⊆ tcRefs τ sig :=
  ⟨StableHlo.unary_bufs_sub .., StableHlo.binary_bufs_sub .., StableHlo.unary_bufs_sub .., StableHlo.unary_bufs_sub .., StableHlo.unary_bufs_sub .., StableHlo.binary_bufs_sub ..⟩
/-- The buffers it writes. -/
abbrev opsMmW : List (Ref sig .tc) := [main_v9, main_v10, main_v11, main_v12, main_v13, main_v14]
theorem opsMm_writes : opsMm.Forall fun op => op.writes ⊆ (opsMmW.map (Proc.devRef (τ := τ) .tc)).toFinset := by
  simp only [opsMm, List.Forall, StableHlo.nullary_writes, StableHlo.unary_writes, StableHlo.binary_writes, StableHlo.ternary_writes, StableHlo.quaternary_writes]; decide

/-- The condition's operations. -/
def opsCond : List (HloOp τ sig (Elt Ideal)) := [
  StableHlo.nullary main_while0c_c_8 (constantI S_ 32 1024#32),
  StableHlo.binary main_v3_1 main_while0c_c_8 main_while0c_v15 (cmpi .slt : (⟨S_, .i32⟩ : BufTy).Contents (Elt Ideal) → (⟨S_, .i32⟩ : BufTy).Contents (Elt Ideal) → (⟨S_, .i1⟩ : BufTy).Contents (Elt Ideal))]
abbrev opsCondW : List (Ref sig .tc) := [main_while0c_c_8, main_while0c_v15]
theorem opsCond_writes : opsCond.Forall fun op => op.writes ⊆ (opsCondW.map (Proc.devRef (τ := τ) .tc)).toFinset := by
  simp only [opsCond, List.Forall, StableHlo.nullary_writes, StableHlo.binary_writes]; decide

/-- The stretches before the loop, of its body, and after it. -/
def preI : List (List (HloOp τ sig (Elt Ideal))) := [opsPre]
def bodyI : List (List (HloOp τ sig (Elt Ideal))) := [opsPut, opsPick, opsDist, opsFar, opsNext]
def postI : List (List (HloOp τ sig (Elt Ideal))) := [opsIx, opsXyz, opsRows, opsTake, opsMm]

theorem preI_plain : Plain preI := .cons opsPre_sub .nil
theorem bodyI_plain : Plain bodyI := .cons opsPut_sub (.cons opsPick_sub (.cons opsDist_sub (.cons opsFar_sub (.cons opsNext_sub .nil))))
theorem postI_plain : Plain postI := .cons opsIx_sub (.cons opsXyz_sub (.cons opsRows_sub (.cons opsTake_sub (.cons opsMm_sub .nil))))

/-! ## The program is the chain of its stretches -/

set_option maxHeartbeats 4000000 in
theorem body_eq : main_while0_body (F := Ideal) = Pipeline.chain (bodyI.map fun ops => (seq ops : Prog _ PUnit)) := by
  chain_rfl

set_option maxHeartbeats 4000000 in
theorem main_eq (c : Dev nD) : main (F := Ideal) c
    = Pipeline.chain ((preI.map fun ops => (seq ops : Prog _ PUnit)) ++ HostLoop.enter 0 :: postI.map fun ops => (seq ops : Prog _ PUnit)) := by
  chain_rfl

end Cert.Proof.Ref

end
-- ==== Proof.RefRun.lean ====
/-
The reference program's run: its counted loop, every buffer's contents at the end, and the arguments kept.
-/
module

public import proofs.«01_k».proof.Proof.RefOps

@[expose] public section

noncomputable section

namespace Cert.Proof.Ref

open Cert.ReferenceIdeal Cert.ReferenceIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo
open TcCoe

/-! ## The buffers before each run of the condition -/

/-- The launch contents. -/
abbrev L₀ (m : (ℓ : Loc nD τ sig) → Buf (Elt Ideal) ℓ) (c : Dev nD) : Valuation τ sig (Elt Ideal) := launchContents m c
/-- Before the `k`-th run of the condition. -/
abbrev At (m : (ℓ : Loc nD τ sig) → Buf (Elt Ideal) ℓ) (k : ℕ) (c : Dev nD) : Valuation τ sig (Elt Ideal) :=
  atTrip opsCond bodyI (entryContents preI m) k c
/-- At the end. -/
abbrev Fin₁ (m : (ℓ : Loc nD τ sig) → Buf (Elt Ideal) ℓ) (c : Dev nD) : Valuation τ sig (Elt Ideal) :=
  finalContents opsCond preI bodyI postI 1024 m c

/-- What a trip's stretches write. -/
abbrev bodyW : List (Ref sig .tc) := opsCondW ++ opsPutW ++ opsPickW ++ opsDistW ++ opsFarW ++ opsNextW

theorem trip_keeps (W : Valuation τ sig (Elt Ideal)) (r : Ref sig .tc) (h : r ∉ bodyW) : afterL bodyI (after opsCond W) r = W r := by
  simp only [bodyW, List.mem_append, not_or] at h
  obtain ⟨⟨⟨⟨⟨h0, h1⟩, h2⟩, h3⟩, h4⟩, h5⟩ := h
  unfold bodyI
  rw [afterL_cons, afterL_cons, afterL_cons, afterL_cons, afterL_cons, afterL_nil,
    after_of_writes_sub _ _ opsNext_writes h5, after_of_writes_sub _ _ opsFar_writes h4, after_of_writes_sub _ _ opsDist_writes h3,
    after_of_writes_sub _ _ opsPick_writes h2, after_of_writes_sub _ _ opsPut_writes h1, after_of_writes_sub _ _ opsCond_writes h0]

theorem At_keeps (m : (ℓ : Loc nD τ sig) → Buf (Elt Ideal) ℓ) (c : Dev nD) (r : Ref sig .tc) (h : r ∉ bodyW) : ∀ k, At m k c r = after opsPre (L₀ m c) r
  | 0 => rfl
  | k + 1 => (trip_keeps _ r h).trans (At_keeps m c r h k)

/-- What the stretches after the loop write. -/
abbrev postW : List (Ref sig .tc) := opsCondW ++ opsIxW ++ opsXyzW ++ opsRowsW ++ opsTakeW ++ opsMmW

/-- A buffer that nothing writes is kept. -/
theorem kept (m : (ℓ : Loc nD τ sig) → Buf (Elt Ideal) ℓ) (c : Dev nD) (r : Ref sig .tc) (h0 : r ∉ opsPreW) (h1 : r ∉ bodyW) (h2 : r ∉ postW) :
    Fin₁ m c r = L₀ m c r := by
  simp only [postW, List.mem_append, not_or] at h2
  obtain ⟨⟨⟨⟨⟨k0, k1⟩, k2⟩, k3⟩, k4⟩, k5⟩ := h2
  show afterL postI (after opsCond (At m 1024 c)) r = _
  unfold postI
  rw [afterL_cons, afterL_cons, afterL_cons, afterL_cons, afterL_cons, afterL_nil,
    after_of_writes_sub _ _ opsMm_writes k5, after_of_writes_sub _ _ opsTake_writes k4, after_of_writes_sub _ _ opsRows_writes k3,
    after_of_writes_sub _ _ opsXyz_writes k2, after_of_writes_sub _ _ opsIx_writes k1, after_of_writes_sub _ _ opsCond_writes k0,
    At_keeps m c r h1, after_of_writes_sub _ _ opsPre_writes h0]

/-! ## A trip, buffer by buffer -/

/-- One trip of the loop: the condition's operations and the body's. -/
abbrev trip (W : Valuation τ sig (Elt Ideal)) : Valuation τ sig (Elt Ideal) := afterL bodyI (after opsCond W)

theorem At_succ (m : (ℓ : Loc nD τ sig) → Buf (Elt Ideal) ℓ) (c : Dev nD) (k : ℕ) : At m (k + 1) c = trip (At m k c) := rfl

theorem next_1 (W : Valuation τ sig (Elt Ideal)) : after opsNext W main_v3_1 = addi (W main_v3_1 : IVec S_ 32) (constantI S_ 32 1#32) := by
  rw [opsNext]; after_results; rfl
theorem next_2 (W : Valuation τ sig (Elt Ideal)) : after opsNext W main_v3_2 = W main_while0b_v15 := by rw [opsNext]; after_results; rfl
theorem next_3 (W : Valuation τ sig (Elt Ideal)) : after opsNext W main_v3_3 = W main_while0b_v28 := by rw [opsNext]; after_results; rfl
theorem next_4 (W : Valuation τ sig (Elt Ideal)) : after opsNext W main_v3_4 = W main_while0b_v29 := by rw [opsNext]; after_results; rfl
theorem next_5 (W : Valuation τ sig (Elt Ideal)) : after opsNext W main_v3_5 = W main_while0b_v21 := by rw [opsNext]; after_results; rfl

/-- The counter after a trip. -/
theorem trip_1 (W : Valuation τ sig (Elt Ideal)) : trip W main_v3_1 = addi (W main_v3_1 : IVec S_ 32) (constantI S_ 32 1#32) := by
  unfold trip bodyI
  rw [afterL_cons, afterL_cons, afterL_cons, afterL_cons, afterL_cons, afterL_nil, next_1,
    after_of_writes_sub _ _ opsFar_writes (by decide), after_of_writes_sub _ _ opsDist_writes (by decide),
    after_of_writes_sub _ _ opsPick_writes (by decide), after_of_writes_sub _ _ opsPut_writes (by decide), after_of_writes_sub _ _ opsCond_writes (by decide)]

theorem pre_1 (W : Valuation τ sig (Elt Ideal)) : after opsPre W main_v3_1 = constantI S_ 32 0#32 := by rw [opsPre]; after_results; rfl

/-- The counter before the `k`-th run of the condition is `k`. -/
theorem counter (m : (ℓ : Loc nD τ sig) → Buf (Elt Ideal) ℓ) (c : Dev nD) : ∀ k, At m k c main_v3_1 = fun _ => (BitVec.ofNat 32 k : BitVec 32)
  | 0 => pre_1 _
  | k + 1 => by
    rw [At_succ, trip_1, counter m c k]
    funext i
    show BitVec.ofNat 32 k + 1#32 = BitVec.ofNat 32 (k + 1)
    rw [BitVec.ofNat_add]

/-- The condition's comparison: true exactly before the 1024th trip. -/
theorem pred_iff (k : ℕ) (hk : k ≤ 1024) : Iff (IntOp.cmpi .slt (BitVec.ofNat 32 k) 1024#32 = 1#1) (k < 1024) := by
  have oneB (p : Bool) : (BitVec.ofBool p = 1#1) ↔ p = true := by cases p <;> decide
  simp only [IntOp.cmpi, oneB, BitVec.slt_eq_decide, decide_eq_true_eq, BitVec.toInt_eq_toNat_cond, BitVec.toNat_ofNat, Nat.reducePow, Nat.reduceMod]
  omega

set_option backward.isDefEq.respectTransparency.types false in
/-- The condition, run with the counter at `k`. -/
theorem cond_wp (W : Valuation τ sig (Elt Ideal)) (k : ℕ) (hk : k ≤ 1024) (hcnt : W main_v3_1 = fun _ => (BitVec.ofNat 32 k : BitVec 32))
    (c : Dev nD) (bd : Option (Variants.lift Variants.none).V) :
    iprop(boundary (c.tc : Thread nD τ) ∗ held (c.tc : Thread nD τ) (Pipeline.ucRefs τ sig) W)
      ⊢ (wp frame (wpE (HostLoop.defs (loops (F := Ideal)) (Pipeline.defs (pcfgs (F := Ideal)) (defs₀ (F := Ideal)))) (Variants.lift Variants.none) (c.tc : Thread nD τ) bd) Set.univ
          (main_while0_cond (F := Ideal))
          (fun v => iprop(⌜Iff (v = 1#1) (k < 1024)⌝ ∗ boundary (c.tc : Thread nD τ) ∗ held (c.tc : Thread nD τ) (Pipeline.ucRefs τ sig) (after opsCond W)))
        : sProp (MT nD τ sig Unit (Elt Ideal) ℕ (Option PUnit) ℕ)) := by
  have hv : HloOp.result (StableHlo.nullary main_while0c_c_8 (constantI S_ 32 1024#32) : HloOp τ sig (Elt Ideal)) W main_v3_1 = fun _ => (BitVec.ofNat 32 k : BitVec 32) := by
    rw [nullary_result_ne _ _ _ _ (by decide), hcnt]
  have hc : HloOp.result (StableHlo.nullary main_while0c_c_8 (constantI S_ 32 1024#32) : HloOp τ sig (Elt Ideal)) W main_while0c_c_8 = fun _ => (1024#32 : BitVec 32) := by
    rw [nullary_result]; rfl
  simp only [main_while0_cond, bind_pure]
  rw [wp_bind]
  iintro H
  iapply (wp_hlo_within (Variants.lift Variants.none) (c.tc : Thread nD τ) bd Set.univ (Pipeline.sub_ucRefs _ (nullary_bufs_sub ..))) $$ H
  iintro H
  rw [wp_ret]; imodintro
  iapply (wp_hlo_within (Variants.lift Variants.none) (c.tc : Thread nD τ) bd Set.univ (Pipeline.sub_ucRefs _ (binary_bufs_sub ..))) $$ H
  iintro H
  rw [HostLoop.elt_apply, wp_ret]
  imodintro
  isplitr
  · ipureintro
    show Iff (IntOp.cmpi .slt (HloOp.result (StableHlo.nullary main_while0c_c_8 (constantI S_ 32 1024#32) : HloOp τ sig (Elt Ideal)) W main_v3_1 HostLoop.idx0)
      (HloOp.result (StableHlo.nullary main_while0c_c_8 (constantI S_ 32 1024#32) : HloOp τ sig (Elt Ideal)) W main_while0c_c_8 HostLoop.idx0) = 1#1) (k < 1024)
    rw [hv, hc]
    exact pred_iff k hk
  · rw [opsCond, after_cons, after_cons, after_nil]
    iexact H

/-- The condition's specification. -/
theorem cond_spec (m : (ℓ : Loc nD τ sig) → Buf (Elt Ideal) ℓ) :
    CondSpec (nD := nD) (pcfgs (F := Ideal)) (defs₀ (F := Ideal)) (loops (F := Ideal)) (main_while0_cond (F := Ideal)) opsCond bodyI (entryContents preI m) 1024 :=
  fun k hk c bd => cond_wp (At m k c) k hk (counter m c k) c bd

/-! ## The run -/

/-- **The reference's run**: every buffer of the program ends at the fold of its operations. -/
theorem run_main (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (c : Dev nD) (b : Ref sig .tc), (Proc.devRef .tc b : DevRef τ sig).isScoped = false →
        r.2.mem ((c.tc : Thread nD τ).loc b) = Fin₁ m c (Proc.devRef .tc b)) :=
  run_loop (pcfgs (F := Ideal)) (defs₀ (F := Ideal)) (loops (F := Ideal)) main 0 main_while0_cond main_while0_body rfl preI bodyI postI opsCond
    preI_plain bodyI_plain postI_plain main_eq body_eq 1024 m ρ (cond_spec m)

/-- The arguments kept. -/
theorem args_kept (m : (ℓ : Loc nD τ sig) → Buf (Elt Ideal) ℓ) {r : PUnit × MemSt nD τ sig (Elt Ideal)}
    (h : ∀ (c : Dev nD) (b : Ref sig .tc), (Proc.devRef .tc b : DevRef τ sig).isScoped = false → r.2.mem ((c.tc : Thread nD τ).loc b) = Fin₁ m c (Proc.devRef .tc b)) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c main_arg0 rfl).trans (kept m c main_arg0 (by decide) (by decide) (by decide)),
   (h c main_arg1 rfl).trans (kept m c main_arg1 (by decide) (by decide) (by decide)),
   (h c main_arg2 rfl).trans (kept m c main_arg2 (by decide) (by decide) (by decide)),
   (h c main_arg3 rfl).trans (kept m c main_arg3 (by decide) (by decide) (by decide))⟩

end Cert.Proof.Ref

end
-- ==== Proof.RefTrip.lean ====
/-
What one trip of the reference's loop leaves in each carried buffer, what the buffers hold at its entry, and what the
  operations after it compute, as functions of the buffers before.
-/
module

public import proofs.«01_k».proof.Proof.RefRun

@[expose] public section

noncomputable section

namespace Cert.Proof.Ref

open Cert.ReferenceIdeal Cert.ReferenceIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo
open TcCoe

/-! ## What the called functions compute -/

/-! ### One point of each batch -/

/-- The indices with the negative ones counted from the end. -/
def inA (J : IVec S8x1x1 32) : IVec S8x1x1 32 :=
  select (cmpi .slt J (broadcastInDim S8x1x1 ![] bcast_S_S8x1x1 (constantI S_ 32 0#32))) (addi J (broadcastInDim S8x1x1 ![] bcast_S_S8x1x1 (constantI S_ 32 8192#32))) J
/-- Which of them name a point. -/
def okA (J : IVec S8x1x1 32) : IVec S8x1 1 :=
  Host.reduce IntOp.andi (andi (cmpi .sge (inA J) (broadcastInDim S8x1x1 ![] bcast_S_S8x1x1 (constantI S_ 32 0#32)))
      (cmpi .sle (inA J) (broadcastInDim S8x1x1 ![0, 1, 2] bcast_S1x1x1_S8x1x1_0_1_2 (broadcastInDim S1x1x1 ![2] bcast_S1_S1x1x1_2 (constantI S1 32 8191#32)))))
    (constantI S_ 1 1#1) reducesTo_S8x1x1_S8x1_d2 h_S_
/-- The points taken, and not-a-number where an index names none. -/
def takeA (X : FVec Ideal S8x8192x3 .f32) (J : IVec S8x1x1 32) : FVec Ideal S8x1x3 .f32 :=
  select (broadcastInDim S8x1x3 ![0, 1] bcast_S8x1_S8x1x3_0_1 (okA J)) (Host.gather gather_S8x8192x3_S8x1x1_S8x1x3_2_1_0_0_1_2_113 X (inA J))
    (broadcastInDim S8x1x3 ![] bcast_S_S8x1x3 (constant (F := Ideal) S_ .f32 0x7FC00000#32))

/-! ### The sampled points of each batch -/

/-- The indices with the negative ones counted from the end. -/
def inB (J : IVec S8x1024x1 32) : IVec S8x1024x1 32 :=
  select (cmpi .slt J (broadcastInDim S8x1024x1 ![] bcast_S_S8x1024x1 (constantI S_ 32 0#32))) (addi J (broadcastInDim S8x1024x1 ![] bcast_S_S8x1024x1 (constantI S_ 32 8192#32))) J
/-- Which of them name a point. -/
def okB (J : IVec S8x1024x1 32) : IVec S8x1024 1 :=
  Host.reduce IntOp.andi (andi (cmpi .sge (inB J) (broadcastInDim S8x1024x1 ![] bcast_S_S8x1024x1 (constantI S_ 32 0#32)))
      (cmpi .sle (inB J) (broadcastInDim S8x1024x1 ![0, 1, 2] bcast_S1x1x1_S8x1024x1_0_1_2 (broadcastInDim S1x1x1 ![2] bcast_S1_S1x1x1_2 (constantI S1 32 8191#32)))))
    (constantI S_ 1 1#1) reducesTo_S8x1024x1_S8x1024_d2 h_S_
/-- The points taken, and not-a-number where an index names none. -/
def takeB (X : FVec Ideal S8x8192x3 .f32) (J : IVec S8x1024x1 32) : FVec Ideal S8x1024x3 .f32 :=
  select (broadcastInDim S8x1024x3 ![0, 1] bcast_S8x1024_S8x1024x3_0_1 (okB J)) (Host.gather gather_S8x8192x3_S8x1024x1_S8x1024x3_2_1_0_0_1_2_113 X (inB J))
    (broadcastInDim S8x1024x3 ![] bcast_S_S8x1024x3 (constant (F := Ideal) S_ .f32 0x7FC00000#32))

/-! ### The sampled points' features: the same indices, the features' rows -/

/-- The rows taken, and not-a-number where an index names none. -/
def takeC (X : FVec Ideal S8x8192x128 .f32) (J : IVec S8x1024x1 32) : FVec Ideal S8x1024x128 .f32 :=
  select (broadcastInDim S8x1024x128 ![0, 1] bcast_S8x1024_S8x1024x128_0_1 (okB J)) (Host.gather gather_S8x8192x128_S8x1024x1_S8x1024x128_2_1_0_0_1_2_11128 X (inB J))
    (broadcastInDim S8x1024x128 ![] bcast_S_S8x1024x128 (constant (F := Ideal) S_ .f32 0x7FC00000#32))

/-! ### A trip's other values -/

/-- The column that a trip writes. -/
def colW (t : IVec S_ 32) : IVec S1 32 :=
  broadcastInDim S1 ![] bcast_S_S1 (select (cmpi .slt t (constantI S_ 32 0#32)) (addi t (constantI S_ 32 1024#32)) t)
/-- The sampled points' numbers, the newest put in its column. -/
def putR (N : IVec S8x1024 32) (t : IVec S_ 32) (f : IVec S8 32) : IVec S8x1024 32 :=
  Host.scatter scatter_S8x1024_S1_S8_0_1_1_0 (fun _ b => b) N (colW t) f
/-- The least of the distances kept and those to the point whose coordinates are `C`. -/
def distR (X : FVec Ideal S8x8192x3 .f32) (C : FVec Ideal S8x1x3 .f32) (D : FVec Ideal S8x8192 .f32) : FVec Ideal S8x8192 .f32 :=
  minimumf D (Host.reduceAdd
    (mulf (subf X (broadcastInDim S8x8192x3 ![0, 1, 2] bcast_S8x1x3_S8x8192x3_0_1_2 C)) (subf X (broadcastInDim S8x8192x3 ![0, 1, 2] bcast_S8x1x3_S8x8192x3_0_1_2 C)))
    (constant (F := Ideal) S_ .f32 0x00000000#32) reducesTo_S8x8192x3_S8x8192_d2 h_S_)
/-- The farthest point of each batch. -/
def farR (D : FVec Ideal S8x8192 .f32) : IVec S8 32 := fun j =>
  (Host.argReduce (reducer_argmax_f32_i32 (F := Ideal)) D (iotaInDim S8x8192 32 1) (constant (F := Ideal) S_ .f32 0xFF800000#32) (constantI S_ 32 0#32)
    reducesTo_S8x8192_S8_d1 h_S_ j).2

/-! ## The stretches, buffer by buffer -/

theorem put_21 (W : Valuation τ sig (Elt Ideal)) : after opsPut W main_while0b_v21 = putR (W main_v3_5) (W main_v3_2) (W main_v3_4) := by
  rw [opsPut]; after_results; rfl
theorem put_15 (W : Valuation τ sig (Elt Ideal)) : after opsPut W main_while0b_v15 = addi (W main_v3_2 : IVec S_ 32) (constantI S_ 32 1#32) := by
  rw [opsPut]; after_results
theorem put_22 (W : Valuation τ sig (Elt Ideal)) :
    after opsPut W main_while0b_v22 = broadcastInDim S8x1x1 ![0] bcast_S8_S8x1x1_0 (W main_v3_4 : IVec S8 32) := by
  rw [opsPut]; after_results
theorem pick_23 (W : Valuation τ sig (Elt Ideal)) : after opsPick W main_while0b_v23 = takeA (W main_v3_0) (W main_while0b_v22) := by
  rw [opsPick]; after_results; rfl
theorem dist_28 (W : Valuation τ sig (Elt Ideal)) : after opsDist W main_while0b_v28 = distR (W main_v3_0) (W main_while0b_v23) (W main_v3_3) := by
  rw [opsDist]; after_results; rfl
theorem far_29 (W : Valuation τ sig (Elt Ideal)) : after opsFar W main_while0b_v29 = farR (W main_while0b_v28) := by
  rw [opsFar]; after_results; rfl

/-- The point whose turn it is, as the picking reads it. -/
abbrev pickW (f : IVec S8 32) : IVec S8x1x1 32 := broadcastInDim S8x1x1 ![0] bcast_S8_S8x1x1_0 f

/-! ## A trip, carried buffer by carried buffer -/

theorem trip_0 (W : Valuation τ sig (Elt Ideal)) : trip W main_v3_0 = W main_v3_0 := trip_keeps W _ (by decide)

theorem trip_2 (W : Valuation τ sig (Elt Ideal)) : trip W main_v3_2 = addi (W main_v3_2 : IVec S_ 32) (constantI S_ 32 1#32) := by
  unfold trip bodyI
  rw [afterL_cons, afterL_cons, afterL_cons, afterL_cons, afterL_cons, afterL_nil, next_2,
    after_of_writes_sub _ _ opsFar_writes (by decide), after_of_writes_sub _ _ opsDist_writes (by decide),
    after_of_writes_sub _ _ opsPick_writes (by decide), put_15, after_of_writes_sub _ _ opsCond_writes (by decide)]

theorem trip_5 (W : Valuation τ sig (Elt Ideal)) : trip W main_v3_5 = putR (W main_v3_5) (W main_v3_2) (W main_v3_4) := by
  unfold trip bodyI
  rw [afterL_cons, afterL_cons, afterL_cons, afterL_cons, afterL_cons, afterL_nil, next_5,
    after_of_writes_sub _ _ opsFar_writes (by decide), after_of_writes_sub _ _ opsDist_writes (by decide),
    after_of_writes_sub _ _ opsPick_writes (by decide), put_21, after_of_writes_sub _ _ opsCond_writes (by decide),
    after_of_writes_sub _ _ opsCond_writes (by decide), after_of_writes_sub _ _ opsCond_writes (by decide)]

/-- The distances before the search of a trip. -/
theorem mid_28 (W : Valuation τ sig (Elt Ideal)) : after opsDist (after opsPick (after opsPut (after opsCond W))) main_while0b_v28
    = distR (W main_v3_0) (takeA (W main_v3_0) (pickW (W main_v3_4))) (W main_v3_3) := by
  rw [dist_28, pick_23, put_22, after_of_writes_sub (r := main_v3_0) _ _ opsPick_writes (by decide), after_of_writes_sub (r := main_v3_3) _ _ opsPick_writes (by decide),
    after_of_writes_sub (r := main_v3_0) _ _ opsPut_writes (by decide), after_of_writes_sub (r := main_v3_3) _ _ opsPut_writes (by decide),
    after_of_writes_sub (r := main_v3_0) _ _ opsCond_writes (by decide), after_of_writes_sub (r := main_v3_3) _ _ opsCond_writes (by decide),
    after_of_writes_sub (r := main_v3_4) _ _ opsCond_writes (by decide)]

theorem trip_3 (W : Valuation τ sig (Elt Ideal)) : trip W main_v3_3 = distR (W main_v3_0) (takeA (W main_v3_0) (pickW (W main_v3_4))) (W main_v3_3) := by
  unfold trip bodyI
  rw [afterL_cons, afterL_cons, afterL_cons, afterL_cons, afterL_cons, afterL_nil, next_3,
    after_of_writes_sub _ _ opsFar_writes (by decide), mid_28]

theorem trip_4 (W : Valuation τ sig (Elt Ideal)) : trip W main_v3_4 = farR (distR (W main_v3_0) (takeA (W main_v3_0) (pickW (W main_v3_4))) (W main_v3_3)) := by
  unfold trip bodyI
  rw [afterL_cons, afterL_cons, afterL_cons, afterL_cons, afterL_cons, afterL_nil, next_4, far_29, mid_28]

/-! ## The loop's entry -/

theorem pre_0 (W : Valuation τ sig (Elt Ideal)) : after opsPre W main_v3_0 = W main_arg0 := by rw [opsPre]; after_results; rfl
theorem pre_2 (W : Valuation τ sig (Elt Ideal)) : after opsPre W main_v3_2 = constantI S_ 32 0#32 := by rw [opsPre]; after_results; rfl
theorem pre_3 (W : Valuation τ sig (Elt Ideal)) :
    after opsPre W main_v3_3 = broadcastInDim S8x8192 ![] bcast_S_S8x8192 (constant (F := Ideal) S_ .f32 0x501502F9#32) := by rw [opsPre]; after_results; rfl
theorem pre_4 (W : Valuation τ sig (Elt Ideal)) : after opsPre W main_v3_4 = broadcastInDim S8 ![] bcast_S_S8 (constantI S_ 32 0#32) := by rw [opsPre]; after_results; rfl

/-! ## After the loop -/

/-- The sampled numbers as indices. -/
abbrev idxW (N : IVec S8x1024 32) : IVec S8x1024x1 32 := broadcastInDim S8x1024x1 ![0, 1] bcast_S8x1024_S8x1024x1_0_1 N
/-- The convolution of the rows taken. -/
def convR (T : FVec Ideal S8x1024x128 .f32) (A : FVec Ideal S256x128 .f32) (B : FVec Ideal S256 .f32) : FVec Ideal S8x256x1024 .f32 :=
  addf (transpose S8x256x1024 [0, 2, 1]
      (Host.dotGeneral (φ₁ := .f32) (φ₂ := .f32) dot_S8x128x1024_S256x128_S8x1024x256_1_1_02_0_n_n none
        (transpose S8x128x1024 [0, 2, 1] T transposes_S8x1024x128_S8x128x1024_0_2_1) A) transposes_S8x1024x256_S8x256x1024_0_2_1)
    (broadcastInDim S8x256x1024 ![0, 1, 2] bcast_S1x256x1_S8x256x1024_0_1_2 (broadcastInDim S1x256x1 ![1] bcast_S256_S1x256x1_1 B))

theorem ix_4 (W : Valuation τ sig (Elt Ideal)) : after opsIx W main_v4 = idxW (W main_v3_5) := by rw [opsIx]; after_results
theorem xyz_5 (W : Valuation τ sig (Elt Ideal)) : after opsXyz W main_v5 = takeB (W main_arg0) (W main_v4) := by rw [opsXyz]; after_results; rfl
theorem rows_6 (W : Valuation τ sig (Elt Ideal)) :
    after opsRows W main_v6 = transpose S8x8192x128 [0, 2, 1] (W main_arg1 : FVec Ideal S8x128x8192 .f32) transposes_S8x128x8192_S8x8192x128_0_2_1 := by
  rw [opsRows]; after_results
theorem rows_7 (W : Valuation τ sig (Elt Ideal)) : after opsRows W main_v7 = idxW (W main_v3_5) := by rw [opsRows]; after_results
theorem take_8 (W : Valuation τ sig (Elt Ideal)) : after opsTake W main_v8 = takeC (W main_v6) (W main_v7) := by rw [opsTake]; after_results; rfl
theorem mm_14 (W : Valuation τ sig (Elt Ideal)) : after opsMm W main_v14 = convR (W main_v8) (W main_arg2) (W main_arg3) := by rw [opsMm]; after_results; rfl

end Cert.Proof.Ref

end
-- ==== Proof.RefAt.lean ====
/-
The reference's takes, column write and distances, read at an index.
-/
module

public import proofs.«01_k».proof.Proof.RefTrip
public import proofs.«01_k».proof.Proof.FarMath
public import Idealize.ShloMosaic.Lib.ReduceAll
public import Idealize.ShloMosaic.Lib.Routing.OpsOne

@[expose] public section

noncomputable section

namespace Cert.Proof.Ref

open Cert.ReferenceIdeal Cert.ReferenceIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo
open TcCoe

/-! ## Taking points -/

/-- A take along the middle axis, at any number `M` of points to take and any length `N` of a row. -/
abbrev takeDims (M N : Nat) (wf : GatherDims.WF ⟨3, ![8, 8192, N]⟩ ⟨3, ![8, M, 1]⟩ ⟨3, ![8, M, N]⟩ [2] [1] [0] [1] [0] 2 ![1, 1, N]) :
    GatherDims ⟨3, ![8, 8192, N]⟩ ⟨3, ![8, M, 1]⟩ ⟨3, ![8, M, N]⟩ where
  offsetDims := [2]
  collapsedSliceDims := [1]
  operandBatchingDims := [0]
  startIndicesBatchingDims := [0]
  startIndexMap := [1]
  indexVectorDim := 2
  sliceSizes := ![1, 1, N]
  wf := wf

/-- A take reads the row its index names, of the index's own batch. -/
theorem gather_at {M N : Nat} {α : Type} (wf) (X : (⟨3, ![8, 8192, N]⟩ : Shape).Idx → α) (J : IVec ⟨3, ![8, M, 1]⟩ 32) (b : Fin 8) (j : Fin M) (e : Fin N)
    (n : Fin 8192) (hn : J (ix3 b j 0) = BitVec.ofNat 32 n.val) : Host.gather (takeDims M N wf) X J (ix3 b j e) = X (ix3 b n e) := by
  unfold Host.gather
  refine congrArg X (funext fun a => Fin.ext ?_)
  match a with
  | ⟨0, _⟩ =>
    show (takeDims M N wf).start (ix3 b j e) J 0 + (takeDims M N wf).batchCoord (ix3 b j e) 0 + (takeDims M N wf).offCoord (ix3 b j e) 0 = b.val
    rw [GatherDims.offCoord_eq_zero _ _ _ (fun h => ((GatherDims.mem_sKept _ _).mp h).2 (List.mem_singleton.mpr rfl))]
    unfold GatherDims.start
    rw [dif_neg (show (0 : Fin 3) ∉ ([1] : List (Fin 3)) by decide)]
    show 0 + _ + 0 = _
    rw [Nat.zero_add]; rfl
  | ⟨1, _⟩ =>
    show (takeDims M N wf).start (ix3 b j e) J 1 + (takeDims M N wf).batchCoord (ix3 b j e) 1 + (takeDims M N wf).offCoord (ix3 b j e) 1 = n.val
    rw [GatherDims.batchCoord_eq_zero _ _ _ (show (1 : Fin 3) ∉ ([0] : List (Fin 3)) by decide),
      GatherDims.offCoord_eq_zero _ _ _ (fun h => ((GatherDims.mem_sKept _ _).mp h).1 (List.mem_singleton.mpr rfl))]
    unfold GatherDims.start
    rw [dif_pos (show (1 : Fin 3) ∈ (takeDims M N wf).startIndexMap from List.mem_singleton.mpr rfl)]
    rw [show (takeDims M N wf).siIdx (ix3 b j e) ⟨List.idxOf (1 : Fin 3) (takeDims M N wf).startIndexMap, List.idxOf_lt_length_iff.2 (List.mem_singleton.mpr rfl)⟩ = ix3 b j 0 from
      funext fun | ⟨0, _⟩ => Fin.ext rfl | ⟨1, _⟩ => Fin.ext rfl | ⟨2, _⟩ => Fin.ext rfl]
    rw [hn, Fps.toInt_ofNat_small (by omega)]
    show min (n.val : ℤ).toNat (8192 - 1) = n.val
    omega
  | ⟨2, _⟩ =>
    show (takeDims M N wf).start (ix3 b j e) J 2 + (takeDims M N wf).batchCoord (ix3 b j e) 2 + (takeDims M N wf).offCoord (ix3 b j e) 2 = e.val
    rw [GatherDims.batchCoord_eq_zero _ _ _ (show (2 : Fin 3) ∉ ([0] : List (Fin 3)) by decide)]
    unfold GatherDims.start
    rw [dif_neg (show (2 : Fin 3) ∉ ([1] : List (Fin 3)) by decide)]
    show 0 + 0 + _ = _
    rw [Nat.zero_add]; rfl

/-- Each index names a point. -/
def Small {S : Shape} (J : IVec S 32) : Prop := ∀ i, ∃ n : Fin 8192, J i = BitVec.ofNat 32 n.val

theorem small_sge {n : Fin 8192} : IntOp.cmpi .sge (BitVec.ofNat 32 n.val) 0#32 = 1#1 := by
  rw [IntOp.cmpi_sge, Fps.toInt_ofNat_small (n := n.val) (by omega)]
  have : ((0#32 : BitVec 32).toInt) = 0 := by decide
  omega
theorem small_sle {n : Fin 8192} : IntOp.cmpi .sle (BitVec.ofNat 32 n.val) 8191#32 = 1#1 := by
  rw [IntOp.cmpi_sle, Fps.toInt_ofNat_small (n := n.val) (by omega)]
  show (n.val : ℤ) ≤ 8191
  omega
theorem small_slt {k : Nat} (hk : k < 2147483648) : IntOp.cmpi .slt (BitVec.ofNat 32 k) 0#32 = 0#1 := by
  rcases (IntOp.cmpi .slt (BitVec.ofNat 32 k) 0#32).eq_zero_or_eq_one with h | h
  · exact h
  · rw [IntOp.cmpi_slt, Fps.toInt_ofNat_small (n := k) hk] at h
    exfalso
    have : ((0#32 : BitVec 32).toInt) = 0 := by decide
    omega

theorem inA_small (J : IVec S8x1x1 32) (h : Small J) : inA J = J := funext fun i => by
  obtain ⟨n, hn⟩ := h i
  show Scalar.select (IntOp.cmpi .slt (J i) 0#32) _ (J i) = J i
  rw [hn, small_slt (by omega)]; rfl
theorem inB_small (J : IVec S8x1024x1 32) (h : Small J) : inB J = J := funext fun i => by
  obtain ⟨n, hn⟩ := h i
  show Scalar.select (IntOp.cmpi .slt (J i) 0#32) _ (J i) = J i
  rw [hn, small_slt (by omega)]; rfl
theorem okA_small (J : IVec S8x1x1 32) (h : Small J) (i : S8x1.Idx) : okA J i = 1#1 := by
  refine Host.reduce_andi_one _ _ _ _ i rfl fun q => ?_
  obtain ⟨n, hn⟩ := h q
  rw [inA_small J h]
  show IntOp.andi (IntOp.cmpi .sge (J q) 0#32) (IntOp.cmpi .sle (J q) 8191#32) = 1#1
  rw [hn, small_sge, small_sle]; rfl
theorem okB_small (J : IVec S8x1024x1 32) (h : Small J) (i : S8x1024.Idx) : okB J i = 1#1 := by
  refine Host.reduce_andi_one _ _ _ _ i rfl fun q => ?_
  obtain ⟨n, hn⟩ := h q
  rw [inB_small J h]
  show IntOp.andi (IntOp.cmpi .sge (J q) 0#32) (IntOp.cmpi .sle (J q) 8191#32) = 1#1
  rw [hn, small_sge, small_sle]; rfl

theorem takeA_at (X : FVec Ideal S8x8192x3 .f32) (J : IVec S8x1x1 32) (h : Small J) (b : Fin 8) (e : Fin 3) (n : Fin 8192)
    (hn : J (ix3 b 0 0) = BitVec.ofNat 32 n.val) : takeA X J (ix3 b 0 e) = X (ix3 b n e) := by
  show Scalar.select (okA J _) (Host.gather (takeDims 1 3 gather_S8x8192x3_S8x1x1_S8x1x3_2_1_0_0_1_2_113_wf) X (inA J) (ix3 b 0 e)) _ = _
  rw [okA_small J h, inA_small J h, gather_at _ X J b 0 e n hn]; rfl
set_option maxRecDepth 16384 in
theorem takeB_at (X : FVec Ideal S8x8192x3 .f32) (J : IVec S8x1024x1 32) (h : Small J) (b : Fin 8) (j : Fin 1024) (e : Fin 3) (n : Fin 8192)
    (hn : J (ix3 b j 0) = BitVec.ofNat 32 n.val) : takeB X J (ix3 b j e) = X (ix3 b n e) := by
  show Scalar.select (okB J _) (Host.gather (takeDims 1024 3 gather_S8x8192x3_S8x1024x1_S8x1024x3_2_1_0_0_1_2_113_wf) X (inB J) (ix3 b j e)) _ = _
  rw [okB_small J h, inB_small J h, gather_at _ X J b j e n hn]; rfl
set_option maxRecDepth 16384 in
theorem takeC_at (X : FVec Ideal S8x8192x128 .f32) (J : IVec S8x1024x1 32) (h : Small J) (b : Fin 8) (j : Fin 1024) (e : Fin 128) (n : Fin 8192)
    (hn : J (ix3 b j 0) = BitVec.ofNat 32 n.val) : takeC X J (ix3 b j e) = X (ix3 b n e) := by
  show Scalar.select (okB J _) (Host.gather (takeDims 1024 128 gather_S8x8192x128_S8x1024x1_S8x1024x128_2_1_0_0_1_2_11128_wf) X (inB J) (ix3 b j e)) _ = _
  rw [okB_small J h, inB_small J h, gather_at _ X J b j e n hn]; rfl

/-! ## A trip's other values -/

/-- The trip numbered `k` writes column `k` and no other. -/
theorem putR_at (N : IVec S8x1024 32) (f : IVec S8 32) (k : Fin 1024) (b : Fin 8) (j : Fin 1024) :
    putR N (fun _ => BitVec.ofNat 32 k.val) f (ix2 b j) = if j = k then f (ix1 b) else N (ix2 b j) := by
  have hc : colW (fun _ => BitVec.ofNat 32 k.val) (ValueIdx.ix1 0) = BitVec.ofNat 32 k.val := by
    show Scalar.select (IntOp.cmpi .slt (BitVec.ofNat 32 k.val) 0#32) _ (BitVec.ofNat 32 k.val) = _
    rw [small_slt (by omega)]; rfl
  have := Routing.scatter_col scatter_S8x1024_S1_S8_0_1_1_0 rfl rfl N (colW fun _ => BitVec.ofNat 32 k.val) f k (by omega) hc b j
  simp only [← ix2_eq_valueIdx, ← ix1_eq_valueIdx] at this
  exact this

/-- The distances kept, at a point. -/
theorem distR_at (X : FVec Ideal S8x8192x3 .f32) (C : FVec Ideal S8x1x3 .f32) (D : FVec Ideal S8x8192 .f32) (b : Fin 8) (n : Fin 8192) :
    distR X C D (ix2 b n) = min (D (ix2 b n)) ((X (ix3 b n 0) - C (ix3 b 0 0)) * (X (ix3 b n 0) - C (ix3 b 0 0))
      + (X (ix3 b n 1) - C (ix3 b 0 1)) * (X (ix3 b n 1) - C (ix3 b 0 1)) + (X (ix3 b n 2) - C (ix3 b 0 2)) * (X (ix3 b n 2) - C (ix3 b 0 2))) := by
  unfold distR
  pointwise
  simp only [Fin.sum_univ_three]

end Cert.Proof.Ref

end
-- ==== Proof.RefSearch.lean ====
/-
The reference's search for the farthest point: the first place of a batch's greatest value.
-/
module

public import proofs.«01_k».proof.Proof.RefAt

@[expose] public section

noncomputable section

namespace Cert.Proof.Ref

open Cert.ReferenceIdeal Cert.ReferenceIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo
open TcCoe

/-- The order of the search: a greater value is better, and of equal values the lower number. -/
def Better (q p : EReal × BitVec 32) : Prop := q.1 < p.1 ∨ (q.1 = p.1 ∧ p.2.toInt ≤ q.2.toInt)

theorem Better.rfl' (p : EReal × BitVec 32) : Better p p := .inr ⟨rfl, le_rfl⟩
theorem Better.trans {p q r : EReal × BitVec 32} (h : Better p q) (k : Better q r) : Better p r := by
  rcases h with h | ⟨h, h'⟩ <;> rcases k with k | ⟨k, k'⟩
  · exact .inl (h.trans k)
  · exact .inl (k ▸ h)
  · exact .inl (h ▸ k)
  · exact .inr ⟨h.trans k, k'.trans h'⟩

/-- One step of the search. -/
abbrev red (a b : EReal × BitVec 32) : EReal × BitVec 32 := reducer_argmax_f32_i32 (F := Ideal) a b

/-- A step keeps one of its two, and the better. -/
theorem red_spec (a b : EReal × BitVec 32) : (red a b = a ∨ red a b = b) ∧ Better a (red a b) ∧ Better b (red a b) := by
  obtain ⟨x, m⟩ := a
  obtain ⟨y, n⟩ := b
  unfold red reducer_argmax_f32_i32 Better
  simp only [Ideal.cmpf_def, Ideal.cmp, Scalar.select, IntOp.ori, IntOp.andi]
  rcases lt_trichotomy x y with h | h | h
  · simp [h, h.not_gt, h.ne]
  · subst h
    by_cases hmn : IntOp.cmpi .slt m n = 1#1
    · have := IntOp.cmpi_slt.mp hmn
      simp [hmn, this.le]
    · have h0 : IntOp.cmpi .slt m n = 0#1 := by
        rcases (IntOp.cmpi .slt m n).eq_zero_or_eq_one with h | h
        · exact h
        · exact absurd h hmn
      have : ¬ m.toInt < n.toInt := fun h => hmn (IntOp.cmpi_slt.mpr h)
      simp [h0, not_lt.mp this]
  · simp [h, h.not_gt, h.ne']

/-- The search down a list: the result is one of those searched, and none is better. -/
theorem fold_spec (L : List (EReal × BitVec 32)) : ∀ p0 : EReal × BitVec 32,
    L.foldl red p0 ∈ p0 :: L ∧ ∀ q ∈ p0 :: L, Better q (L.foldl red p0) := by
  induction L with
  | nil => intro p0; exact ⟨List.mem_singleton.mpr rfl, fun q hq => by rw [List.mem_singleton.mp hq]; exact Better.rfl' _⟩
  | cons a L ih =>
    intro p0
    obtain ⟨hm, hb⟩ := ih (red p0 a)
    obtain ⟨h1, h2, h3⟩ := red_spec p0 a
    have h0 := hb (red p0 a) List.mem_cons_self
    refine ⟨?_, fun q hq => ?_⟩
    · rw [List.foldl_cons]
      rcases List.mem_cons.mp hm with h | h
      · rw [h]
        rcases h1 with h1 | h1 <;> rw [h1] <;> simp
      · exact List.mem_cons_of_mem _ (List.mem_cons_of_mem _ h)
    · rw [List.foldl_cons]
      rcases List.mem_cons.mp hq with h | h
      · rw [h]; exact h2.trans h0
      · rcases List.mem_cons.mp h with h | h
        · rw [h]; exact h3.trans h0
        · exact hb q (List.mem_cons_of_mem _ h)

/-- A batch's values with their numbers, the ones that the search goes through. -/
theorem mem_fiber (D : FVec Ideal S8x8192 .f32) (b : Fin 8) (q : EReal × BitVec 32) :
    q ∈ Host.argReduceFiber D (iotaInDim S8x8192 32 1) reducesTo_S8x8192_S8_d1 (ix1 b) ↔ ∃ n : Fin 8192, q = (D (ix2 b n), BitVec.ofNat 32 n.val) := by
  unfold Host.argReduceFiber
  constructor
  · intro h
    obtain ⟨i, hi, rfl⟩ := List.mem_map.mp h
    have hd := of_decide_eq_true (List.mem_filter.mp hi).2
    generalize S8x8192.rowMajor.symm i = y at hd ⊢
    idx_vars y
    have h0 : y0 = b := congrFun hd 0
    subst h0
    exact ⟨y1, rfl⟩
  · rintro ⟨n, rfl⟩
    refine List.mem_map.mpr ⟨S8x8192.rowMajor (ix2 b n), List.mem_filter.mpr ⟨List.mem_finRange _, decide_eq_true ?_⟩, ?_⟩
    · rw [Equiv.symm_apply_apply]; funext a; match a with | ⟨0, _⟩ => rfl
    · rw [Equiv.symm_apply_apply]; rfl

/-- The farthest point, at a batch. -/
theorem farR_at (D : FVec Ideal S8x8192 .f32) (b : Fin 8) : farR D (ix1 b) = BitVec.ofNat 32 (Fps.far fun n => D (ix2 b n)).val := by
  have hN := Fps.far_isFar fun n => D (ix2 b n)
  generalize Fps.far (fun n => D (ix2 b n)) = N at hN ⊢
  unfold farR
  rw [Ideal.argReduce_eq_reduce2, Host.reduce2_eq_foldl_fiber]
  obtain ⟨hm, hb⟩ := fold_spec (Host.argReduceFiber D (iotaInDim S8x8192 32 1) reducesTo_S8x8192_S8_d1 (ix1 b)) ((⊥ : EReal), 0#32)
  have h0 : (constant (F := Ideal) S_ .f32 0xFF800000#32 (Shape.Idx.first h_S_), constantI S_ 32 0#32 (Shape.Idx.first h_S_)) = ((⊥ : EReal), 0#32) := by
    refine Prod.ext ?_ rfl
    show Ideal.ofBits .f32 4286578688#32 = ⊥
    simp [Ideal.ofBits, Ideal.ieee]
  rw [h0]
  change (List.foldl red _ _).2 = _
  generalize List.foldl red ((⊥ : EReal), 0#32) _ = r at hm hb ⊢
  have hbN := hb _ (List.mem_cons_of_mem _ ((mem_fiber D b _).mpr ⟨N, rfl⟩))
  rcases List.mem_cons.mp hm with h | h
  · rw [h] at hbN ⊢
    rcases hbN with h1 | ⟨h1, _⟩
    · exact absurd h1 not_lt_bot
    · have : N = 0 := by
        by_contra hne
        have := hN.2 0 (Fin.pos_iff_ne_zero.mpr hne)
        exact absurd (lt_of_lt_of_eq this h1) not_lt_bot
      rw [this]; rfl
  · obtain ⟨n, rfl⟩ := (mem_fiber D b _).mp h
    rcases hbN with h1 | ⟨h1, h2⟩
    · exact absurd (hN.1 n) (not_le.mpr h1)
    · have hle : n.val ≤ N.val := by
        simp only [] at h2
        rw [Fps.toInt_ofNat_small (by omega), Fps.toInt_ofNat_small (by omega)] at h2
        omega
      have : ¬ n < N := fun hlt => absurd (lt_of_lt_of_eq (hN.2 n hlt) h1) (lt_irrefl _)
      have : n = N := le_antisymm hle (not_lt.mp this)
      rw [this]

end Cert.Proof.Ref

end
-- ==== Proof.RefValue.lean ====
/-
The reference's results: its loop's carried buffers before each trip, and what the program leaves in its two result buffers.
-/
module

public import proofs.«01_k».proof.Proof.RefSearch

@[expose] public section

noncomputable section

namespace Cert.Proof.Ref

open Cert.ReferenceIdeal Cert.ReferenceIdeal.Gen

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo
open TcCoe

/-- The points of batch `b`. -/
def pr (X : FVec Ideal S8x8192x3 .f32) (b : Fin 8) : Fin 8192 → Fin 3 → EReal := fun n e => X (ix3 b n e)

/-- What the carried buffers hold before trip `k`: the points, the trip's number, the point whose turn it is, the distances kept, and
    the columns already written. -/
structure Inv (X : FVec Ideal S8x8192x3 .f32) (k : ℕ) (W : Valuation τ sig (Elt Ideal)) : Prop where
  pts : W main_v3_0 = X
  num : W main_v3_2 = fun _ => (BitVec.ofNat 32 k : BitVec 32)
  dist : W main_v3_3 = fun i : S8x8192.Idx => ((Fps.st (pr X (i 0)) k).2 (i 1) : EReal)
  turn : W main_v3_4 = fun i : S8.Idx => (BitVec.ofNat 32 (Fps.pt (pr X (i 0)) k).val : BitVec 32)
  cols : ∀ (b : Fin 8) (j : Fin 1024), j.val < k → (W main_v3_5 : IVec S8x1024 32) (ix2 b j) = BitVec.ofNat 32 (Fps.pt (pr X b) j.val).val

theorem inv_zero (m : (ℓ : Loc nD τ sig) → Buf (Elt Ideal) ℓ) (c : Dev nD) : Inv (L₀ m c main_arg0) 0 (At m 0 c) where
  pts := pre_0 _
  num := pre_2 _
  dist := pre_3 _
  turn := pre_4 _
  cols := fun _ _ h => absurd h (Nat.not_lt_zero _)

/-- The distances after a trip. -/
theorem dist_step (X : FVec Ideal S8x8192x3 .f32) (k : ℕ) (b : Fin 8) (n : Fin 8192) :
    distR X (takeA X (pickW fun i : S8.Idx => (BitVec.ofNat 32 (Fps.pt (pr X (i 0)) k).val : BitVec 32)))
      (fun i : S8x8192.Idx => ((Fps.st (pr X (i 0)) k).2 (i 1) : EReal)) (ix2 b n) = (Fps.st (pr X b) (k + 1)).2 n := by
  have hS : Small (pickW fun i : S8.Idx => (BitVec.ofNat 32 (Fps.pt (pr X (i 0)) k).val : BitVec 32)) := fun i => ⟨Fps.pt (pr X (i 0)) k, rfl⟩
  have h : ∀ e, takeA X (pickW fun i : S8.Idx => (BitVec.ofNat 32 (Fps.pt (pr X (i 0)) k).val : BitVec 32)) (ix3 b 0 e) = X (ix3 b (Fps.pt (pr X b) k) e) :=
    fun e => takeA_at X _ hS b e _ rfl
  rw [distR_at, h, h, h]
  rfl

theorem inv_succ (X : FVec Ideal S8x8192x3 .f32) (k : ℕ) (hk : k < 1024) (W : Valuation τ sig (Elt Ideal)) (h : Inv X k W) : Inv X (k + 1) (trip W) where
  pts := (trip_0 W).trans h.pts
  num := by
    rw [trip_2, h.num]
    funext i
    show BitVec.ofNat 32 k + 1#32 = BitVec.ofNat 32 (k + 1)
    rw [BitVec.ofNat_add]
  dist := by
    rw [trip_3, h.pts, h.turn, h.dist]
    funext i
    idx_vars i
    exact dist_step X k i0 i1
  turn := by
    rw [trip_4, h.pts, h.turn, h.dist]
    funext i
    idx_vars i
    rw [farR_at]
    exact congrArg (fun D : Fin 8192 → EReal => BitVec.ofNat 32 (Fps.far D).val) (funext fun n => dist_step X k i0 n)
  cols := by
    intro b j hj
    rw [trip_5, h.num, h.turn]
    have := putR_at (W main_v3_5) (fun i : S8.Idx => (BitVec.ofNat 32 (Fps.pt (pr X (i 0)) k).val : BitVec 32)) ⟨k, hk⟩ b j
    refine this.trans ?_
    by_cases hjk : j = ⟨k, hk⟩
    · rw [if_pos hjk, hjk]; rfl
    · rw [if_neg hjk]
      exact h.cols b j (lt_of_le_of_ne (by omega) fun he => hjk (Fin.ext he))

theorem inv_at (m : (ℓ : Loc nD τ sig) → Buf (Elt Ideal) ℓ) (c : Dev nD) : ∀ k ≤ 1024, Inv (L₀ m c main_arg0) k (At m k c)
  | 0, _ => inv_zero m c
  | k + 1, h => At_succ m c k ▸ inv_succ _ k (by omega) _ (inv_at m c k (by omega))

/-! ## The results -/

/-- The sampled points' coordinates. -/
def resX (X : FVec Ideal S8x8192x3 .f32) : FVec Ideal S8x1024x3 .f32 := fun i => X (ix3 (i 0) (Fps.pt (pr X (i 0)) (i 1).val) (i 2))
/-- The convolution at the sampled points. -/
def resY (X : FVec Ideal S8x8192x3 .f32) (E : FVec Ideal S8x128x8192 .f32) (A : FVec Ideal S256x128 .f32) (B : FVec Ideal S256 .f32) :
    FVec Ideal S8x256x1024 .f32 :=
  fun i => (∑ k : Fin 128, A (ix2 (i 1) k) * E (ix3 (i 0) k (Fps.pt (pr X (i 0)) (i 2).val)) : EReal) + B (ix1 (i 1))

theorem idxW_at (N : IVec S8x1024 32) (b : Fin 8) (j : Fin 1024) (z : Fin 1) : idxW N (ix3 b j z) = N (ix2 b j) := by
  pointwise

theorem small_idx {X : FVec Ideal S8x8192x3 .f32} {N : IVec S8x1024 32}
    (h : ∀ (b : Fin 8) (j : Fin 1024), N (ix2 b j) = BitVec.ofNat 32 (Fps.pt (pr X b) j.val).val) : Small (idxW N) := fun i => by
  idx_vars i
  exact ⟨_, (idxW_at N i0 i1 i2).trans (h i0 i1)⟩

/-- The first result, from the numbers that the loop ends with. -/
theorem post_5 (W : Valuation τ sig (Elt Ideal)) (X : FVec Ideal S8x8192x3 .f32) (hX : W main_arg0 = X)
    (h : ∀ (b : Fin 8) (j : Fin 1024), (W main_v3_5 : IVec S8x1024 32) (ix2 b j) = BitVec.ofNat 32 (Fps.pt (pr X b) j.val).val) :
    afterL postI (after opsCond W) main_v5 = resX X := by
  unfold postI
  rw [afterL_cons, afterL_cons, afterL_cons, afterL_cons, afterL_cons, afterL_nil,
    after_of_writes_sub _ _ opsMm_writes (by decide), after_of_writes_sub _ _ opsTake_writes (by decide), after_of_writes_sub _ _ opsRows_writes (by decide),
    xyz_5, ix_4, after_of_writes_sub (r := main_arg0) _ _ opsIx_writes (by decide), after_of_writes_sub (r := main_arg0) _ _ opsCond_writes (by decide),
    after_of_writes_sub (r := main_v3_5) _ _ opsCond_writes (by decide), hX]
  funext i
  idx_vars i
  exact takeB_at _ _ (small_idx h) i0 i1 i2 _ ((idxW_at _ i0 i1 0).trans (h i0 i1))

/-- The features, point by point. -/
theorem transpose_at (E : FVec Ideal S8x128x8192 .f32) (b : Fin 8) (n : Fin 8192) (x : Fin 128) :
    transpose S8x8192x128 [0, 2, 1] E transposes_S8x128x8192_S8x8192x128_0_2_1 (ix3 b n x) = E (ix3 b x n) := by
  pointwise

/-- The convolution of the rows taken, at an index. -/
theorem convR_at (T : FVec Ideal S8x1024x128 .f32) (A : FVec Ideal S256x128 .f32) (B : FVec Ideal S256 .f32) (b : Fin 8) (o : Fin 256) (j : Fin 1024) :
    convR T A B (ix3 b o j) = (∑ k : Fin 128, A (ix2 o k) * T (ix3 b j k) : EReal) + B (ix1 o) := by
  unfold convR
  pointwise
  exact congrArg (· + B (ix1 o)) (Finset.sum_congr rfl fun x _ => mul_comm _ _)

/-- The second result, likewise. -/
theorem post_14 (W : Valuation τ sig (Elt Ideal)) (X : FVec Ideal S8x8192x3 .f32) (E : FVec Ideal S8x128x8192 .f32) (A : FVec Ideal S256x128 .f32)
    (B : FVec Ideal S256 .f32) (hE : W main_arg1 = E) (hA : W main_arg2 = A) (hB : W main_arg3 = B)
    (h : ∀ (b : Fin 8) (j : Fin 1024), (W main_v3_5 : IVec S8x1024 32) (ix2 b j) = BitVec.ofNat 32 (Fps.pt (pr X b) j.val).val) :
    afterL postI (after opsCond W) main_v14 = resY X E A B := by
  unfold postI
  have keep : ∀ r : Ref sig .tc, r ∉ opsCondW → r ∉ opsIxW → r ∉ opsXyzW →
      after opsXyz (after opsIx (after opsCond W)) r = W r := fun r h2 h3 h4 => by
    rw [after_of_writes_sub _ _ opsXyz_writes h4, after_of_writes_sub _ _ opsIx_writes h3, after_of_writes_sub _ _ opsCond_writes h2]
  rw [afterL_cons, afterL_cons, afterL_cons, afterL_cons, afterL_cons, afterL_nil, mm_14, take_8, rows_6, rows_7,
    after_of_writes_sub (r := main_arg2) _ _ opsTake_writes (by decide), after_of_writes_sub (r := main_arg2) _ _ opsRows_writes (by decide),
    after_of_writes_sub (r := main_arg3) _ _ opsTake_writes (by decide), after_of_writes_sub (r := main_arg3) _ _ opsRows_writes (by decide),
    keep main_arg1 (by decide) (by decide) (by decide), keep main_arg2 (by decide) (by decide) (by decide),
    keep main_arg3 (by decide) (by decide) (by decide), keep main_v3_5 (by decide) (by decide) (by decide), hE, hA, hB]
  funext i
  idx_vars i
  rw [convR_at]
  refine congrArg (· + _) (Finset.sum_congr rfl fun x _ => congrArg (_ * ·) ?_)
  rw [takeC_at _ _ (small_idx h) i0 i2 x _ ((idxW_at _ i0 i2 0).trans (h i0 i2))]
  exact transpose_at E i0 _ x

/-- An argument when the loop ends. -/
theorem arg_end (m : (ℓ : Loc nD τ sig) → Buf (Elt Ideal) ℓ) (c : Dev nD) (r : Ref sig .tc) (h0 : r ∉ opsPreW) (h1 : r ∉ bodyW) (k : ℕ) :
    At m k c r = L₀ m c r := (At_keeps m c r h1 k).trans (after_of_writes_sub _ _ opsPre_writes h0)

theorem fin_5 (m : (ℓ : Loc nD τ sig) → Buf (Elt Ideal) ℓ) (c : Dev nD) : Fin₁ m c main_v5 = resX (L₀ m c main_arg0) :=
  post_5 (At m 1024 c) _ (arg_end m c main_arg0 (by decide) (by decide) 1024) fun b j => (inv_at m c 1024 le_rfl).cols b j j.isLt

theorem fin_14 (m : (ℓ : Loc nD τ sig) → Buf (Elt Ideal) ℓ) (c : Dev nD) :
    Fin₁ m c main_v14 = resY (L₀ m c main_arg0) (L₀ m c main_arg1) (L₀ m c main_arg2) (L₀ m c main_arg3) :=
  post_14 (At m 1024 c) _ _ _ _ (arg_end m c main_arg1 (by decide) (by decide) 1024) (arg_end m c main_arg2 (by decide) (by decide) 1024)
    (arg_end m c main_arg3 (by decide) (by decide) 1024) fun b j => (inv_at m c 1024 le_rfl).cols b j j.isLt

end Cert.Proof.Ref

end
-- ==== Proof.FullValue.lean ====
/-
The whole program's values, step by step: the points as the sampling kernel reads them, what it leaves, the list and the table
  that the gather reads, and the arguments, which nothing writes.
-/
module

public import proofs.«01_k».proof.Proof.FullRun
public import proofs.«01_k».proof.Proof.RefValue
public import Idealize.ShloMosaic.Lib.Pipeline.RegionArraysS

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (after_of_writes_sub)

variable (m : (ℓ : Loc nD τ sig) → Buf (Elt Ideal) ℓ)

/-! ## The points' coordinates, laid out in rows of 128 -/

/-- A coordinate of all points, laid out in rows of 128. -/
def lay (x : FVec Ideal S8x8192x1 .f32) : FVec Ideal S8x64x128 .f32 :=
  shapeCast S8x64x128 (shapeCast S8x8192 x shapeCasts_S8x8192x1_S8x8192) shapeCasts_S8x8192_S8x64x128
theorem lay_at (x : FVec Ideal S8x8192x1 .f32) (b : Fin 8) (n : Fin 8192) : lay x (cell b n) = x (ix3 b n 0) := by
  unfold lay
  pointwise
  exact congrArg (fun q => x (ix3 b q 0)) (Fin.ext (by show n.val / 128 * 128 + n.val % 128 = n.val; omega))

theorem cloud_0 (m : (ℓ : Loc nD τ sig) → Buf (Elt Ideal) ℓ) (d : Dev nD) (b : Fin 8) (n : Fin 8192) :
    (V₁ m d (Proc.devRef .tc main_v2) : S8x64x128.Idx → EReal) (cell b n) = (m (d, Proc.devRef .tc main_arg0) : S8x8192x3.Idx → EReal) (ix3 b n 0) := by
  have h : V₁ m d (Proc.devRef .tc main_v2) = lay ((extractStridedSlice S8x8192x1 ![0, 0, 0] (m (d, Proc.devRef .tc main_arg0) : FVec Ideal S8x8192x3 .f32) slices_S8x8192x3_S8x8192x1_0_0_0)) := by
    unfold V₁; after_results; rfl
  rw [h, lay_at]
  pointwise
theorem cloud_1 (m : (ℓ : Loc nD τ sig) → Buf (Elt Ideal) ℓ) (d : Dev nD) (b : Fin 8) (n : Fin 8192) :
    (V₁ m d (Proc.devRef .tc main_v5) : S8x64x128.Idx → EReal) (cell b n) = (m (d, Proc.devRef .tc main_arg0) : S8x8192x3.Idx → EReal) (ix3 b n 1) := by
  have h : V₁ m d (Proc.devRef .tc main_v5) = lay ((extractStridedSlice S8x8192x1 ![0, 0, 1] (m (d, Proc.devRef .tc main_arg0) : FVec Ideal S8x8192x3 .f32) slices_S8x8192x3_S8x8192x1_0_0_1)) := by
    unfold V₁; after_results; rfl
  rw [h, lay_at]
  pointwise
theorem cloud_2 (m : (ℓ : Loc nD τ sig) → Buf (Elt Ideal) ℓ) (d : Dev nD) (b : Fin 8) (n : Fin 8192) :
    (V₁ m d (Proc.devRef .tc main_v8) : S8x64x128.Idx → EReal) (cell b n) = (m (d, Proc.devRef .tc main_arg0) : S8x8192x3.Idx → EReal) (ix3 b n 2) := by
  have h : V₁ m d (Proc.devRef .tc main_v8) = lay ((extractStridedSlice S8x8192x1 ![0, 0, 2] (m (d, Proc.devRef .tc main_arg0) : FVec Ideal S8x8192x3 .f32) slices_S8x8192x3_S8x8192x1_0_0_2)) := by
    unfold V₁; after_results; rfl
  rw [h, lay_at]
  pointwise

/-- The points of the kernel's batch `b` are the argument's. -/
theorem pnt_eq (d : Dev nD) (b : Fin 8) :
    pnt (V₁ m d (Proc.devRef .tc main_v2)) (V₁ m d (Proc.devRef .tc main_v5)) (V₁ m d (Proc.devRef .tc main_v8)) b
      = Ref.pr (m (d, Proc.devRef .tc main_arg0)) b := by
  funext n e
  match e with
  | 0 => exact cloud_0 m d b n
  | 1 => exact cloud_1 m d b n
  | 2 => exact cloud_2 m d b n

/-! ## After the sampling -/

/-- The number of the point sampled at step `t` of batch `b`. -/
abbrev num (d : Dev nD) (b : Fin 8) (t : ℕ) : Fin 8192 := Fps.pt (Ref.pr (m (d, Proc.devRef .tc main_arg0)) b) t

theorem V₂_9_0 (d : Dev nD) (b q : Fin 8) (l : Fin 128) :
    (V₂ m d (Proc.devRef .tc main_v9_0) : IVec S8x8x128 32) (ix3 b q l) = BitVec.ofNat 32 (8192 * b.val + (num m d b (128 * q.val + l.val)).val) := by
  have h : V₂ m d (Proc.devRef .tc main_v9_0) = vI (vals (V₁ m)) d :=
    (Pipeline.afterRegion_arr (dat0 (vals (V₁ m)) 0 d) (V₁ m d) launch0.win.arr_inj 3).trans (final0_3 (vals (V₁ m)) 0 d)
  rw [h]
  exact congrArg (fun p : Fin 8192 → Fin 3 → EReal => BitVec.ofNat 32 (8192 * b.val + (Fps.pt p (128 * q.val + l.val)).val)) (pnt_eq m d b)
theorem V₂_9_1 (d : Dev nD) (b q : Fin 8) (l : Fin 128) :
    (V₂ m d (Proc.devRef .tc main_v9_1) : FVec Ideal S8x8x128 .f32) (ix3 b q l) = (m (d, Proc.devRef .tc main_arg0) : S8x8192x3.Idx → EReal) (ix3 b (num m d b (128 * q.val + l.val)) 0) := by
  have h : V₂ m d (Proc.devRef .tc main_v9_1) = vC (vals (V₁ m)) d (vals (V₁ m) d main_v2) :=
    (Pipeline.afterRegion_arr (dat0 (vals (V₁ m)) 0 d) (V₁ m d) launch0.win.arr_inj 4).trans (final0_4 (vals (V₁ m)) 0 d)
  rw [h]
  refine Eq.trans ?_ (cloud_0 m d b _)
  exact congrArg (fun p : Fin 8192 → Fin 3 → EReal => (V₁ m d (Proc.devRef .tc main_v2) : S8x64x128.Idx → EReal) (cell b (Fps.pt p (128 * q.val + l.val)))) (pnt_eq m d b)
theorem V₂_9_2 (d : Dev nD) (b q : Fin 8) (l : Fin 128) :
    (V₂ m d (Proc.devRef .tc main_v9_2) : FVec Ideal S8x8x128 .f32) (ix3 b q l) = (m (d, Proc.devRef .tc main_arg0) : S8x8192x3.Idx → EReal) (ix3 b (num m d b (128 * q.val + l.val)) 1) := by
  have h : V₂ m d (Proc.devRef .tc main_v9_2) = vC (vals (V₁ m)) d (vals (V₁ m) d main_v5) :=
    (Pipeline.afterRegion_arr (dat0 (vals (V₁ m)) 0 d) (V₁ m d) launch0.win.arr_inj 5).trans (final0_5 (vals (V₁ m)) 0 d)
  rw [h]
  refine Eq.trans ?_ (cloud_1 m d b _)
  exact congrArg (fun p : Fin 8192 → Fin 3 → EReal => (V₁ m d (Proc.devRef .tc main_v5) : S8x64x128.Idx → EReal) (cell b (Fps.pt p (128 * q.val + l.val)))) (pnt_eq m d b)
theorem V₂_9_3 (d : Dev nD) (b q : Fin 8) (l : Fin 128) :
    (V₂ m d (Proc.devRef .tc main_v9_3) : FVec Ideal S8x8x128 .f32) (ix3 b q l) = (m (d, Proc.devRef .tc main_arg0) : S8x8192x3.Idx → EReal) (ix3 b (num m d b (128 * q.val + l.val)) 2) := by
  have h : V₂ m d (Proc.devRef .tc main_v9_3) = vC (vals (V₁ m)) d (vals (V₁ m) d main_v8) :=
    (Pipeline.afterRegion_arr (dat0 (vals (V₁ m)) 0 d) (V₁ m d) launch0.win.arr_inj 6).trans (final0_6 (vals (V₁ m)) 0 d)
  rw [h]
  refine Eq.trans ?_ (cloud_2 m d b _)
  exact congrArg (fun p : Fin 8192 → Fin 3 → EReal => (V₁ m d (Proc.devRef .tc main_v8) : S8x64x128.Idx → EReal) (cell b (Fps.pt p (128 * q.val + l.val)))) (pnt_eq m d b)

/-! ## What is kept -/

/-- The buffers that the program's operations and kernels write, by step. -/
abbrev W₁ : List (Ref sig .tc) := [main_v0, main_v1, main_v2, main_v3, main_v4, main_v5, main_v6, main_v7, main_v8]
abbrev W₃ : List (Ref sig .tc) := [main_v10, main_v11, main_v12, main_v13, main_v14, main_v15, main_v16, main_v17, main_v18, main_v19]
abbrev W₅ : List (Ref sig .tc) := [main_v21, main_v22]

theorem keep₂ (d : Dev nD) (r : Ref sig .tc) (h1 : r ∉ W₁) (h2 : ∀ w, r ≠ Pipeline.arrRef spec0 w) : V₂ m d (Proc.devRef .tc r) = m (d, Proc.devRef .tc r) :=
  (Pipeline.afterRegion_of_not_arr (dat0 (vals (V₁ m)) 0 d) (V₁ m d) h2).trans (after_of_writes_sub ops₀ _ ops₀_writes h1)
theorem keep₄ (d : Dev nD) (r : Ref sig .tc) (h1 : r ∉ W₁) (h2 : ∀ w, r ≠ Pipeline.arrRef spec0 w) (h3 : r ∉ W₃) (h4 : r ≠ main_v20) :
    V₄ m d (Proc.devRef .tc r) = m (d, Proc.devRef .tc r) :=
  (V₄_ne m d h4).trans ((after_of_writes_sub ops₁ _ ops₁_writes h3).trans (keep₂ m d r h1 h2))
theorem keep₅ (d : Dev nD) (r : Ref sig .tc) (h1 : r ∉ W₁) (h2 : ∀ w, r ≠ Pipeline.arrRef spec0 w) (h3 : r ∉ W₃) (h4 : r ≠ main_v20) (h5 : r ∉ W₅) :
    V₅ m d (Proc.devRef .tc r) = m (d, Proc.devRef .tc r) :=
  (after_of_writes_sub ops₂ _ ops₂_writes h5).trans (keep₄ m d r h1 h2 h3 h4)

/-- The arguments at the end. -/
theorem keep₆ (d : Dev nD) (r : Ref sig .tc) (h1 : r ∉ W₁) (h2 : ∀ w, r ≠ Pipeline.arrRef spec0 w) (h3 : r ∉ W₃) (h4 : r ≠ main_v20) (h5 : r ∉ W₅)
    (h6 : ∀ w, Pipeline.arrRef spec2 w = r → (cfg2.win w).isOut = false) : V₆ m d (Proc.devRef .tc r) = m (d, Proc.devRef .tc r) :=
  (Pipeline.afterRegion_keeps (dat1 (vals (V₅ m)) 1 d) (V₅ m d) launch2.win.arr_inj (fun _ => rfl) r h6).trans (keep₅ m d r h1 h2 h3 h4 h5)

theorem end_arg0 (d : Dev nD) : V₆ m d (Proc.devRef .tc main_arg0) = m (d, Proc.devRef .tc main_arg0) := keep₆ m d main_arg0 (by decide) (by decide) (by decide) (by decide) (by decide) (by decide)
theorem end_arg1 (d : Dev nD) : V₆ m d (Proc.devRef .tc main_arg1) = m (d, Proc.devRef .tc main_arg1) := keep₆ m d main_arg1 (by decide) (by decide) (by decide) (by decide) (by decide) (by decide)
theorem end_arg2 (d : Dev nD) : V₆ m d (Proc.devRef .tc main_arg2) = m (d, Proc.devRef .tc main_arg2) := keep₆ m d main_arg2 (by decide) (by decide) (by decide) (by decide) (by decide) (by decide)
theorem end_arg3 (d : Dev nD) : V₆ m d (Proc.devRef .tc main_arg3) = m (d, Proc.devRef .tc main_arg3) := keep₆ m d main_arg3 (by decide) (by decide) (by decide) (by decide) (by decide) (by decide)

/-! ## The list and the table -/

/-- The list's words, at the row and the column. -/
theorem list_at (d : Dev nD) (r : Fin 64) (l : Fin 128) : (Iv m d : IVec S64x128 32) (ix2 r l)
    = BitVec.ofNat 32 (8192 * (r.val / 8) + (num m d ⟨r.val / 8, by omega⟩ (128 * (r.val % 8) + l.val)).val) := by
  have h : V₃ m d (Proc.devRef .tc main_v19) = shapeCast S64x128 (V₂ m d (Proc.devRef .tc main_v9_0) : IVec S8x8x128 32) shapeCasts_S8x8x128_S64x128 := by
    unfold V₃; after_results; rfl
  have e : (V₃ m d (Proc.devRef .tc main_v19) : IVec S64x128 32) (ix2 r l) = (V₂ m d (Proc.devRef .tc main_v9_0) : IVec S8x8x128 32) (ix3 ⟨r.val / 8, by omega⟩ ⟨r.val % 8, by omega⟩ l) := by
    rw [h]
    generalize (V₂ m d (Proc.devRef .tc main_v9_0) : IVec S8x8x128 32) = x
    pointwise
  exact e.trans (V₂_9_0 m d _ _ _)

/-- Every word of the list names a row of the table. -/
theorem list_ok (d : Dev nD) : ListOK (Iv m d) := fun j => by
  idx_vars j
  have := (num m d ⟨j0.val / 8, by omega⟩ (128 * (j0.val % 8) + j1.val)).isLt
  have h := list_at m d j0 j1
  refine lt_of_eq_of_lt (congrArg BitVec.toNat h) ?_
  rw [BitVec.toNat_ofNat]
  omega

/-- The table's rows are the features, point by point. -/
theorem table_at (d : Dev nD) (b : Fin 8) (n : Fin 8192) (k : Fin 128) :
    (Xv m d : FVec Ideal S65536x128 .f32) (ix2 ⟨8192 * b.val + n.val, by omega⟩ k) = (m (d, Proc.devRef .tc main_arg1) : S8x128x8192.Idx → EReal) (ix3 b k n) := by
  have h : V₃ m d (Proc.devRef .tc main_v18) = shapeCast S65536x128 (transpose S8x8192x128 [0, 2, 1] (V₂ m d (Proc.devRef .tc main_arg1) : FVec Ideal S8x128x8192 .f32)
      transposes_S8x128x8192_S8x8192x128_0_2_1) shapeCasts_S8x8192x128_S65536x128 := by
    unfold V₃; after_results; rfl
  show (V₃ m d (Proc.devRef .tc main_v18) : FVec Ideal S65536x128 .f32) _ = _
  rw [h, keep₂ m d main_arg1 (by decide) (by decide)]
  pointwise

end Cert.Proof.Full

end
-- ==== Proof.FullOut.lean ====
/-
The whole program's two results at the extended reals: the sampled points' coordinates, and the convolution at the sampled points —
  the reference's.
-/
module

public import proofs.«01_k».proof.Proof.FullValue

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

open Idealize.ShloMosaic.StableHlo (after_of_writes_sub)

variable (m : (ℓ : Loc nD τ sig) → Buf (Elt Ideal) ℓ)

/-! ## The sampled points' coordinates -/

/-- A coordinate of the sampled points as a column of the result. -/
abbrev colm (x : FVec Ideal S8x8x128 .f32) : FVec Ideal S8x1024x1 .f32 :=
  broadcastInDim S8x1024x1 ![0, 1] bcast_S8x1024_S8x1024x1_0_1 (shapeCast S8x1024 x shapeCasts_S8x8x128_S8x1024)
theorem colm_at (x : FVec Ideal S8x8x128 .f32) (b : Fin 8) (j : Fin 1024) (z : Fin 1) :
    colm x (ix3 b j z) = x (ix3 b ⟨j.val / 128, by omega⟩ ⟨j.val % 128, by omega⟩) := by
  pointwise

theorem V₃_16 (d : Dev nD) : V₃ m d (Proc.devRef .tc main_v16) = concatenate S8x1024x3 2
    [⟨S8x1024x1, colm (V₂ m d (Proc.devRef .tc main_v9_1))⟩, ⟨S8x1024x1, colm (V₂ m d (Proc.devRef .tc main_v9_2))⟩, ⟨S8x1024x1, colm (V₂ m d (Proc.devRef .tc main_v9_3))⟩]
      concatenates_S8x1024x1_S8x1024x1_S8x1024x1_S8x1024x3_d2 := by
  unfold V₃; after_results; rfl

/-- Three columns put together, at an index. -/
theorem cat_at (x y z : FVec Ideal S8x1024x1 .f32) (b : Fin 8) (j : Fin 1024) (e : Fin 3) :
    concatenate S8x1024x3 2 [⟨S8x1024x1, x⟩, ⟨S8x1024x1, y⟩, ⟨S8x1024x1, z⟩] concatenates_S8x1024x1_S8x1024x1_S8x1024x1_S8x1024x3_d2 (ix3 b j e)
      = (![x (ix3 b j 0), y (ix3 b j 0), z (ix3 b j 0)] : Fin 3 → EReal) e := by
  match e with
  | 0 => pointwise
  | 1 => pointwise
  | 2 => pointwise

theorem end_16 (d : Dev nD) : V₆ m d (Proc.devRef .tc main_v16) = Ref.resX (m (d, Proc.devRef .tc main_arg0)) := by
  have h : V₆ m d (Proc.devRef .tc main_v16) = V₃ m d (Proc.devRef .tc main_v16) :=
    (Pipeline.afterRegion_of_not_arr (dat1 (vals (V₅ m)) 1 d) (V₅ m d) (by decide)).trans
      ((after_of_writes_sub ops₂ _ ops₂_writes (by decide)).trans (V₄_ne m d (by decide)))
  rw [h, V₃_16]
  funext i
  idx_vars i
  rw [cat_at, colm_at, colm_at, colm_at, V₂_9_1, V₂_9_2, V₂_9_3]
  have hj : 128 * (i1.val / 128) + i1.val % 128 = i1.val := by omega
  simp only [hj]
  match i2 with
  | 0 => rfl
  | 1 => rfl
  | 2 => rfl

/-! ## The convolution -/

set_option maxRecDepth 16384 in
/-- The convolution at an index: the channels' products summed, and the bias. -/
theorem mmOut_at (W : Vec Ideal S256x128 .f32) (X : Vec Ideal S8x1024x128 .f32) (B : Vec Ideal S256x1 .f32) (b : Fin 8) (o : Fin 256) (p : Fin 1024) :
    mmOut W X B (ix3 b o p) = (∑ k : Fin 128, W (ix2 o k) * X (ix3 b p k)) + B (ix2 o 0) := by
  unfold mmOut
  pointwise [k2_pay2, slab]
  simp only [← ix3_eq_valueIdx, ix3_1, ix3_2]

/-- A gathered row at an index: of the row of the table that the list's word names. -/
theorem gat_at {α : Type} (T : S65536x128.Idx → α) (I : S64x128.Idx → BitVec 32) (r : Fin 8192) (k : Fin 128) (n : Fin 65536)
    (hn : I (ix2 ⟨r.val / 128, by omega⟩ ⟨r.val % 128, by omega⟩) = BitVec.ofNat 32 n.val) : gat T I (ix2 r k) = T (ix2 n k) := by
  unfold gat
  simp only [← ix2_eq_valueIdx, ix2_0, ix2_1]
  refine congrArg (fun q => T (ix2 q k)) (Fin.ext ?_)
  show (I (ix2 ⟨r.val / 128, _⟩ ⟨r.val % 128, _⟩)).toNat % 65536 = n.val
  rw [hn, BitVec.toNat_ofNat]
  omega

/-- The gathered rows, by batch and sample. -/
theorem rows_at (d : Dev nD) (b : Fin 8) (j : Fin 1024) (k : Fin 128) :
    (V₅ m d (Proc.devRef .tc main_v21) : FVec Ideal S8x1024x128 .f32) (ix3 b j k)
      = (m (d, Proc.devRef .tc main_arg1) : S8x128x8192.Idx → EReal) (ix3 b k (num m d b j.val)) := by
  have h : V₅ m d (Proc.devRef .tc main_v21) = shapeCast S8x1024x128 (V₄ m d (Proc.devRef .tc main_v20) : FVec Ideal S8192x128 .f32) shapeCasts_S8192x128_S8x1024x128 := by
    unfold V₅; after_results; rfl
  have e : ∀ x : FVec Ideal S8192x128 .f32, shapeCast S8x1024x128 x shapeCasts_S8192x128_S8x1024x128 (ix3 b j k) = x (ix2 ⟨1024 * b.val + j.val, by omega⟩ k) := fun x => by
    pointwise
    exact congrArg (fun q => x (ix2 q k)) (Fin.ext (by show b.val * 1024 + j.val = 1024 * b.val + j.val; omega))
  rw [h, e, V₄_o]
  have hl := list_at m d ⟨(1024 * b.val + j.val) / 128, by omega⟩ ⟨(1024 * b.val + j.val) % 128, by omega⟩
  have hb : (1024 * b.val + j.val) / 128 / 8 = b.val := by omega
  have hj : 128 * ((1024 * b.val + j.val) / 128 % 8) + (1024 * b.val + j.val) % 128 = j.val := by omega
  simp only [hb, hj] at hl
  refine (gat_at (Xv m d) (Iv m d) ⟨1024 * b.val + j.val, by omega⟩ k ⟨8192 * b.val + (num m d b j.val).val, by have := (num m d b j.val).isLt; omega⟩ hl).trans ?_
  exact table_at m d b (num m d b j.val) k

theorem end_23 (d : Dev nD) : V₆ m d (Proc.devRef .tc main_v23) = Ref.resY (m (d, Proc.devRef .tc main_arg0)) (m (d, Proc.devRef .tc main_arg1))
    (m (d, Proc.devRef .tc main_arg2)) (m (d, Proc.devRef .tc main_arg3)) := by
  have h : V₆ m d (Proc.devRef .tc main_v23) = convOut (vals (V₅ m)) d :=
    (Pipeline.afterRegion_arr (dat1 (vals (V₅ m)) 1 d) (V₅ m d) launch2.win.arr_inj 3).trans (final2_3 (vals (V₅ m)) 1 d)
  have hB : V₅ m d (Proc.devRef .tc main_v22) = shapeCast S256x1 (V₄ m d (Proc.devRef .tc main_arg3) : FVec Ideal S256 .f32) shapeCasts_S256_S256x1 := by
    unfold V₅; after_results; rfl
  have eB : ∀ (x : FVec Ideal S256 .f32) (o : Fin 256), shapeCast S256x1 x shapeCasts_S256_S256x1 (ix2 o 0) = x (ix1 o) := fun x o => by
    pointwise
  rw [h]
  funext i
  idx_vars i
  refine (mmOut_at _ _ _ i0 i1 i2).trans ?_
  refine congrArg₂ (· + ·) (Finset.sum_congr rfl fun k _ => ?_) ?_
  · exact congrArg₂ (fun u v : EReal => u * v)
      (congrFun (keep₅ m d main_arg2 (by decide) (by decide) (by decide) (by decide) (by decide)) (ix2 i1 k)) (rows_at m d i0 i2 k)
  · show (V₅ m d (Proc.devRef .tc main_v22) : FVec Ideal S256x1 .f32) (ix2 i1 0) = _
    rw [hB, eB, keep₄ m d main_arg3 (by decide) (by decide) (by decide) (by decide)]; rfl

end Cert.Proof.Full

end
-- ==== Proof.FullClaims.lean ====
/-
The claims of the whole program and of its reference at the extended reals: both run to a quiescent end with their arguments kept, and
  from the same arguments both end with the same two results.
-/
module

public import proofs.«01_k».proof.Proof.FullOut
public import proofs.«01_k».proof.Defs

@[expose] public section

noncomputable section

namespace Cert.Proof.Full

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The whole program's run leaves its arguments as they were. -/
theorem args_kept {m : (ℓ : Loc nD τ sig) → Buf (Elt Ideal) ℓ} {r : PUnit × MemSt nD τ sig (Elt Ideal)} (h : QC m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h.1 c main_arg0 (by decide)).trans (end_arg0 m c), (h.1 c main_arg1 (by decide)).trans (end_arg1 m c),
    (h.1 c main_arg2 (by decide)).trans (end_arg2 m c), (h.1 c main_arg3 (by decide)).trans (end_arg3 m c)⟩

/-- The whole program at the extended reals runs to a quiescent end, its arguments kept. -/
theorem frame_kernel : Cert.quiescent_KernelIdeal := fun m ρ _ =>
  (θ_run Cert.KernelIdeal.defs _ _).mono (fun _ h => ⟨args_kept h, h.2⟩) (run_main m ρ (list_ok m))

/-- The reference runs to a quiescent end, its arguments kept: it has no semaphore. -/
theorem frame_reference : Cert.quiescent_ReferenceIdeal := fun m ρ _ =>
  (θ_run Cert.ReferenceIdeal.defs _ _).mono (fun r h => ⟨Ref.args_kept m h, sem_eq_zero_of_no_sems (by decide) r.2⟩) (Ref.run_main m ρ)

/-- Both programs, from the same arguments, end with the same two results at the extended reals. -/
theorem algebraic : Cert.algebraic_KernelIdeal_ReferenceIdeal := fun m ρ m' ρ' _ hagree =>
  ⟨fun c => Ref.resX (m (c, Proc.devRef .tc main_arg0)),
    fun c => Ref.resY (m (c, Proc.devRef .tc main_arg0)) (m (c, Proc.devRef .tc main_arg1)) (m (c, Proc.devRef .tc main_arg2)) (m (c, Proc.devRef .tc main_arg3)),
    (θ_run Cert.KernelIdeal.defs _ _).mono (fun _ h c =>
      ⟨(h.1 c main_v16 (by decide)).trans (end_16 m c), (h.1 c main_v23 (by decide)).trans (end_23 m c), args_kept h c⟩) (run_main m ρ (list_ok m)),
    (θ_run Cert.ReferenceIdeal.defs _ _).mono (fun _ h c => by
      obtain ⟨e0, e1, e2, e3⟩ := hagree c
      exact ⟨(h c Cert.ReferenceIdeal.main_v5 rfl).trans ((Ref.fin_5 m' c).trans (congrArg Ref.resX e0)),
        (h c Cert.ReferenceIdeal.main_v14 rfl).trans ((Ref.fin_14 m' c).trans (by
          show Ref.resY (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3)) = _
          rw [e0, e1, e2, e3])), Ref.args_kept m' h c⟩) (Ref.run_main m' ρ')⟩

end Cert.Proof.Full

end
-- ==== Proof.lean ====
/- The claims of this directory, put together. -/
module

public import proofs.«01_k».proof.Defs
public import proofs.«01_k».proof.Proof.Gen.KernelIdeal
public import proofs.«01_k».proof.Proof.Gen.ReferenceIdeal
public import proofs.«01_k».proof.Proof.Gen.ConvRefIdeal.Run
public import proofs.«01_k».proof.Proof.ConvClaims
public import proofs.«01_k».proof.Proof.FullClaims
public import proofs.«01_k».proof.Proof.Gen.Conv
public import proofs.«01_k».proof.Proof.Gen.Pre_idx_in_range

@[expose] public section

namespace Cert.Proof

/-- Every claim of the statement. -/
theorem claim : Cert.Claim :=
  ⟨Cert.KernelIdeal.Gen.facts, Cert.ReferenceIdeal.Gen.facts, Cert.Conv.Gen.facts, Cert.ConvIdeal.Gen.facts,
    Cert.ConvRefIdeal.Gen.facts, Cert.Pre_idx_in_range.Gen.facts, Full.frame_kernel, Full.frame_reference,
    Conv.frame_bits, Conv.frame_ideal, Conv.frame_ref, fun m ρ _ => Conv.frame_ref m ρ trivial, Full.algebraic, trivial, Conv.algebraic⟩

end Cert.Proof

end
